-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_pre [hPre_attn_pre : Cert.Pre_attn_pre.Facts] (m : (ℓ : Loc Cert.AttnIdeal.nD Cert.AttnIdeal.τ Cert.AttnIdeal.sig) → Buf (Elt Ideal) ℓ) : Prop :=
  ∀ c : Dev Cert.AttnIdeal.nD,
    (Cert.Pre_attn_pre.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_pre [hPre_attn_pre : Cert.Pre_attn_pre.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_pre.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_MemoryRefIdeal (m : (ℓ : Loc Cert.MemoryRefIdeal.nD Cert.MemoryRefIdeal.τ Cert.MemoryRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleRefIdeal (m : (ℓ : Loc Cert.SampleRefIdeal.nD Cert.SampleRefIdeal.τ Cert.SampleRefIdeal.sig) → Buf (Elt Ideal) ℓ) : Prop :=
  True

def Pre_MemKV (m : (ℓ : Loc Cert.MemKV.nD Cert.MemKV.τ Cert.MemKV.sig) → Buf (Elt Bits) ℓ) : Prop :=
  True

def Pre_MemKVIdeal (m : (ℓ : Loc Cert.MemKVIdeal.nD Cert.MemKVIdeal.τ Cert.MemKVIdeal.sig) → Buf (Elt Ideal) ℓ) : Prop :=
  True

def Pre_MemKVRefIdeal (m : (ℓ : Loc Cert.MemKVRefIdeal.nD Cert.MemKVRefIdeal.τ Cert.MemKVRefIdeal.sig) → Buf (Elt Ideal) ℓ) : Prop :=
  True

def Pre_MemKeys (m : (ℓ : Loc Cert.MemKeys.nD Cert.MemKeys.τ Cert.MemKeys.sig) → Buf (Elt Bits) ℓ) : Prop :=
  True

def Pre_MemKeysIdeal (m : (ℓ : Loc Cert.MemKeysIdeal.nD Cert.MemKeysIdeal.τ Cert.MemKeysIdeal.sig) → Buf (Elt Ideal) ℓ) : Prop :=
  True

def Pre_MemKeysRefIdeal (m : (ℓ : Loc Cert.MemKeysRefIdeal.nD Cert.MemKeysRefIdeal.τ Cert.MemKeysRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_attn_pre [hAttnIdeal : Cert.AttnIdeal.Facts] [hPre_attn_pre : Cert.Pre_attn_pre.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_pre m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_attn_pre [hAttnRefIdeal : Cert.AttnRefIdeal.Facts] [hPre_attn_pre : Cert.Pre_attn_pre.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_pre m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1)
      ∧ r.2.mem ((c.tc : Thread Cert.Memory.nD Cert.Memory.τ).loc Cert.Memory.main_arg2) = m ((c.tc : Thread Cert.Memory.nD Cert.Memory.τ).loc Cert.Memory.main_arg2)
      ∧ r.2.mem ((c.tc : Thread Cert.Memory.nD Cert.Memory.τ).loc Cert.Memory.main_arg3) = m ((c.tc : Thread Cert.Memory.nD Cert.Memory.τ).loc Cert.Memory.main_arg3))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
      ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2)
      ∧ r.2.mem ((c.tc : Thread Cert.MemoryIdeal.nD Cert.MemoryIdeal.τ).loc Cert.MemoryIdeal.main_arg3) = m ((c.tc : Thread Cert.MemoryIdeal.nD Cert.MemoryIdeal.τ).loc Cert.MemoryIdeal.main_arg3))
      ∧ r.2.sem = fun _ => 0)

def quiescent_MemoryRefIdeal [hMemoryRefIdeal : Cert.MemoryRefIdeal.Facts] : Prop :=
  ∀ (m : (ℓ : Loc Cert.MemoryRefIdeal.nD Cert.MemoryRefIdeal.τ Cert.MemoryRefIdeal.sig) → Buf (Elt Ideal) ℓ) (g : Dev Cert.MemoryRefIdeal.nD → PrngReg), Pre_MemoryRefIdeal m →
    θ_run (Cert.MemoryRefIdeal.defs (F := Ideal)) (onTc (τ := Cert.MemoryRefIdeal.τ) (Cert.MemoryRefIdeal.main (F := Ideal))) ⟨m, fun _ => 0, g⟩ (fun r => (∀ c : Dev Cert.MemoryRefIdeal.nD,
      r.2.mem ((c.tc : Thread Cert.MemoryRefIdeal.nD Cert.MemoryRefIdeal.τ).loc Cert.MemoryRefIdeal.main_arg0) = m ((c.tc : Thread Cert.MemoryRefIdeal.nD Cert.MemoryRefIdeal.τ).loc Cert.MemoryRefIdeal.main_arg0)
      ∧ r.2.mem ((c.tc : Thread Cert.MemoryRefIdeal.nD Cert.MemoryRefIdeal.τ).loc Cert.MemoryRefIdeal.main_arg1) = m ((c.tc : Thread Cert.MemoryRefIdeal.nD Cert.MemoryRefIdeal.τ).loc Cert.MemoryRefIdeal.main_arg1)
      ∧ r.2.mem ((c.tc : Thread Cert.MemoryRefIdeal.nD Cert.MemoryRefIdeal.τ).loc Cert.MemoryRefIdeal.main_arg2) = m ((c.tc : Thread Cert.MemoryRefIdeal.nD Cert.MemoryRefIdeal.τ).loc Cert.MemoryRefIdeal.main_arg2)
      ∧ r.2.mem ((c.tc : Thread Cert.MemoryRefIdeal.nD Cert.MemoryRefIdeal.τ).loc Cert.MemoryRefIdeal.main_arg3) = m ((c.tc : Thread Cert.MemoryRefIdeal.nD Cert.MemoryRefIdeal.τ).loc Cert.MemoryRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2))
      ∧ r.2.sem = fun _ => 0)

def quiescent_SampleRefIdeal [hSampleRefIdeal : Cert.SampleRefIdeal.Facts] : Prop :=
  ∀ (m : (ℓ : Loc Cert.SampleRefIdeal.nD Cert.SampleRefIdeal.τ Cert.SampleRefIdeal.sig) → Buf (Elt Ideal) ℓ) (g : Dev Cert.SampleRefIdeal.nD → PrngReg), Pre_SampleRefIdeal m →
    θ_run (Cert.SampleRefIdeal.defs (F := Ideal)) (onTc (τ := Cert.SampleRefIdeal.τ) (Cert.SampleRefIdeal.main (F := Ideal))) ⟨m, fun _ => 0, g⟩ (fun r => (∀ c : Dev Cert.SampleRefIdeal.nD,
      r.2.mem ((c.tc : Thread Cert.SampleRefIdeal.nD Cert.SampleRefIdeal.τ).loc Cert.SampleRefIdeal.main_arg0) = m ((c.tc : Thread Cert.SampleRefIdeal.nD Cert.SampleRefIdeal.τ).loc Cert.SampleRefIdeal.main_arg0)
      ∧ r.2.mem ((c.tc : Thread Cert.SampleRefIdeal.nD Cert.SampleRefIdeal.τ).loc Cert.SampleRefIdeal.main_arg1) = m ((c.tc : Thread Cert.SampleRefIdeal.nD Cert.SampleRefIdeal.τ).loc Cert.SampleRefIdeal.main_arg1)
      ∧ r.2.mem ((c.tc : Thread Cert.SampleRefIdeal.nD Cert.SampleRefIdeal.τ).loc Cert.SampleRefIdeal.main_arg2) = m ((c.tc : Thread Cert.SampleRefIdeal.nD Cert.SampleRefIdeal.τ).loc Cert.SampleRefIdeal.main_arg2))
      ∧ r.2.sem = fun _ => 0)

def quiescent_MemKV [hMemKV : Cert.MemKV.Facts] : Prop :=
  ∀ (m : (ℓ : Loc Cert.MemKV.nD Cert.MemKV.τ Cert.MemKV.sig) → Buf (Elt Bits) ℓ) (g : Dev Cert.MemKV.nD → PrngReg), Pre_MemKV m →
    θ_run (Cert.MemKV.defs (F := Bits)) (onTc (τ := Cert.MemKV.τ) (Cert.MemKV.main (F := Bits))) ⟨m, fun _ => 0, g⟩ (fun r => (∀ c : Dev Cert.MemKV.nD,
      r.2.mem ((c.tc : Thread Cert.MemKV.nD Cert.MemKV.τ).loc Cert.MemKV.main_arg0) = m ((c.tc : Thread Cert.MemKV.nD Cert.MemKV.τ).loc Cert.MemKV.main_arg0)
      ∧ r.2.mem ((c.tc : Thread Cert.MemKV.nD Cert.MemKV.τ).loc Cert.MemKV.main_arg1) = m ((c.tc : Thread Cert.MemKV.nD Cert.MemKV.τ).loc Cert.MemKV.main_arg1)
      ∧ r.2.mem ((c.tc : Thread Cert.MemKV.nD Cert.MemKV.τ).loc Cert.MemKV.main_arg2) = m ((c.tc : Thread Cert.MemKV.nD Cert.MemKV.τ).loc Cert.MemKV.main_arg2)
      ∧ r.2.mem ((c.tc : Thread Cert.MemKV.nD Cert.MemKV.τ).loc Cert.MemKV.main_arg3) = m ((c.tc : Thread Cert.MemKV.nD Cert.MemKV.τ).loc Cert.MemKV.main_arg3))
      ∧ r.2.sem = fun _ => 0)

def quiescent_MemKVIdeal [hMemKVIdeal : Cert.MemKVIdeal.Facts] : Prop :=
  ∀ (m : (ℓ : Loc Cert.MemKVIdeal.nD Cert.MemKVIdeal.τ Cert.MemKVIdeal.sig) → Buf (Elt Ideal) ℓ) (g : Dev Cert.MemKVIdeal.nD → PrngReg), Pre_MemKVIdeal m →
    θ_run (Cert.MemKVIdeal.defs (F := Ideal)) (onTc (τ := Cert.MemKVIdeal.τ) (Cert.MemKVIdeal.main (F := Ideal))) ⟨m, fun _ => 0, g⟩ (fun r => (∀ c : Dev Cert.MemKVIdeal.nD,
      r.2.mem ((c.tc : Thread Cert.MemKVIdeal.nD Cert.MemKVIdeal.τ).loc Cert.MemKVIdeal.main_arg0) = m ((c.tc : Thread Cert.MemKVIdeal.nD Cert.MemKVIdeal.τ).loc Cert.MemKVIdeal.main_arg0)
      ∧ r.2.mem ((c.tc : Thread Cert.MemKVIdeal.nD Cert.MemKVIdeal.τ).loc Cert.MemKVIdeal.main_arg1) = m ((c.tc : Thread Cert.MemKVIdeal.nD Cert.MemKVIdeal.τ).loc Cert.MemKVIdeal.main_arg1)
      ∧ r.2.mem ((c.tc : Thread Cert.MemKVIdeal.nD Cert.MemKVIdeal.τ).loc Cert.MemKVIdeal.main_arg2) = m ((c.tc : Thread Cert.MemKVIdeal.nD Cert.MemKVIdeal.τ).loc Cert.MemKVIdeal.main_arg2)
      ∧ r.2.mem ((c.tc : Thread Cert.MemKVIdeal.nD Cert.MemKVIdeal.τ).loc Cert.MemKVIdeal.main_arg3) = m ((c.tc : Thread Cert.MemKVIdeal.nD Cert.MemKVIdeal.τ).loc Cert.MemKVIdeal.main_arg3))
      ∧ r.2.sem = fun _ => 0)

def quiescent_MemKVRefIdeal [hMemKVRefIdeal : Cert.MemKVRefIdeal.Facts] : Prop :=
  ∀ (m : (ℓ : Loc Cert.MemKVRefIdeal.nD Cert.MemKVRefIdeal.τ Cert.MemKVRefIdeal.sig) → Buf (Elt Ideal) ℓ) (g : Dev Cert.MemKVRefIdeal.nD → PrngReg), Pre_MemKVRefIdeal m →
    θ_run (Cert.MemKVRefIdeal.defs (F := Ideal)) (onTc (τ := Cert.MemKVRefIdeal.τ) (Cert.MemKVRefIdeal.main (F := Ideal))) ⟨m, fun _ => 0, g⟩ (fun r => (∀ c : Dev Cert.MemKVRefIdeal.nD,
      r.2.mem ((c.tc : Thread Cert.MemKVRefIdeal.nD Cert.MemKVRefIdeal.τ).loc Cert.MemKVRefIdeal.main_arg0) = m ((c.tc : Thread Cert.MemKVRefIdeal.nD Cert.MemKVRefIdeal.τ).loc Cert.MemKVRefIdeal.main_arg0)
      ∧ r.2.mem ((c.tc : Thread Cert.MemKVRefIdeal.nD Cert.MemKVRefIdeal.τ).loc Cert.MemKVRefIdeal.main_arg1) = m ((c.tc : Thread Cert.MemKVRefIdeal.nD Cert.MemKVRefIdeal.τ).loc Cert.MemKVRefIdeal.main_arg1)
      ∧ r.2.mem ((c.tc : Thread Cert.MemKVRefIdeal.nD Cert.MemKVRefIdeal.τ).loc Cert.MemKVRefIdeal.main_arg2) = m ((c.tc : Thread Cert.MemKVRefIdeal.nD Cert.MemKVRefIdeal.τ).loc Cert.MemKVRefIdeal.main_arg2)
      ∧ r.2.mem ((c.tc : Thread Cert.MemKVRefIdeal.nD Cert.MemKVRefIdeal.τ).loc Cert.MemKVRefIdeal.main_arg3) = m ((c.tc : Thread Cert.MemKVRefIdeal.nD Cert.MemKVRefIdeal.τ).loc Cert.MemKVRefIdeal.main_arg3))
      ∧ r.2.sem = fun _ => 0)

def quiescent_MemKeys [hMemKeys : Cert.MemKeys.Facts] : Prop :=
  ∀ (m : (ℓ : Loc Cert.MemKeys.nD Cert.MemKeys.τ Cert.MemKeys.sig) → Buf (Elt Bits) ℓ) (g : Dev Cert.MemKeys.nD → PrngReg), Pre_MemKeys m →
    θ_run (Cert.MemKeys.defs (F := Bits)) (onTc (τ := Cert.MemKeys.τ) (Cert.MemKeys.main (F := Bits))) ⟨m, fun _ => 0, g⟩ (fun r => (∀ c : Dev Cert.MemKeys.nD,
      r.2.mem ((c.tc : Thread Cert.MemKeys.nD Cert.MemKeys.τ).loc Cert.MemKeys.main_arg0) = m ((c.tc : Thread Cert.MemKeys.nD Cert.MemKeys.τ).loc Cert.MemKeys.main_arg0)
      ∧ r.2.mem ((c.tc : Thread Cert.MemKeys.nD Cert.MemKeys.τ).loc Cert.MemKeys.main_arg1) = m ((c.tc : Thread Cert.MemKeys.nD Cert.MemKeys.τ).loc Cert.MemKeys.main_arg1))
      ∧ r.2.sem = fun _ => 0)

def quiescent_MemKeysIdeal [hMemKeysIdeal : Cert.MemKeysIdeal.Facts] : Prop :=
  ∀ (m : (ℓ : Loc Cert.MemKeysIdeal.nD Cert.MemKeysIdeal.τ Cert.MemKeysIdeal.sig) → Buf (Elt Ideal) ℓ) (g : Dev Cert.MemKeysIdeal.nD → PrngReg), Pre_MemKeysIdeal m →
    θ_run (Cert.MemKeysIdeal.defs (F := Ideal)) (onTc (τ := Cert.MemKeysIdeal.τ) (Cert.MemKeysIdeal.main (F := Ideal))) ⟨m, fun _ => 0, g⟩ (fun r => (∀ c : Dev Cert.MemKeysIdeal.nD,
      r.2.mem ((c.tc : Thread Cert.MemKeysIdeal.nD Cert.MemKeysIdeal.τ).loc Cert.MemKeysIdeal.main_arg0) = m ((c.tc : Thread Cert.MemKeysIdeal.nD Cert.MemKeysIdeal.τ).loc Cert.MemKeysIdeal.main_arg0)
      ∧ r.2.mem ((c.tc : Thread Cert.MemKeysIdeal.nD Cert.MemKeysIdeal.τ).loc Cert.MemKeysIdeal.main_arg1) = m ((c.tc : Thread Cert.MemKeysIdeal.nD Cert.MemKeysIdeal.τ).loc Cert.MemKeysIdeal.main_arg1))
      ∧ r.2.sem = fun _ => 0)

def quiescent_MemKeysRefIdeal [hMemKeysRefIdeal : Cert.MemKeysRefIdeal.Facts] : Prop :=
  ∀ (m : (ℓ : Loc Cert.MemKeysRefIdeal.nD Cert.MemKeysRefIdeal.τ Cert.MemKeysRefIdeal.sig) → Buf (Elt Ideal) ℓ) (g : Dev Cert.MemKeysRefIdeal.nD → PrngReg), Pre_MemKeysRefIdeal m →
    θ_run (Cert.MemKeysRefIdeal.defs (F := Ideal)) (onTc (τ := Cert.MemKeysRefIdeal.τ) (Cert.MemKeysRefIdeal.main (F := Ideal))) ⟨m, fun _ => 0, g⟩ (fun r => (∀ c : Dev Cert.MemKeysRefIdeal.nD,
      r.2.mem ((c.tc : Thread Cert.MemKeysRefIdeal.nD Cert.MemKeysRefIdeal.τ).loc Cert.MemKeysRefIdeal.main_arg0) = m ((c.tc : Thread Cert.MemKeysRefIdeal.nD Cert.MemKeysRefIdeal.τ).loc Cert.MemKeysRefIdeal.main_arg0)
      ∧ r.2.mem ((c.tc : Thread Cert.MemKeysRefIdeal.nD Cert.MemKeysRefIdeal.τ).loc Cert.MemKeysRefIdeal.main_arg1) = m ((c.tc : Thread Cert.MemKeysRefIdeal.nD Cert.MemKeysRefIdeal.τ).loc Cert.MemKeysRefIdeal.main_arg1))
      ∧ r.2.sem = fun _ => 0)

def preserves_Attn_AttnIdeal : Prop :=
  True

def algebraic_AttnIdeal_AttnRefIdeal_pre_attn_pre [hAttnIdeal : Cert.AttnIdeal.Facts] [hAttnRefIdeal : Cert.AttnRefIdeal.Facts] [hPre_attn_pre : Cert.Pre_attn_pre.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_pre m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v55) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v8)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v8) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v19) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Memory_MemoryIdeal : Prop :=
  True

def algebraic_MemoryIdeal_MemoryRefIdeal [hMemoryIdeal : Cert.MemoryIdeal.Facts] [hMemoryRefIdeal : Cert.MemoryRefIdeal.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.MemoryRefIdeal.nD Cert.MemoryRefIdeal.τ Cert.MemoryRefIdeal.sig) → Buf (Elt Ideal) ℓ) (g' : Dev Cert.MemoryRefIdeal.nD → PrngReg), Pre_MemoryIdeal m →
    (∀ c : Dev Cert.MemoryIdeal.nD,
      m' ((c.tc : Thread Cert.MemoryRefIdeal.nD Cert.MemoryRefIdeal.τ).loc Cert.MemoryRefIdeal.main_arg0) = m ((c.tc : Thread Cert.MemoryIdeal.nD Cert.MemoryIdeal.τ).loc Cert.MemoryIdeal.main_arg0)
      ∧ m' ((c.tc : Thread Cert.MemoryRefIdeal.nD Cert.MemoryRefIdeal.τ).loc Cert.MemoryRefIdeal.main_arg1) = m ((c.tc : Thread Cert.MemoryIdeal.nD Cert.MemoryIdeal.τ).loc Cert.MemoryIdeal.main_arg1)
      ∧ m' ((c.tc : Thread Cert.MemoryRefIdeal.nD Cert.MemoryRefIdeal.τ).loc Cert.MemoryRefIdeal.main_arg2) = m ((c.tc : Thread Cert.MemoryIdeal.nD Cert.MemoryIdeal.τ).loc Cert.MemoryIdeal.main_arg2)
      ∧ m' ((c.tc : Thread Cert.MemoryRefIdeal.nD Cert.MemoryRefIdeal.τ).loc Cert.MemoryRefIdeal.main_arg3) = m ((c.tc : Thread Cert.MemoryIdeal.nD Cert.MemoryIdeal.τ).loc Cert.MemoryIdeal.main_arg3)) →
    ∃ (v0 : (c : Dev Cert.MemoryIdeal.nD) → Buf (Elt Ideal) ((c.tc : Thread Cert.MemoryIdeal.nD Cert.MemoryIdeal.τ).loc Cert.MemoryIdeal.main_v2)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v2) = v0 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
          ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2)
          ∧ r.2.mem ((c.tc : Thread Cert.MemoryIdeal.nD Cert.MemoryIdeal.τ).loc Cert.MemoryIdeal.main_arg3) = m ((c.tc : Thread Cert.MemoryIdeal.nD Cert.MemoryIdeal.τ).loc Cert.MemoryIdeal.main_arg3))
      ∧ θ_run (Cert.MemoryRefIdeal.defs (F := Ideal)) (onTc (τ := Cert.MemoryRefIdeal.τ) (Cert.MemoryRefIdeal.main (F := Ideal))) ⟨m', fun _ => 0, g'⟩ (fun r => ∀ c : Dev Cert.MemoryRefIdeal.nD,
          r.2.mem ((c.tc : Thread Cert.MemoryRefIdeal.nD Cert.MemoryRefIdeal.τ).loc Cert.MemoryRefIdeal.main_v36) = v0 c
          ∧ r.2.mem ((c.tc : Thread Cert.MemoryRefIdeal.nD Cert.MemoryRefIdeal.τ).loc Cert.MemoryRefIdeal.main_arg0) = m' ((c.tc : Thread Cert.MemoryRefIdeal.nD Cert.MemoryRefIdeal.τ).loc Cert.MemoryRefIdeal.main_arg0)
          ∧ r.2.mem ((c.tc : Thread Cert.MemoryRefIdeal.nD Cert.MemoryRefIdeal.τ).loc Cert.MemoryRefIdeal.main_arg1) = m' ((c.tc : Thread Cert.MemoryRefIdeal.nD Cert.MemoryRefIdeal.τ).loc Cert.MemoryRefIdeal.main_arg1)
          ∧ r.2.mem ((c.tc : Thread Cert.MemoryRefIdeal.nD Cert.MemoryRefIdeal.τ).loc Cert.MemoryRefIdeal.main_arg2) = m' ((c.tc : Thread Cert.MemoryRefIdeal.nD Cert.MemoryRefIdeal.τ).loc Cert.MemoryRefIdeal.main_arg2)
          ∧ r.2.mem ((c.tc : Thread Cert.MemoryRefIdeal.nD Cert.MemoryRefIdeal.τ).loc Cert.MemoryRefIdeal.main_arg3) = m' ((c.tc : Thread Cert.MemoryRefIdeal.nD Cert.MemoryRefIdeal.τ).loc Cert.MemoryRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v11_0)) (v1 : (c : Dev Cert.MergeIdeal.nD) → Buf (Elt Ideal) ((c.tc : Thread Cert.MergeIdeal.nD Cert.MergeIdeal.τ).loc Cert.MergeIdeal.main_v11_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v11_0) = v0 c
          ∧ r.2.mem ((c.tc : Thread Cert.MergeIdeal.nD Cert.MergeIdeal.τ).loc Cert.MergeIdeal.main_v11_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v38) = v0 c
          ∧ r.2.mem ((c.tc : Thread Cert.MergeRefIdeal.nD Cert.MergeRefIdeal.τ).loc Cert.MergeRefIdeal.main_v53) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def preserves_Sample_SampleIdeal : Prop :=
  True

def algebraic_SampleIdeal_SampleRefIdeal [hSampleIdeal : Cert.SampleIdeal.Facts] [hSampleRefIdeal : Cert.SampleRefIdeal.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleRefIdeal.nD Cert.SampleRefIdeal.τ Cert.SampleRefIdeal.sig) → Buf (Elt Ideal) ℓ) (g' : Dev Cert.SampleRefIdeal.nD → PrngReg), Pre_SampleIdeal m →
    (∀ c : Dev Cert.SampleIdeal.nD,
      m' ((c.tc : Thread Cert.SampleRefIdeal.nD Cert.SampleRefIdeal.τ).loc Cert.SampleRefIdeal.main_arg0) = m ((c.tc : Thread Cert.SampleIdeal.nD Cert.SampleIdeal.τ).loc Cert.SampleIdeal.main_arg0)
      ∧ m' ((c.tc : Thread Cert.SampleRefIdeal.nD Cert.SampleRefIdeal.τ).loc Cert.SampleRefIdeal.main_arg1) = m ((c.tc : Thread Cert.SampleIdeal.nD Cert.SampleIdeal.τ).loc Cert.SampleIdeal.main_arg1)
      ∧ m' ((c.tc : Thread Cert.SampleRefIdeal.nD Cert.SampleRefIdeal.τ).loc Cert.SampleRefIdeal.main_arg2) = m ((c.tc : Thread Cert.SampleIdeal.nD Cert.SampleIdeal.τ).loc Cert.SampleIdeal.main_arg2)) →
    ∃ (v0 : (c : Dev Cert.SampleIdeal.nD) → Buf (Elt Ideal) ((c.tc : Thread Cert.SampleIdeal.nD Cert.SampleIdeal.τ).loc Cert.SampleIdeal.main_v8)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v8) = v0 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2))
      ∧ θ_run (Cert.SampleRefIdeal.defs (F := Ideal)) (onTc (τ := Cert.SampleRefIdeal.τ) (Cert.SampleRefIdeal.main (F := Ideal))) ⟨m', fun _ => 0, g'⟩ (fun r => ∀ c : Dev Cert.SampleRefIdeal.nD,
          r.2.mem ((c.tc : Thread Cert.SampleRefIdeal.nD Cert.SampleRefIdeal.τ).loc Cert.SampleRefIdeal.main_v19) = v0 c
          ∧ r.2.mem ((c.tc : Thread Cert.SampleRefIdeal.nD Cert.SampleRefIdeal.τ).loc Cert.SampleRefIdeal.main_arg0) = m' ((c.tc : Thread Cert.SampleRefIdeal.nD Cert.SampleRefIdeal.τ).loc Cert.SampleRefIdeal.main_arg0)
          ∧ r.2.mem ((c.tc : Thread Cert.SampleRefIdeal.nD Cert.SampleRefIdeal.τ).loc Cert.SampleRefIdeal.main_arg1) = m' ((c.tc : Thread Cert.SampleRefIdeal.nD Cert.SampleRefIdeal.τ).loc Cert.SampleRefIdeal.main_arg1)
          ∧ r.2.mem ((c.tc : Thread Cert.SampleRefIdeal.nD Cert.SampleRefIdeal.τ).loc Cert.SampleRefIdeal.main_arg2) = m' ((c.tc : Thread Cert.SampleRefIdeal.nD Cert.SampleRefIdeal.τ).loc Cert.SampleRefIdeal.main_arg2))

def preserves_MemKV_MemKVIdeal : Prop :=
  True

def algebraic_MemKVIdeal_MemKVRefIdeal [hMemKVIdeal : Cert.MemKVIdeal.Facts] [hMemKVRefIdeal : Cert.MemKVRefIdeal.Facts] : Prop :=
  ∀ (m : (ℓ : Loc Cert.MemKVIdeal.nD Cert.MemKVIdeal.τ Cert.MemKVIdeal.sig) → Buf (Elt Ideal) ℓ) (g : Dev Cert.MemKVIdeal.nD → PrngReg)
    (m' : (ℓ : Loc Cert.MemKVRefIdeal.nD Cert.MemKVRefIdeal.τ Cert.MemKVRefIdeal.sig) → Buf (Elt Ideal) ℓ) (g' : Dev Cert.MemKVRefIdeal.nD → PrngReg), Pre_MemKVIdeal m →
    (∀ c : Dev Cert.MemKVIdeal.nD,
      m' ((c.tc : Thread Cert.MemKVRefIdeal.nD Cert.MemKVRefIdeal.τ).loc Cert.MemKVRefIdeal.main_arg0) = m ((c.tc : Thread Cert.MemKVIdeal.nD Cert.MemKVIdeal.τ).loc Cert.MemKVIdeal.main_arg0)
      ∧ m' ((c.tc : Thread Cert.MemKVRefIdeal.nD Cert.MemKVRefIdeal.τ).loc Cert.MemKVRefIdeal.main_arg1) = m ((c.tc : Thread Cert.MemKVIdeal.nD Cert.MemKVIdeal.τ).loc Cert.MemKVIdeal.main_arg1)
      ∧ m' ((c.tc : Thread Cert.MemKVRefIdeal.nD Cert.MemKVRefIdeal.τ).loc Cert.MemKVRefIdeal.main_arg2) = m ((c.tc : Thread Cert.MemKVIdeal.nD Cert.MemKVIdeal.τ).loc Cert.MemKVIdeal.main_arg2)
      ∧ m' ((c.tc : Thread Cert.MemKVRefIdeal.nD Cert.MemKVRefIdeal.τ).loc Cert.MemKVRefIdeal.main_arg3) = m ((c.tc : Thread Cert.MemKVIdeal.nD Cert.MemKVIdeal.τ).loc Cert.MemKVIdeal.main_arg3)) →
    ∃ (v0 : (c : Dev Cert.MemKVIdeal.nD) → Buf (Elt Ideal) ((c.tc : Thread Cert.MemKVIdeal.nD Cert.MemKVIdeal.τ).loc Cert.MemKVIdeal.main_v7)),
      θ_run (Cert.MemKVIdeal.defs (F := Ideal)) (onTc (τ := Cert.MemKVIdeal.τ) (Cert.MemKVIdeal.main (F := Ideal))) ⟨m, fun _ => 0, g⟩ (fun r => ∀ c : Dev Cert.MemKVIdeal.nD,
          r.2.mem ((c.tc : Thread Cert.MemKVIdeal.nD Cert.MemKVIdeal.τ).loc Cert.MemKVIdeal.main_v7) = v0 c
          ∧ r.2.mem ((c.tc : Thread Cert.MemKVIdeal.nD Cert.MemKVIdeal.τ).loc Cert.MemKVIdeal.main_arg0) = m ((c.tc : Thread Cert.MemKVIdeal.nD Cert.MemKVIdeal.τ).loc Cert.MemKVIdeal.main_arg0)
          ∧ r.2.mem ((c.tc : Thread Cert.MemKVIdeal.nD Cert.MemKVIdeal.τ).loc Cert.MemKVIdeal.main_arg1) = m ((c.tc : Thread Cert.MemKVIdeal.nD Cert.MemKVIdeal.τ).loc Cert.MemKVIdeal.main_arg1)
          ∧ r.2.mem ((c.tc : Thread Cert.MemKVIdeal.nD Cert.MemKVIdeal.τ).loc Cert.MemKVIdeal.main_arg2) = m ((c.tc : Thread Cert.MemKVIdeal.nD Cert.MemKVIdeal.τ).loc Cert.MemKVIdeal.main_arg2)
          ∧ r.2.mem ((c.tc : Thread Cert.MemKVIdeal.nD Cert.MemKVIdeal.τ).loc Cert.MemKVIdeal.main_arg3) = m ((c.tc : Thread Cert.MemKVIdeal.nD Cert.MemKVIdeal.τ).loc Cert.MemKVIdeal.main_arg3))
      ∧ θ_run (Cert.MemKVRefIdeal.defs (F := Ideal)) (onTc (τ := Cert.MemKVRefIdeal.τ) (Cert.MemKVRefIdeal.main (F := Ideal))) ⟨m', fun _ => 0, g'⟩ (fun r => ∀ c : Dev Cert.MemKVRefIdeal.nD,
          r.2.mem ((c.tc : Thread Cert.MemKVRefIdeal.nD Cert.MemKVRefIdeal.τ).loc Cert.MemKVRefIdeal.main_v19) = v0 c
          ∧ r.2.mem ((c.tc : Thread Cert.MemKVRefIdeal.nD Cert.MemKVRefIdeal.τ).loc Cert.MemKVRefIdeal.main_arg0) = m' ((c.tc : Thread Cert.MemKVRefIdeal.nD Cert.MemKVRefIdeal.τ).loc Cert.MemKVRefIdeal.main_arg0)
          ∧ r.2.mem ((c.tc : Thread Cert.MemKVRefIdeal.nD Cert.MemKVRefIdeal.τ).loc Cert.MemKVRefIdeal.main_arg1) = m' ((c.tc : Thread Cert.MemKVRefIdeal.nD Cert.MemKVRefIdeal.τ).loc Cert.MemKVRefIdeal.main_arg1)
          ∧ r.2.mem ((c.tc : Thread Cert.MemKVRefIdeal.nD Cert.MemKVRefIdeal.τ).loc Cert.MemKVRefIdeal.main_arg2) = m' ((c.tc : Thread Cert.MemKVRefIdeal.nD Cert.MemKVRefIdeal.τ).loc Cert.MemKVRefIdeal.main_arg2)
          ∧ r.2.mem ((c.tc : Thread Cert.MemKVRefIdeal.nD Cert.MemKVRefIdeal.τ).loc Cert.MemKVRefIdeal.main_arg3) = m' ((c.tc : Thread Cert.MemKVRefIdeal.nD Cert.MemKVRefIdeal.τ).loc Cert.MemKVRefIdeal.main_arg3))

def preserves_MemKeys_MemKeysIdeal : Prop :=
  True

def algebraic_MemKeysIdeal_MemKeysRefIdeal [hMemKeysIdeal : Cert.MemKeysIdeal.Facts] [hMemKeysRefIdeal : Cert.MemKeysRefIdeal.Facts] : Prop :=
  ∀ (m : (ℓ : Loc Cert.MemKeysIdeal.nD Cert.MemKeysIdeal.τ Cert.MemKeysIdeal.sig) → Buf (Elt Ideal) ℓ) (g : Dev Cert.MemKeysIdeal.nD → PrngReg)
    (m' : (ℓ : Loc Cert.MemKeysRefIdeal.nD Cert.MemKeysRefIdeal.τ Cert.MemKeysRefIdeal.sig) → Buf (Elt Ideal) ℓ) (g' : Dev Cert.MemKeysRefIdeal.nD → PrngReg), Pre_MemKeysIdeal m →
    (∀ c : Dev Cert.MemKeysIdeal.nD,
      m' ((c.tc : Thread Cert.MemKeysRefIdeal.nD Cert.MemKeysRefIdeal.τ).loc Cert.MemKeysRefIdeal.main_arg0) = m ((c.tc : Thread Cert.MemKeysIdeal.nD Cert.MemKeysIdeal.τ).loc Cert.MemKeysIdeal.main_arg0)
      ∧ m' ((c.tc : Thread Cert.MemKeysRefIdeal.nD Cert.MemKeysRefIdeal.τ).loc Cert.MemKeysRefIdeal.main_arg1) = m ((c.tc : Thread Cert.MemKeysIdeal.nD Cert.MemKeysIdeal.τ).loc Cert.MemKeysIdeal.main_arg1)) →
    ∃ (v0 : (c : Dev Cert.MemKeysIdeal.nD) → Buf (Elt Ideal) ((c.tc : Thread Cert.MemKeysIdeal.nD Cert.MemKeysIdeal.τ).loc Cert.MemKeysIdeal.main_v2)),
      θ_run (Cert.MemKeysIdeal.defs (F := Ideal)) (onTc (τ := Cert.MemKeysIdeal.τ) (Cert.MemKeysIdeal.main (F := Ideal))) ⟨m, fun _ => 0, g⟩ (fun r => ∀ c : Dev Cert.MemKeysIdeal.nD,
          r.2.mem ((c.tc : Thread Cert.MemKeysIdeal.nD Cert.MemKeysIdeal.τ).loc Cert.MemKeysIdeal.main_v2) = v0 c
          ∧ r.2.mem ((c.tc : Thread Cert.MemKeysIdeal.nD Cert.MemKeysIdeal.τ).loc Cert.MemKeysIdeal.main_arg0) = m ((c.tc : Thread Cert.MemKeysIdeal.nD Cert.MemKeysIdeal.τ).loc Cert.MemKeysIdeal.main_arg0)
          ∧ r.2.mem ((c.tc : Thread Cert.MemKeysIdeal.nD Cert.MemKeysIdeal.τ).loc Cert.MemKeysIdeal.main_arg1) = m ((c.tc : Thread Cert.MemKeysIdeal.nD Cert.MemKeysIdeal.τ).loc Cert.MemKeysIdeal.main_arg1))
      ∧ θ_run (Cert.MemKeysRefIdeal.defs (F := Ideal)) (onTc (τ := Cert.MemKeysRefIdeal.τ) (Cert.MemKeysRefIdeal.main (F := Ideal))) ⟨m', fun _ => 0, g'⟩ (fun r => ∀ c : Dev Cert.MemKeysRefIdeal.nD,
          r.2.mem ((c.tc : Thread Cert.MemKeysRefIdeal.nD Cert.MemKeysRefIdeal.τ).loc Cert.MemKeysRefIdeal.main_v16) = v0 c
          ∧ r.2.mem ((c.tc : Thread Cert.MemKeysRefIdeal.nD Cert.MemKeysRefIdeal.τ).loc Cert.MemKeysRefIdeal.main_arg0) = m' ((c.tc : Thread Cert.MemKeysRefIdeal.nD Cert.MemKeysRefIdeal.τ).loc Cert.MemKeysRefIdeal.main_arg0)
          ∧ r.2.mem ((c.tc : Thread Cert.MemKeysRefIdeal.nD Cert.MemKeysRefIdeal.τ).loc Cert.MemKeysRefIdeal.main_arg1) = m' ((c.tc : Thread Cert.MemKeysRefIdeal.nD Cert.MemKeysRefIdeal.τ).loc Cert.MemKeysRefIdeal.main_arg1))

def Claim : Prop :=
  ∃ (hAttn : Cert.Attn.Facts) (hAttnIdeal : Cert.AttnIdeal.Facts) (hAttnRefIdeal : Cert.AttnRefIdeal.Facts) (hProj : Cert.Proj.Facts) (hProjIdeal : Cert.ProjIdeal.Facts) (hProjRefIdeal : Cert.ProjRefIdeal.Facts) (hMemory : Cert.Memory.Facts) (hMemoryIdeal : Cert.MemoryIdeal.Facts) (hMemoryRefIdeal : Cert.MemoryRefIdeal.Facts) (hMerge : Cert.Merge.Facts) (hMergeIdeal : Cert.MergeIdeal.Facts) (hMergeRefIdeal : Cert.MergeRefIdeal.Facts) (hSample : Cert.Sample.Facts) (hSampleIdeal : Cert.SampleIdeal.Facts) (hSampleRefIdeal : Cert.SampleRefIdeal.Facts) (hMemKV : Cert.MemKV.Facts) (hMemKVIdeal : Cert.MemKVIdeal.Facts) (hMemKVRefIdeal : Cert.MemKVRefIdeal.Facts) (hMemKeys : Cert.MemKeys.Facts) (hMemKeysIdeal : Cert.MemKeysIdeal.Facts) (hMemKeysRefIdeal : Cert.MemKeysRefIdeal.Facts) (hPre_attn_pre : Cert.Pre_attn_pre.Facts),
    quiescent_Attn (hAttn := hAttn)
    ∧ quiescent_AttnIdeal (hAttnIdeal := hAttnIdeal)
    ∧ quiescent_AttnIdeal_pre_attn_pre (hAttnIdeal := hAttnIdeal) (hPre_attn_pre := hPre_attn_pre)
    ∧ quiescent_AttnRefIdeal (hAttnRefIdeal := hAttnRefIdeal)
    ∧ quiescent_AttnRefIdeal_pre_attn_pre (hAttnRefIdeal := hAttnRefIdeal) (hPre_attn_pre := hPre_attn_pre)
    ∧ quiescent_Proj (hProj := hProj)
    ∧ quiescent_ProjIdeal (hProjIdeal := hProjIdeal)
    ∧ quiescent_ProjRefIdeal (hProjRefIdeal := hProjRefIdeal)
    ∧ quiescent_Memory (hMemory := hMemory)
    ∧ quiescent_MemoryIdeal (hMemoryIdeal := hMemoryIdeal)
    ∧ quiescent_MemoryRefIdeal (hMemoryRefIdeal := hMemoryRefIdeal)
    ∧ quiescent_Merge (hMerge := hMerge)
    ∧ quiescent_MergeIdeal (hMergeIdeal := hMergeIdeal)
    ∧ quiescent_MergeRefIdeal (hMergeRefIdeal := hMergeRefIdeal)
    ∧ quiescent_Sample (hSample := hSample)
    ∧ quiescent_SampleIdeal (hSampleIdeal := hSampleIdeal)
    ∧ quiescent_SampleRefIdeal (hSampleRefIdeal := hSampleRefIdeal)
    ∧ quiescent_MemKV (hMemKV := hMemKV)
    ∧ quiescent_MemKVIdeal (hMemKVIdeal := hMemKVIdeal)
    ∧ quiescent_MemKVRefIdeal (hMemKVRefIdeal := hMemKVRefIdeal)
    ∧ quiescent_MemKeys (hMemKeys := hMemKeys)
    ∧ quiescent_MemKeysIdeal (hMemKeysIdeal := hMemKeysIdeal)
    ∧ quiescent_MemKeysRefIdeal (hMemKeysRefIdeal := hMemKeysRefIdeal)
    ∧ preserves_Attn_AttnIdeal
    ∧ algebraic_AttnIdeal_AttnRefIdeal_pre_attn_pre (hAttnIdeal := hAttnIdeal) (hAttnRefIdeal := hAttnRefIdeal) (hPre_attn_pre := hPre_attn_pre)
    ∧ preserves_Proj_ProjIdeal
    ∧ algebraic_ProjIdeal_ProjRefIdeal (hProjIdeal := hProjIdeal) (hProjRefIdeal := hProjRefIdeal)
    ∧ preserves_Memory_MemoryIdeal
    ∧ algebraic_MemoryIdeal_MemoryRefIdeal (hMemoryIdeal := hMemoryIdeal) (hMemoryRefIdeal := hMemoryRefIdeal)
    ∧ preserves_Merge_MergeIdeal
    ∧ algebraic_MergeIdeal_MergeRefIdeal (hMergeIdeal := hMergeIdeal) (hMergeRefIdeal := hMergeRefIdeal)
    ∧ preserves_Sample_SampleIdeal
    ∧ algebraic_SampleIdeal_SampleRefIdeal (hSampleIdeal := hSampleIdeal) (hSampleRefIdeal := hSampleRefIdeal)
    ∧ preserves_MemKV_MemKVIdeal
    ∧ algebraic_MemKVIdeal_MemKVRefIdeal (hMemKVIdeal := hMemKVIdeal) (hMemKVRefIdeal := hMemKVRefIdeal)
    ∧ preserves_MemKeys_MemKeysIdeal
    ∧ algebraic_MemKeysIdeal_MemKeysRefIdeal (hMemKeysIdeal := hMemKeysIdeal) (hMemKeysRefIdeal := hMemKeysRefIdeal)
-- ==== Pre_attn_pre.lean ====
abbrev S4x8192x1024 : Shape := ⟨3, ![4, 8192, 1024]⟩
abbrev S4x32x1024x256 : Shape := ⟨4, ![4, 32, 1024, 256]⟩
abbrev S4x16x32x8192 : Shape := ⟨4, ![4, 16, 32, 8192]⟩
abbrev S_ : Shape := ⟨0, ![]⟩
abbrev S32x256 : Shape := ⟨2, ![32, 256]⟩
abbrev S8192 : Shape := ⟨1, ![8192]⟩
abbrev S32x8192 : Shape := ⟨2, ![32, 8192]⟩
abbrev S1x8192 : Shape := ⟨2, ![1, 8192]⟩
abbrev S1x1x32x8192 : Shape := ⟨4, ![1, 1, 32, 8192]⟩

class Facts : Prop where
  bitsLt_bf16_f32 : FTy.bits .bf16 < FTy.bits .f32
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  shapeCasts_S32x256_S8192 : S32x256.ShapeCasts S8192
  bcast_S8192_S1x8192_1 : S8192.BroadcastsInDim S1x8192 (![1] : Fin 1 → Fin S1x8192.rank)
  bcast_S1x8192_S32x8192_0_1 : S1x8192.BroadcastsInDim S32x8192 (![0, 1] : Fin 2 → Fin S32x8192.rank)
  bcast_S_S4x16x32x8192 : S_.BroadcastsInDim S4x16x32x8192 (![] : Fin 0 → Fin S4x16x32x8192.rank)
  bcast_S32x8192_S1x1x32x8192_2_3 : S32x8192.BroadcastsInDim S1x1x32x8192 (![2, 3] : Fin 2 → Fin S1x1x32x8192.rank)
  bcast_S1x1x32x8192_S4x16x32x8192_0_1_2_3 : S1x1x32x8192.BroadcastsInDim S4x16x32x8192 (![0, 1, 2, 3] : Fin 4 → Fin S4x16x32x8192.rank)
  reducesTo_S4x16x32x8192_S_d0_1_2_3 : S4x16x32x8192.ReducesTo [0, 1, 2, 3] S_

variable [Facts]

def fn_part1 {F : FTy → Type} [FloatOps F] (main_v10 : IVec S_ 1) (main_v16 : IVec S32x8192 1) (main_v18 : IVec S4x16x32x8192 1) : IVec S_ 1 :=
  let main_v19 : IVec S1x1x32x8192 1 := broadcastInDim S1x1x32x8192 ![2, 3] bcast_S32x8192_S1x1x32x8192_2_3 main_v16
  let main_v20 : IVec S4x16x32x8192 1 := broadcastInDim S4x16x32x8192 ![0, 1, 2, 3] bcast_S1x1x32x8192_S4x16x32x8192_0_1_2_3 main_v19
  let main_v21 : IVec S4x16x32x8192 1 := andi main_v20 main_v18
  let main_v22 : IVec S4x16x32x8192 1 := noti main_v21
  let main_c_3 : IVec S_ 1 := constantI S_ 1 1#1
  let main_v23 : IVec S_ 1 := (fun x v => Host.reduce IntOp.andi x v reducesTo_S4x16x32x8192_S_d0_1_2_3 h_S_) main_v22 main_c_3
  let main_v24 : IVec S_ 1 := andi main_v10 main_v23
  main_v24

def fn {F : FTy → Type} [FloatOps F] (main_arg0 : FVec F S4x8192x1024 .bf16) (main_arg1 : FVec F S4x8192x1024 .bf16) (main_arg2 : FVec F S4x32x1024x256 .bf16) (main_arg3 : FVec F S4x16x32x8192 .f32) : IVec S_ 1 :=
  let main_v0 : FVec F S4x8192x1024 .f32 := (extf .f32 · bitsLt_bf16_f32) main_arg0
  let main_v1 : FVec F S4x8192x1024 .f32 := Host.absf main_v0
  let main_cst : FVec F S_ .f32 := constant S_ .f32 0x7F800000#32
  let main_v2 : FVec F S4x8192x1024 .f32 := broadcastInDim S4x8192x1024 ![] bcast_S_S4x8192x1024 main_cst
  let main_v3 : IVec S4x8192x1024 1 := cmpf .olt main_v1 main_v2
  let main_c : IVec S_ 1 := constantI S_ 1 1#1
  let main_v4 : IVec S_ 1 := (fun x v => Host.reduce IntOp.andi x v reducesTo_S4x8192x1024_S_d0_1_2 h_S_) main_v3 main_c
  let main_v5 : FVec F S4x8192x1024 .f32 := (extf .f32 · bitsLt_bf16_f32) main_arg1
  let main_v6 : FVec F S4x8192x1024 .f32 := Host.absf main_v5
  let main_cst_0 : FVec F S_ .f32 := constant S_ .f32 0x7F800000#32
  let main_v7 : FVec F S4x8192x1024 .f32 := broadcastInDim S4x8192x1024 ![] bcast_S_S4x8192x1024 main_cst_0
  let main_v8 : IVec S4x8192x1024 1 := cmpf .olt main_v6 main_v7
  let main_c_1 : IVec S_ 1 := constantI S_ 1 1#1
  let main_v9 : IVec S_ 1 := (fun x v => Host.reduce IntOp.andi x v reducesTo_S4x8192x1024_S_d0_1_2 h_S_) main_v8 main_c_1
  let main_v10 : IVec S_ 1 := andi main_v4 main_v9
  let main_v11 : IVec S32x256 32 := iotaInDim S32x256 32 0
  let main_v12 : IVec S8192 32 := shapeCast S8192 main_v11 shapeCasts_S32x256_S8192
  let main_v13 : IVec S32x8192 32 := iotaInDim S32x8192 32 0
  let main_v14 : IVec S1x8192 32 := broadcastInDim S1x8192 ![1] bcast_S8192_S1x8192_1 main_v12
  let main_v15 : IVec S32x8192 32 := broadcastInDim S32x8192 ![0, 1] bcast_S1x8192_S32x8192_0_1 main_v14
  let main_v16 : IVec S32x8192 1 := cmpi .eq main_v13 main_v15
  let main_cst_2 : FVec F S_ .f32 := constant S_ .f32 0x3F000000#32
  let main_v17 : FVec F S4x16x32x8192 .f32 := broadcastInDim S4x16x32x8192 ![] bcast_S_S4x16x32x8192 main_cst_2
  let main_v18 : IVec S4x16x32x8192 1 := cmpf .ogt main_arg3 main_v17
  fn_part1 (F := F) main_v10 main_v16 main_v18
-- ==== Attn.lean ====
abbrev S4x8192x1024 : Shape := ⟨3, ![4, 8192, 1024]⟩
abbrev S4x32x1024x256 : Shape := ⟨4, ![4, 32, 1024, 256]⟩
abbrev S4x16x32x8192 : Shape := ⟨4, ![4, 16, 32, 8192]⟩
abbrev S1x256x128 : Shape := ⟨3, ![1, 256, 128]⟩
abbrev S1x8192x128 : Shape := ⟨3, ![1, 8192, 128]⟩
abbrev S1x32x128x256 : Shape := ⟨4, ![1, 32, 128, 256]⟩
abbrev S1x2x32x256 : Shape := ⟨4, ![1, 2, 32, 256]⟩
abbrev S256x128 : Shape := ⟨2, ![256, 128]⟩
abbrev S256x256 : Shape := ⟨2, ![256, 256]⟩
abbrev S16x256 : Shape := ⟨2, ![16, 256]⟩
abbrev S1x256 : Shape := ⟨2, ![1, 256]⟩
abbrev S512x128 : Shape := ⟨2, ![512, 128]⟩
abbrev S512x256 : Shape := ⟨2, ![512, 256]⟩
abbrev S256 : Shape := ⟨1, ![256]⟩
abbrev S1x1x64x256 : Shape := ⟨4, ![1, 1, 64, 256]⟩
abbrev S64x256 : Shape := ⟨2, ![64, 256]⟩
abbrev S80x256 : Shape := ⟨2, ![80, 256]⟩
abbrev S1x1x1x256 : Shape := ⟨4, ![1, 1, 1, 256]⟩
abbrev S128x256 : Shape := ⟨2, ![128, 256]⟩

abbrev nBuf : Space → Nat
  | .hbm => 5
  | .vmem => 10
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x1024, .bf16⟩
  | .hbm, ⟨2, _⟩ => ⟨S4x32x1024x256, .bf16⟩
  | .hbm, ⟨3, _⟩ => ⟨S4x16x32x8192, .f32⟩
  | .hbm, ⟨4, _⟩ => ⟨S4x8192x1024, .bf16⟩
  | .local _ .vmem, ⟨0, _⟩ => ⟨S1x256x128, .bf16⟩
  | .local _ .vmem, ⟨1, _⟩ => ⟨S1x256x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x32x128x256, .bf16⟩
  | .local _ .vmem, ⟨5, _⟩ => ⟨S1x32x128x256, .bf16⟩
  | .local _ .vmem, ⟨6, _⟩ => ⟨S1x2x32x256, .f32⟩
  | .local _ .vmem, ⟨7, _⟩ => ⟨S1x2x32x256, .f32⟩
  | .local _ .vmem, ⟨8, _⟩ => ⟨S1x256x128, .bf16⟩
  | .local _ .vmem, ⟨9, _⟩ => ⟨S1x256x128, .bf16⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 8, 32], ![false, false, false]⟩

def k0_mult1 (i : grid0.Coords) : BitVec 32 :=
  let v_true : BitVec 1 := 1#1
  let arg2 : BitVec 32 := BitVec.ofNat 32 (i 2).val
  let c_m1_i32 : BitVec 32 := 4294967295#32
  let v59 : BitVec 32 := Scalar.select v_true arg2 c_m1_i32
  let c256_i32 : BitVec 32 := 256#32
  let v60 : BitVec 32 := Scalar.muli v59 c256_i32
  v60
def k0_off1 (i : grid0.Coords) : Fin 3 → Nat :=
  let c0_19 : Index := 0#32
  let v_true : BitVec 1 := 1#1
  let arg2 : BitVec 32 := BitVec.ofNat 32 (i 2).val
  let c_m1_i32 : BitVec 32 := 4294967295#32
  let v59 : BitVec 32 := Scalar.select v_true arg2 c_m1_i32
  let c256_i32 : BitVec 32 := 256#32
  let v60 : BitVec 32 := Scalar.muli v59 c256_i32
  let v61 : BitVec 32 := v60
  let v62 : Index := Scalar.indexCast v61
  let c0_20 : Index := 0#32
  ![0, v62.toNat, 0]
def k0_mult2 : BitVec 32 :=
  let c0_i32_21 : BitVec 32 := 0#32
  c0_i32_21
def k0_mult3 (i : grid0.Coords) : BitVec 32 :=
  let c1_i32_27 : BitVec 32 := 1#32
  let arg2 : BitVec 32 := BitVec.ofNat 32 (i 2).val
  let c0_i32_10 : BitVec 32 := 0#32
  let v40 : BitVec 1 := Scalar.cmpi .sgt arg2 c0_i32_10
  let v41 : BitVec 32 := Scalar.extui v40
  let c0_i32_11 : BitVec 32 := 0#32
  let v42 : BitVec 1 := Scalar.cmpi .slt arg2 c0_i32_11
  let v43 : BitVec 32 := Scalar.extui v42
  let v44 : BitVec 32 := Scalar.subi v41 v43
  let c2_i32 : BitVec 32 := 2#32
  let c0_i32_12 : BitVec 32 := 0#32
  let v45 : BitVec 1 := Scalar.cmpi .sgt c2_i32 c0_i32_12
  let v46 : BitVec 32 := Scalar.extui v45
  let c0_i32_13 : BitVec 32 := 0#32
  let v47 : BitVec 1 := Scalar.cmpi .slt c2_i32 c0_i32_13
  let v48 : BitVec 32 := Scalar.extui v47
  let v49 : BitVec 32 := Scalar.subi v46 v48
  let v50 : BitVec 1 := Scalar.cmpi .ne v44 v49
  let v51 : BitVec 32 := Scalar.remsi arg2 c2_i32
  let c0_i32_14 : BitVec 32 := 0#32
  let v52 : BitVec 1 := Scalar.cmpi .ne v51 c0_i32_14
  let v53 : BitVec 1 := Scalar.andi v50 v52
  let v39 : BitVec 32 := Scalar.divsi arg2 c2_i32
  let c1_i32_15 : BitVec 32 := 1#32
  let v54 : BitVec 32 := Scalar.subi v39 c1_i32_15
  let v55 : BitVec 32 := Scalar.select v53 v54 v39
  let c1_i32_16 : BitVec 32 := 1#32
  let v56 : BitVec 32 := Scalar.addi v55 c1_i32_16
  let c1_i32_26 : BitVec 32 := 1#32
  let v72 : BitVec 32 := Scalar.subi v56 c1_i32_26
  let v73 : BitVec 32 := Scalar.minsi c1_i32_27 v72
  let c0_i32_28 : BitVec 32 := 0#32
  let v74 : BitVec 1 := Scalar.cmpi .eq v73 c0_i32_28
  let c2_i32_29 : BitVec 32 := 2#32
  let v75 : BitVec 32 := Scalar.muli c2_i32_29 v73
  let c1_i32_30 : BitVec 32 := 1#32
  let v76 : BitVec 32 := Scalar.subi v75 c1_i32_30
  let v77 : BitVec 32 := Scalar.select v74 arg2 v76
  let c256_i32_32 : BitVec 32 := 256#32
  let v79 : BitVec 32 := Scalar.muli v77 c256_i32_32
  v79
def k0_off2 (i : grid0.Coords) : Fin 3 → Nat :=
  let c0_33 : Index := 0#32
  let c1_i32_27 : BitVec 32 := 1#32
  let arg2 : BitVec 32 := BitVec.ofNat 32 (i 2).val
  let c0_i32_10 : BitVec 32 := 0#32
  let v40 : BitVec 1 := Scalar.cmpi .sgt arg2 c0_i32_10
  let v41 : BitVec 32 := Scalar.extui v40
  let c0_i32_11 : BitVec 32 := 0#32
  let v42 : BitVec 1 := Scalar.cmpi .slt arg2 c0_i32_11
  let v43 : BitVec 32 := Scalar.extui v42
  let v44 : BitVec 32 := Scalar.subi v41 v43
  let c2_i32 : BitVec 32 := 2#32
  let c0_i32_12 : BitVec 32 := 0#32
  let v45 : BitVec 1 := Scalar.cmpi .sgt c2_i32 c0_i32_12
  let v46 : BitVec 32 := Scalar.extui v45
  let c0_i32_13 : BitVec 32 := 0#32
  let v47 : BitVec 1 := Scalar.cmpi .slt c2_i32 c0_i32_13
  let v48 : BitVec 32 := Scalar.extui v47
  let v49 : BitVec 32 := Scalar.subi v46 v48
  let v50 : BitVec 1 := Scalar.cmpi .ne v44 v49
  let v51 : BitVec 32 := Scalar.remsi arg2 c2_i32
  let c0_i32_14 : BitVec 32 := 0#32
  let v52 : BitVec 1 := Scalar.cmpi .ne v51 c0_i32_14
  let v53 : BitVec 1 := Scalar.andi v50 v52
  let v39 : BitVec 32 := Scalar.divsi arg2 c2_i32
  let c1_i32_15 : BitVec 32 := 1#32
  let v54 : BitVec 32 := Scalar.subi v39 c1_i32_15
  let v55 : BitVec 32 := Scalar.select v53 v54 v39
  let c1_i32_16 : BitVec 32 := 1#32
  let v56 : BitVec 32 := Scalar.addi v55 c1_i32_16
  let c1_i32_26 : BitVec 32 := 1#32
  let v72 : BitVec 32 := Scalar.subi v56 c1_i32_26
  let v73 : BitVec 32 := Scalar.minsi c1_i32_27 v72
  let c0_i32_28 : BitVec 32 := 0#32
  let v74 : BitVec 1 := Scalar.cmpi .eq v73 c0_i32_28
  let c2_i32_29 : BitVec 32 := 2#32
  let v75 : BitVec 32 := Scalar.muli c2_i32_29 v73
  let c1_i32_30 : BitVec 32 := 1#32
  let v76 : BitVec 32 := Scalar.subi v75 c1_i32_30
  let v77 : BitVec 32 := Scalar.select v74 arg2 v76
  let c256_i32_32 : BitVec 32 := 256#32
  let v79 : BitVec 32 := Scalar.muli v77 c256_i32_32
  let v80 : BitVec 32 := v79
  let v81 : Index := Scalar.indexCast v80
  let c0_34 : Index := 0#32
  ![0, v81.toNat, 0]
def k0_mult4 (i : grid0.Coords) : BitVec 32 :=
  let c2_i32_31 : BitVec 32 := 2#32
  let c1_i32_27 : BitVec 32 := 1#32
  let arg2 : BitVec 32 := BitVec.ofNat 32 (i 2).val
  let c0_i32_10 : BitVec 32 := 0#32
  let v40 : BitVec 1 := Scalar.cmpi .sgt arg2 c0_i32_10
  let v41 : BitVec 32 := Scalar.extui v40
  let c0_i32_11 : BitVec 32 := 0#32
  let v42 : BitVec 1 := Scalar.cmpi .slt arg2 c0_i32_11
  let v43 : BitVec 32 := Scalar.extui v42
  let v44 : BitVec 32 := Scalar.subi v41 v43
  let c2_i32 : BitVec 32 := 2#32
  let c0_i32_12 : BitVec 32 := 0#32
  let v45 : BitVec 1 := Scalar.cmpi .sgt c2_i32 c0_i32_12
  let v46 : BitVec 32 := Scalar.extui v45
  let c0_i32_13 : BitVec 32 := 0#32
  let v47 : BitVec 1 := Scalar.cmpi .slt c2_i32 c0_i32_13
  let v48 : BitVec 32 := Scalar.extui v47
  let v49 : BitVec 32 := Scalar.subi v46 v48
  let v50 : BitVec 1 := Scalar.cmpi .ne v44 v49
  let v51 : BitVec 32 := Scalar.remsi arg2 c2_i32
  let c0_i32_14 : BitVec 32 := 0#32
  let v52 : BitVec 1 := Scalar.cmpi .ne v51 c0_i32_14
  let v53 : BitVec 1 := Scalar.andi v50 v52
  let v39 : BitVec 32 := Scalar.divsi arg2 c2_i32
  let c1_i32_15 : BitVec 32 := 1#32
  let v54 : BitVec 32 := Scalar.subi v39 c1_i32_15
  let v55 : BitVec 32 := Scalar.select v53 v54 v39
  let c1_i32_16 : BitVec 32 := 1#32
  let v56 : BitVec 32 := Scalar.addi v55 c1_i32_16
  let c1_i32_26 : BitVec 32 := 1#32
  let v72 : BitVec 32 := Scalar.subi v56 c1_i32_26
  let v73 : BitVec 32 := Scalar.minsi c1_i32_27 v72
  let v78 : BitVec 32 := Scalar.muli c2_i32_31 v73
  let c256_i32_35 : BitVec 32 := 256#32
  let v84 : BitVec 32 := Scalar.muli v78 c256_i32_35
  v84
def k0_off3 (i : grid0.Coords) : Fin 3 → Nat :=
  let c0_36 : Index := 0#32
  let c2_i32_31 : BitVec 32 := 2#32
  let c1_i32_27 : BitVec 32 := 1#32
  let arg2 : BitVec 32 := BitVec.ofNat 32 (i 2).val
  let c0_i32_10 : BitVec 32 := 0#32
  let v40 : BitVec 1 := Scalar.cmpi .sgt arg2 c0_i32_10
  let v41 : BitVec 32 := Scalar.extui v40
  let c0_i32_11 : BitVec 32 := 0#32
  let v42 : BitVec 1 := Scalar.cmpi .slt arg2 c0_i32_11
  let v43 : BitVec 32 := Scalar.extui v42
  let v44 : BitVec 32 := Scalar.subi v41 v43
  let c2_i32 : BitVec 32 := 2#32
  let c0_i32_12 : BitVec 32 := 0#32
  let v45 : BitVec 1 := Scalar.cmpi .sgt c2_i32 c0_i32_12
  let v46 : BitVec 32 := Scalar.extui v45
  let c0_i32_13 : BitVec 32 := 0#32
  let v47 : BitVec 1 := Scalar.cmpi .slt c2_i32 c0_i32_13
  let v48 : BitVec 32 := Scalar.extui v47
  let v49 : BitVec 32 := Scalar.subi v46 v48
  let v50 : BitVec 1 := Scalar.cmpi .ne v44 v49
  let v51 : BitVec 32 := Scalar.remsi arg2 c2_i32
  let c0_i32_14 : BitVec 32 := 0#32
  let v52 : BitVec 1 := Scalar.cmpi .ne v51 c0_i32_14
  let v53 : BitVec 1 := Scalar.andi v50 v52
  let v39 : BitVec 32 := Scalar.divsi arg2 c2_i32
  let c1_i32_15 : BitVec 32 := 1#32
  let v54 : BitVec 32 := Scalar.subi v39 c1_i32_15
  let v55 : BitVec 32 := Scalar.select v53 v54 v39
  let c1_i32_16 : BitVec 32 := 1#32
  let v56 : BitVec 32 := Scalar.addi v55 c1_i32_16
  let c1_i32_26 : BitVec 32 := 1#32
  let v72 : BitVec 32 := Scalar.subi v56 c1_i32_26
  let v73 : BitVec 32 := Scalar.minsi c1_i32_27 v72
  let v78 : BitVec 32 := Scalar.muli c2_i32_31 v73
  let c256_i32_35 : BitVec 32 := 256#32
  let v84 : BitVec 32 := Scalar.muli v78 c256_i32_35
  let v85 : BitVec 32 := v84
  let v86 : Index := Scalar.indexCast v85
  let c0_37 : Index := 0#32
  ![0, v86.toNat, 0]
def k0_off4 (i : grid0.Coords) : Fin 4 → Nat :=
  let c0_44 : Index := 0#32
  let true_40 : BitVec 1 := 1#1
  let arg2 : BitVec 32 := BitVec.ofNat 32 (i 2).val
  let c_m1_i32_41 : BitVec 32 := 4294967295#32
  let v92 : BitVec 32 := Scalar.select true_40 arg2 c_m1_i32_41
  let v102 : Index := Scalar.indexCast v92
  let c0_45 : Index := 0#32
  let c0_46 : Index := 0#32
  ![0, v102.toNat, 0, 0]
def k0_off5 (i : grid0.Coords) : Fin 4 → Nat :=
  let c0_65 : Index := 0#32
  let true_61 : BitVec 1 := 1#1
  let arg2 : BitVec 32 := BitVec.ofNat 32 (i 2).val
  let c_m1_i32_62 : BitVec 32 := 4294967295#32
  let v135 : BitVec 32 := Scalar.select true_61 arg2 c_m1_i32_62
  let v145 : Index := Scalar.indexCast v135
  let c64 : Index := 64#32
  let c0_66 : Index := 0#32
  ![0, v145.toNat, 64, 0]
@[reducible] def k0_t1_loop (i : grid0.Coords) : Scf.Loop 32 :=
  let c1_i32_80 : BitVec 32 := 1#32
  let arg2 : BitVec 32 := BitVec.ofNat 32 (i 2).val
  let c0_i32_10 : BitVec 32 := 0#32
  let v40 : BitVec 1 := Scalar.cmpi .sgt arg2 c0_i32_10
  let v41 : BitVec 32 := Scalar.extui v40
  let c0_i32_11 : BitVec 32 := 0#32
  let v42 : BitVec 1 := Scalar.cmpi .slt arg2 c0_i32_11
  let v43 : BitVec 32 := Scalar.extui v42
  let v44 : BitVec 32 := Scalar.subi v41 v43
  let c2_i32 : BitVec 32 := 2#32
  let c0_i32_12 : BitVec 32 := 0#32
  let v45 : BitVec 1 := Scalar.cmpi .sgt c2_i32 c0_i32_12
  let v46 : BitVec 32 := Scalar.extui v45
  let c0_i32_13 : BitVec 32 := 0#32
  let v47 : BitVec 1 := Scalar.cmpi .slt c2_i32 c0_i32_13
  let v48 : BitVec 32 := Scalar.extui v47
  let v49 : BitVec 32 := Scalar.subi v46 v48
  let v50 : BitVec 1 := Scalar.cmpi .ne v44 v49
  let v51 : BitVec 32 := Scalar.remsi arg2 c2_i32
  let c0_i32_14 : BitVec 32 := 0#32
  let v52 : BitVec 1 := Scalar.cmpi .ne v51 c0_i32_14
  let v53 : BitVec 1 := Scalar.andi v50 v52
  let v39 : BitVec 32 := Scalar.divsi arg2 c2_i32
  let c1_i32_15 : BitVec 32 := 1#32
  let v54 : BitVec 32 := Scalar.subi v39 c1_i32_15
  let v55 : BitVec 32 := Scalar.select v53 v54 v39
  let c1_i32_16 : BitVec 32 := 1#32
  let v56 : BitVec 32 := Scalar.addi v55 c1_i32_16
  let v178 : BitVec 32 := Scalar.subi v56 c1_i32_80
  let c1_i32_81 : BitVec 32 := 1#32
  let v180 : BitVec 32 := Scalar.divsi v178 c1_i32_81
  let v181 : BitVec 32 := Scalar.muli v180 c1_i32_81
  let v182 : BitVec 32 := Scalar.addi c1_i32_80 v181
  let c1_i32_82 : BitVec 32 := 1#32
  ⟨c1_i32_80, v182, c1_i32_82⟩
def k0_mult5 (i : grid0.Coords) (k0_t1 : Fin (k0_t1_loop i).trips) : BitVec 32 :=
  let c1_i32_80 : BitVec 32 := 1#32
  let c1_i32_82 : BitVec 32 := 1#32
  let arg8 : BitVec 32 := Scf.iv c1_i32_80 c1_i32_82 k0_t1
  let c1_i32_87 : BitVec 32 := 1#32
  let v199 : BitVec 32 := Scalar.addi arg8 c1_i32_87
  let arg2 : BitVec 32 := BitVec.ofNat 32 (i 2).val
  let c0_i32_10 : BitVec 32 := 0#32
  let v40 : BitVec 1 := Scalar.cmpi .sgt arg2 c0_i32_10
  let v41 : BitVec 32 := Scalar.extui v40
  let c0_i32_11 : BitVec 32 := 0#32
  let v42 : BitVec 1 := Scalar.cmpi .slt arg2 c0_i32_11
  let v43 : BitVec 32 := Scalar.extui v42
  let v44 : BitVec 32 := Scalar.subi v41 v43
  let c2_i32 : BitVec 32 := 2#32
  let c0_i32_12 : BitVec 32 := 0#32
  let v45 : BitVec 1 := Scalar.cmpi .sgt c2_i32 c0_i32_12
  let v46 : BitVec 32 := Scalar.extui v45
  let c0_i32_13 : BitVec 32 := 0#32
  let v47 : BitVec 1 := Scalar.cmpi .slt c2_i32 c0_i32_13
  let v48 : BitVec 32 := Scalar.extui v47
  let v49 : BitVec 32 := Scalar.subi v46 v48
  let v50 : BitVec 1 := Scalar.cmpi .ne v44 v49
  let v51 : BitVec 32 := Scalar.remsi arg2 c2_i32
  let c0_i32_14 : BitVec 32 := 0#32
  let v52 : BitVec 1 := Scalar.cmpi .ne v51 c0_i32_14
  let v53 : BitVec 1 := Scalar.andi v50 v52
  let v39 : BitVec 32 := Scalar.divsi arg2 c2_i32
  let c1_i32_15 : BitVec 32 := 1#32
  let v54 : BitVec 32 := Scalar.subi v39 c1_i32_15
  let v55 : BitVec 32 := Scalar.select v53 v54 v39
  let c1_i32_16 : BitVec 32 := 1#32
  let v56 : BitVec 32 := Scalar.addi v55 c1_i32_16
  let c1_i32_88 : BitVec 32 := 1#32
  let v200 : BitVec 32 := Scalar.subi v56 c1_i32_88
  let v201 : BitVec 32 := Scalar.minsi v199 v200
  let c0_i32_89 : BitVec 32 := 0#32
  let v202 : BitVec 1 := Scalar.cmpi .eq v201 c0_i32_89
  let c2_i32_90 : BitVec 32 := 2#32
  let v203 : BitVec 32 := Scalar.muli c2_i32_90 v201
  let c1_i32_91 : BitVec 32 := 1#32
  let v204 : BitVec 32 := Scalar.subi v203 c1_i32_91
  let v205 : BitVec 32 := Scalar.select v202 arg2 v204
  let c256_i32_93 : BitVec 32 := 256#32
  let v207 : BitVec 32 := Scalar.muli v205 c256_i32_93
  v207
def k0_off6 (i : grid0.Coords) (k0_t1 : Fin (k0_t1_loop i).trips) : Fin 3 → Nat :=
  let c0_94 : Index := 0#32
  let c1_i32_80 : BitVec 32 := 1#32
  let c1_i32_82 : BitVec 32 := 1#32
  let arg8 : BitVec 32 := Scf.iv c1_i32_80 c1_i32_82 k0_t1
  let c1_i32_87 : BitVec 32 := 1#32
  let v199 : BitVec 32 := Scalar.addi arg8 c1_i32_87
  let arg2 : BitVec 32 := BitVec.ofNat 32 (i 2).val
  let c0_i32_10 : BitVec 32 := 0#32
  let v40 : BitVec 1 := Scalar.cmpi .sgt arg2 c0_i32_10
  let v41 : BitVec 32 := Scalar.extui v40
  let c0_i32_11 : BitVec 32 := 0#32
  let v42 : BitVec 1 := Scalar.cmpi .slt arg2 c0_i32_11
  let v43 : BitVec 32 := Scalar.extui v42
  let v44 : BitVec 32 := Scalar.subi v41 v43
  let c2_i32 : BitVec 32 := 2#32
  let c0_i32_12 : BitVec 32 := 0#32
  let v45 : BitVec 1 := Scalar.cmpi .sgt c2_i32 c0_i32_12
  let v46 : BitVec 32 := Scalar.extui v45
  let c0_i32_13 : BitVec 32 := 0#32
  let v47 : BitVec 1 := Scalar.cmpi .slt c2_i32 c0_i32_13
  let v48 : BitVec 32 := Scalar.extui v47
  let v49 : BitVec 32 := Scalar.subi v46 v48
  let v50 : BitVec 1 := Scalar.cmpi .ne v44 v49
  let v51 : BitVec 32 := Scalar.remsi arg2 c2_i32
  let c0_i32_14 : BitVec 32 := 0#32
  let v52 : BitVec 1 := Scalar.cmpi .ne v51 c0_i32_14
  let v53 : BitVec 1 := Scalar.andi v50 v52
  let v39 : BitVec 32 := Scalar.divsi arg2 c2_i32
  let c1_i32_15 : BitVec 32 := 1#32
  let v54 : BitVec 32 := Scalar.subi v39 c1_i32_15
  let v55 : BitVec 32 := Scalar.select v53 v54 v39
  let c1_i32_16 : BitVec 32 := 1#32
  let v56 : BitVec 32 := Scalar.addi v55 c1_i32_16
  let c1_i32_88 : BitVec 32 := 1#32
  let v200 : BitVec 32 := Scalar.subi v56 c1_i32_88
  let v201 : BitVec 32 := Scalar.minsi v199 v200
  let c0_i32_89 : BitVec 32 := 0#32
  let v202 : BitVec 1 := Scalar.cmpi .eq v201 c0_i32_89
  let c2_i32_90 : BitVec 32 := 2#32
  let v203 : BitVec 32 := Scalar.muli c2_i32_90 v201
  let c1_i32_91 : BitVec 32 := 1#32
  let v204 : BitVec 32 := Scalar.subi v203 c1_i32_91
  let v205 : BitVec 32 := Scalar.select v202 arg2 v204
  let c256_i32_93 : BitVec 32 := 256#32
  let v207 : BitVec 32 := Scalar.muli v205 c256_i32_93
  let v208 : BitVec 32 := v207
  let v209 : Index := Scalar.indexCast v208
  let c0_95 : Index := 0#32
  ![0, v209.toNat, 0]
def k0_mult6 (i : grid0.Coords) (k0_t1 : Fin (k0_t1_loop i).trips) : BitVec 32 :=
  let c2_i32_92 : BitVec 32 := 2#32
  let c1_i32_80 : BitVec 32 := 1#32
  let c1_i32_82 : BitVec 32 := 1#32
  let arg8 : BitVec 32 := Scf.iv c1_i32_80 c1_i32_82 k0_t1
  let c1_i32_87 : BitVec 32 := 1#32
  let v199 : BitVec 32 := Scalar.addi arg8 c1_i32_87
  let arg2 : BitVec 32 := BitVec.ofNat 32 (i 2).val
  let c0_i32_10 : BitVec 32 := 0#32
  let v40 : BitVec 1 := Scalar.cmpi .sgt arg2 c0_i32_10
  let v41 : BitVec 32 := Scalar.extui v40
  let c0_i32_11 : BitVec 32 := 0#32
  let v42 : BitVec 1 := Scalar.cmpi .slt arg2 c0_i32_11
  let v43 : BitVec 32 := Scalar.extui v42
  let v44 : BitVec 32 := Scalar.subi v41 v43
  let c2_i32 : BitVec 32 := 2#32
  let c0_i32_12 : BitVec 32 := 0#32
  let v45 : BitVec 1 := Scalar.cmpi .sgt c2_i32 c0_i32_12
  let v46 : BitVec 32 := Scalar.extui v45
  let c0_i32_13 : BitVec 32 := 0#32
  let v47 : BitVec 1 := Scalar.cmpi .slt c2_i32 c0_i32_13
  let v48 : BitVec 32 := Scalar.extui v47
  let v49 : BitVec 32 := Scalar.subi v46 v48
  let v50 : BitVec 1 := Scalar.cmpi .ne v44 v49
  let v51 : BitVec 32 := Scalar.remsi arg2 c2_i32
  let c0_i32_14 : BitVec 32 := 0#32
  let v52 : BitVec 1 := Scalar.cmpi .ne v51 c0_i32_14
  let v53 : BitVec 1 := Scalar.andi v50 v52
  let v39 : BitVec 32 := Scalar.divsi arg2 c2_i32
  let c1_i32_15 : BitVec 32 := 1#32
  let v54 : BitVec 32 := Scalar.subi v39 c1_i32_15
  let v55 : BitVec 32 := Scalar.select v53 v54 v39
  let c1_i32_16 : BitVec 32 := 1#32
  let v56 : BitVec 32 := Scalar.addi v55 c1_i32_16
  let c1_i32_88 : BitVec 32 := 1#32
  let v200 : BitVec 32 := Scalar.subi v56 c1_i32_88
  let v201 : BitVec 32 := Scalar.minsi v199 v200
  let v206 : BitVec 32 := Scalar.muli c2_i32_92 v201
  let c256_i32_96 : BitVec 32 := 256#32
  let v212 : BitVec 32 := Scalar.muli v206 c256_i32_96
  v212
def k0_off7 (i : grid0.Coords) (k0_t1 : Fin (k0_t1_loop i).trips) : Fin 3 → Nat :=
  let c0_97 : Index := 0#32
  let c2_i32_92 : BitVec 32 := 2#32
  let c1_i32_80 : BitVec 32 := 1#32
  let c1_i32_82 : BitVec 32 := 1#32
  let arg8 : BitVec 32 := Scf.iv c1_i32_80 c1_i32_82 k0_t1
  let c1_i32_87 : BitVec 32 := 1#32
  let v199 : BitVec 32 := Scalar.addi arg8 c1_i32_87
  let arg2 : BitVec 32 := BitVec.ofNat 32 (i 2).val
  let c0_i32_10 : BitVec 32 := 0#32
  let v40 : BitVec 1 := Scalar.cmpi .sgt arg2 c0_i32_10
  let v41 : BitVec 32 := Scalar.extui v40
  let c0_i32_11 : BitVec 32 := 0#32
  let v42 : BitVec 1 := Scalar.cmpi .slt arg2 c0_i32_11
  let v43 : BitVec 32 := Scalar.extui v42
  let v44 : BitVec 32 := Scalar.subi v41 v43
  let c2_i32 : BitVec 32 := 2#32
  let c0_i32_12 : BitVec 32 := 0#32
  let v45 : BitVec 1 := Scalar.cmpi .sgt c2_i32 c0_i32_12
  let v46 : BitVec 32 := Scalar.extui v45
  let c0_i32_13 : BitVec 32 := 0#32
  let v47 : BitVec 1 := Scalar.cmpi .slt c2_i32 c0_i32_13
  let v48 : BitVec 32 := Scalar.extui v47
  let v49 : BitVec 32 := Scalar.subi v46 v48
  let v50 : BitVec 1 := Scalar.cmpi .ne v44 v49
  let v51 : BitVec 32 := Scalar.remsi arg2 c2_i32
  let c0_i32_14 : BitVec 32 := 0#32
  let v52 : BitVec 1 := Scalar.cmpi .ne v51 c0_i32_14
  let v53 : BitVec 1 := Scalar.andi v50 v52
  let v39 : BitVec 32 := Scalar.divsi arg2 c2_i32
  let c1_i32_15 : BitVec 32 := 1#32
  let v54 : BitVec 32 := Scalar.subi v39 c1_i32_15
  let v55 : BitVec 32 := Scalar.select v53 v54 v39
  let c1_i32_16 : BitVec 32 := 1#32
  let v56 : BitVec 32 := Scalar.addi v55 c1_i32_16
  let c1_i32_88 : BitVec 32 := 1#32
  let v200 : BitVec 32 := Scalar.subi v56 c1_i32_88
  let v201 : BitVec 32 := Scalar.minsi v199 v200
  let v206 : BitVec 32 := Scalar.muli c2_i32_92 v201
  let c256_i32_96 : BitVec 32 := 256#32
  let v212 : BitVec 32 := Scalar.muli v206 c256_i32_96
  let v213 : BitVec 32 := v212
  let v214 : Index := Scalar.indexCast v213
  let c0_98 : Index := 0#32
  ![0, v214.toNat, 0]
def k0_off8 (i : grid0.Coords) (k0_t1 : Fin (k0_t1_loop i).trips) : Fin 4 → Nat :=
  let c0_105 : Index := 0#32
  let c0_106 : Index := 0#32
  let c1_i32_80 : BitVec 32 := 1#32
  let c1_i32_82 : BitVec 32 := 1#32
  let arg8 : BitVec 32 := Scf.iv c1_i32_80 c1_i32_82 k0_t1
  let c0_i32_101 : BitVec 32 := 0#32
  let v220 : BitVec 1 := Scalar.cmpi .eq arg8 c0_i32_101
  let arg2 : BitVec 32 := BitVec.ofNat 32 (i 2).val
  let c2_i32_102 : BitVec 32 := 2#32
  let v221 : BitVec 32 := Scalar.muli c2_i32_102 arg8
  let c1_i32_103 : BitVec 32 := 1#32
  let v222 : BitVec 32 := Scalar.subi v221 c1_i32_103
  let v223 : BitVec 32 := Scalar.select v220 arg2 v222
  let v226 : Index := Scalar.indexCast v223
  let c0_107 : Index := 0#32
  ![0, 0, v226.toNat, 0]
def k0_off9 (i : grid0.Coords) (k0_t1 : Fin (k0_t1_loop i).trips) : Fin 4 → Nat :=
  let c0_111 : Index := 0#32
  let c1_i32_80 : BitVec 32 := 1#32
  let c1_i32_82 : BitVec 32 := 1#32
  let arg8 : BitVec 32 := Scf.iv c1_i32_80 c1_i32_82 k0_t1
  let c0_i32_101 : BitVec 32 := 0#32
  let v220 : BitVec 1 := Scalar.cmpi .eq arg8 c0_i32_101
  let arg2 : BitVec 32 := BitVec.ofNat 32 (i 2).val
  let c2_i32_102 : BitVec 32 := 2#32
  let v221 : BitVec 32 := Scalar.muli c2_i32_102 arg8
  let c1_i32_103 : BitVec 32 := 1#32
  let v222 : BitVec 32 := Scalar.subi v221 c1_i32_103
  let v223 : BitVec 32 := Scalar.select v220 arg2 v222
  let v239 : Index := Scalar.indexCast v223
  let c0_112 : Index := 0#32
  let c0_113 : Index := 0#32
  ![0, v239.toNat, 0, 0]
def k0_off10 (i : grid0.Coords) (k0_t1 : Fin (k0_t1_loop i).trips) : Fin 4 → Nat :=
  let c0_116 : Index := 0#32
  let c0_117 : Index := 0#32
  let c2_i32_104 : BitVec 32 := 2#32
  let c1_i32_80 : BitVec 32 := 1#32
  let c1_i32_82 : BitVec 32 := 1#32
  let arg8 : BitVec 32 := Scf.iv c1_i32_80 c1_i32_82 k0_t1
  let v224 : BitVec 32 := Scalar.muli c2_i32_104 arg8
  let v255 : Index := Scalar.indexCast v224
  let c0_118 : Index := 0#32
  ![0, 0, v255.toNat, 0]
def k0_off11 (i : grid0.Coords) (k0_t1 : Fin (k0_t1_loop i).trips) : Fin 4 → Nat :=
  let c0_122 : Index := 0#32
  let c2_i32_104 : BitVec 32 := 2#32
  let c1_i32_80 : BitVec 32 := 1#32
  let c1_i32_82 : BitVec 32 := 1#32
  let arg8 : BitVec 32 := Scf.iv c1_i32_80 c1_i32_82 k0_t1
  let v224 : BitVec 32 := Scalar.muli c2_i32_104 arg8
  let v268 : Index := Scalar.indexCast v224
  let c0_123 : Index := 0#32
  let c0_124 : Index := 0#32
  ![0, v268.toNat, 0, 0]
def k0_off12 (i : grid0.Coords) (k0_t1 : Fin (k0_t1_loop i).trips) : Fin 4 → Nat :=
  let c0_131 : Index := 0#32
  let c1_132 : Index := 1#32
  let c1_i32_80 : BitVec 32 := 1#32
  let c1_i32_82 : BitVec 32 := 1#32
  let arg8 : BitVec 32 := Scf.iv c1_i32_80 c1_i32_82 k0_t1
  let c0_i32_127 : BitVec 32 := 0#32
  let v283 : BitVec 1 := Scalar.cmpi .eq arg8 c0_i32_127
  let arg2 : BitVec 32 := BitVec.ofNat 32 (i 2).val
  let c2_i32_128 : BitVec 32 := 2#32
  let v284 : BitVec 32 := Scalar.muli c2_i32_128 arg8
  let c1_i32_129 : BitVec 32 := 1#32
  let v285 : BitVec 32 := Scalar.subi v284 c1_i32_129
  let v286 : BitVec 32 := Scalar.select v283 arg2 v285
  let v289 : Index := Scalar.indexCast v286
  let c0_133 : Index := 0#32
  ![0, 1, v289.toNat, 0]
def k0_off13 (i : grid0.Coords) (k0_t1 : Fin (k0_t1_loop i).trips) : Fin 4 → Nat :=
  let c0_137 : Index := 0#32
  let c1_i32_80 : BitVec 32 := 1#32
  let c1_i32_82 : BitVec 32 := 1#32
  let arg8 : BitVec 32 := Scf.iv c1_i32_80 c1_i32_82 k0_t1
  let c0_i32_127 : BitVec 32 := 0#32
  let v283 : BitVec 1 := Scalar.cmpi .eq arg8 c0_i32_127
  let arg2 : BitVec 32 := BitVec.ofNat 32 (i 2).val
  let c2_i32_128 : BitVec 32 := 2#32
  let v284 : BitVec 32 := Scalar.muli c2_i32_128 arg8
  let c1_i32_129 : BitVec 32 := 1#32
  let v285 : BitVec 32 := Scalar.subi v284 c1_i32_129
  let v286 : BitVec 32 := Scalar.select v283 arg2 v285
  let v302 : Index := Scalar.indexCast v286
  let c64_138 : Index := 64#32
  let c0_139 : Index := 0#32
  ![0, v302.toNat, 64, 0]
def k0_off14 (i : grid0.Coords) (k0_t1 : Fin (k0_t1_loop i).trips) : Fin 4 → Nat :=
  let c0_142 : Index := 0#32
  let c1_143 : Index := 1#32
  let c2_i32_130 : BitVec 32 := 2#32
  let c1_i32_80 : BitVec 32 := 1#32
  let c1_i32_82 : BitVec 32 := 1#32
  let arg8 : BitVec 32 := Scf.iv c1_i32_80 c1_i32_82 k0_t1
  let v287 : BitVec 32 := Scalar.muli c2_i32_130 arg8
  let v318 : Index := Scalar.indexCast v287
  let c0_144 : Index := 0#32
  ![0, 1, v318.toNat, 0]
def k0_off15 (i : grid0.Coords) (k0_t1 : Fin (k0_t1_loop i).trips) : Fin 4 → Nat :=
  let c0_148 : Index := 0#32
  let c2_i32_130 : BitVec 32 := 2#32
  let c1_i32_80 : BitVec 32 := 1#32
  let c1_i32_82 : BitVec 32 := 1#32
  let arg8 : BitVec 32 := Scf.iv c1_i32_80 c1_i32_82 k0_t1
  let v287 : BitVec 32 := Scalar.muli c2_i32_130 arg8
  let v331 : Index := Scalar.indexCast v287
  let c64_149 : Index := 64#32
  let c0_150 : Index := 0#32
  ![0, v331.toNat, 64, 0]
@[reducible] def k0_t2_loop (i : grid0.Coords) : Scf.Loop 32 :=
  let c1_i32_80 : BitVec 32 := 1#32
  let arg2 : BitVec 32 := BitVec.ofNat 32 (i 2).val
  let c0_i32_10 : BitVec 32 := 0#32
  let v40 : BitVec 1 := Scalar.cmpi .sgt arg2 c0_i32_10
  let v41 : BitVec 32 := Scalar.extui v40
  let c0_i32_11 : BitVec 32 := 0#32
  let v42 : BitVec 1 := Scalar.cmpi .slt arg2 c0_i32_11
  let v43 : BitVec 32 := Scalar.extui v42
  let v44 : BitVec 32 := Scalar.subi v41 v43
  let c2_i32 : BitVec 32 := 2#32
  let c0_i32_12 : BitVec 32 := 0#32
  let v45 : BitVec 1 := Scalar.cmpi .sgt c2_i32 c0_i32_12
  let v46 : BitVec 32 := Scalar.extui v45
  let c0_i32_13 : BitVec 32 := 0#32
  let v47 : BitVec 1 := Scalar.cmpi .slt c2_i32 c0_i32_13
  let v48 : BitVec 32 := Scalar.extui v47
  let v49 : BitVec 32 := Scalar.subi v46 v48
  let v50 : BitVec 1 := Scalar.cmpi .ne v44 v49
  let v51 : BitVec 32 := Scalar.remsi arg2 c2_i32
  let c0_i32_14 : BitVec 32 := 0#32
  let v52 : BitVec 1 := Scalar.cmpi .ne v51 c0_i32_14
  let v53 : BitVec 1 := Scalar.andi v50 v52
  let v39 : BitVec 32 := Scalar.divsi arg2 c2_i32
  let c1_i32_15 : BitVec 32 := 1#32
  let v54 : BitVec 32 := Scalar.subi v39 c1_i32_15
  let v55 : BitVec 32 := Scalar.select v53 v54 v39
  let c1_i32_16 : BitVec 32 := 1#32
  let v56 : BitVec 32 := Scalar.addi v55 c1_i32_16
  let v178 : BitVec 32 := Scalar.subi v56 c1_i32_80
  let c1_i32_81 : BitVec 32 := 1#32
  let v180 : BitVec 32 := Scalar.divsi v178 c1_i32_81
  let v181 : BitVec 32 := Scalar.muli v180 c1_i32_81
  let v182 : BitVec 32 := Scalar.addi c1_i32_80 v181
  let v179 : BitVec 32 := Scalar.addi c1_i32_80 v178
  let c1_i32_83 : BitVec 32 := 1#32
  ⟨v182, v179, c1_i32_83⟩
def k0_mult7 (i : grid0.Coords) (k0_t2 : Fin (k0_t2_loop i).trips) : BitVec 32 :=
  let c1_i32_80 : BitVec 32 := 1#32
  let arg2 : BitVec 32 := BitVec.ofNat 32 (i 2).val
  let c0_i32_10 : BitVec 32 := 0#32
  let v40 : BitVec 1 := Scalar.cmpi .sgt arg2 c0_i32_10
  let v41 : BitVec 32 := Scalar.extui v40
  let c0_i32_11 : BitVec 32 := 0#32
  let v42 : BitVec 1 := Scalar.cmpi .slt arg2 c0_i32_11
  let v43 : BitVec 32 := Scalar.extui v42
  let v44 : BitVec 32 := Scalar.subi v41 v43
  let c2_i32 : BitVec 32 := 2#32
  let c0_i32_12 : BitVec 32 := 0#32
  let v45 : BitVec 1 := Scalar.cmpi .sgt c2_i32 c0_i32_12
  let v46 : BitVec 32 := Scalar.extui v45
  let c0_i32_13 : BitVec 32 := 0#32
  let v47 : BitVec 1 := Scalar.cmpi .slt c2_i32 c0_i32_13
  let v48 : BitVec 32 := Scalar.extui v47
  let v49 : BitVec 32 := Scalar.subi v46 v48
  let v50 : BitVec 1 := Scalar.cmpi .ne v44 v49
  let v51 : BitVec 32 := Scalar.remsi arg2 c2_i32
  let c0_i32_14 : BitVec 32 := 0#32
  let v52 : BitVec 1 := Scalar.cmpi .ne v51 c0_i32_14
  let v53 : BitVec 1 := Scalar.andi v50 v52
  let v39 : BitVec 32 := Scalar.divsi arg2 c2_i32
  let c1_i32_15 : BitVec 32 := 1#32
  let v54 : BitVec 32 := Scalar.subi v39 c1_i32_15
  let v55 : BitVec 32 := Scalar.select v53 v54 v39
  let c1_i32_16 : BitVec 32 := 1#32
  let v56 : BitVec 32 := Scalar.addi v55 c1_i32_16
  let v178 : BitVec 32 := Scalar.subi v56 c1_i32_80
  let c1_i32_81 : BitVec 32 := 1#32
  let v180 : BitVec 32 := Scalar.divsi v178 c1_i32_81
  let v181 : BitVec 32 := Scalar.muli v180 c1_i32_81
  let v182 : BitVec 32 := Scalar.addi c1_i32_80 v181
  let c1_i32_83 : BitVec 32 := 1#32
  let arg8 : BitVec 32 := Scf.iv v182 c1_i32_83 k0_t2
  let c1_i32_87 : BitVec 32 := 1#32
  let v199 : BitVec 32 := Scalar.addi arg8 c1_i32_87
  let c1_i32_88 : BitVec 32 := 1#32
  let v200 : BitVec 32 := Scalar.subi v56 c1_i32_88
  let v201 : BitVec 32 := Scalar.minsi v199 v200
  let c0_i32_89 : BitVec 32 := 0#32
  let v202 : BitVec 1 := Scalar.cmpi .eq v201 c0_i32_89
  let c2_i32_90 : BitVec 32 := 2#32
  let v203 : BitVec 32 := Scalar.muli c2_i32_90 v201
  let c1_i32_91 : BitVec 32 := 1#32
  let v204 : BitVec 32 := Scalar.subi v203 c1_i32_91
  let v205 : BitVec 32 := Scalar.select v202 arg2 v204
  let c256_i32_93 : BitVec 32 := 256#32
  let v207 : BitVec 32 := Scalar.muli v205 c256_i32_93
  v207
def k0_off16 (i : grid0.Coords) (k0_t2 : Fin (k0_t2_loop i).trips) : Fin 3 → Nat :=
  let c0_94 : Index := 0#32
  let c1_i32_80 : BitVec 32 := 1#32
  let arg2 : BitVec 32 := BitVec.ofNat 32 (i 2).val
  let c0_i32_10 : BitVec 32 := 0#32
  let v40 : BitVec 1 := Scalar.cmpi .sgt arg2 c0_i32_10
  let v41 : BitVec 32 := Scalar.extui v40
  let c0_i32_11 : BitVec 32 := 0#32
  let v42 : BitVec 1 := Scalar.cmpi .slt arg2 c0_i32_11
  let v43 : BitVec 32 := Scalar.extui v42
  let v44 : BitVec 32 := Scalar.subi v41 v43
  let c2_i32 : BitVec 32 := 2#32
  let c0_i32_12 : BitVec 32 := 0#32
  let v45 : BitVec 1 := Scalar.cmpi .sgt c2_i32 c0_i32_12
  let v46 : BitVec 32 := Scalar.extui v45
  let c0_i32_13 : BitVec 32 := 0#32
  let v47 : BitVec 1 := Scalar.cmpi .slt c2_i32 c0_i32_13
  let v48 : BitVec 32 := Scalar.extui v47
  let v49 : BitVec 32 := Scalar.subi v46 v48
  let v50 : BitVec 1 := Scalar.cmpi .ne v44 v49
  let v51 : BitVec 32 := Scalar.remsi arg2 c2_i32
  let c0_i32_14 : BitVec 32 := 0#32
  let v52 : BitVec 1 := Scalar.cmpi .ne v51 c0_i32_14
  let v53 : BitVec 1 := Scalar.andi v50 v52
  let v39 : BitVec 32 := Scalar.divsi arg2 c2_i32
  let c1_i32_15 : BitVec 32 := 1#32
  let v54 : BitVec 32 := Scalar.subi v39 c1_i32_15
  let v55 : BitVec 32 := Scalar.select v53 v54 v39
  let c1_i32_16 : BitVec 32 := 1#32
  let v56 : BitVec 32 := Scalar.addi v55 c1_i32_16
  let v178 : BitVec 32 := Scalar.subi v56 c1_i32_80
  let c1_i32_81 : BitVec 32 := 1#32
  let v180 : BitVec 32 := Scalar.divsi v178 c1_i32_81
  let v181 : BitVec 32 := Scalar.muli v180 c1_i32_81
  let v182 : BitVec 32 := Scalar.addi c1_i32_80 v181
  let c1_i32_83 : BitVec 32 := 1#32
  let arg8 : BitVec 32 := Scf.iv v182 c1_i32_83 k0_t2
  let c1_i32_87 : BitVec 32 := 1#32
  let v199 : BitVec 32 := Scalar.addi arg8 c1_i32_87
  let c1_i32_88 : BitVec 32 := 1#32
  let v200 : BitVec 32 := Scalar.subi v56 c1_i32_88
  let v201 : BitVec 32 := Scalar.minsi v199 v200
  let c0_i32_89 : BitVec 32 := 0#32
  let v202 : BitVec 1 := Scalar.cmpi .eq v201 c0_i32_89
  let c2_i32_90 : BitVec 32 := 2#32
  let v203 : BitVec 32 := Scalar.muli c2_i32_90 v201
  let c1_i32_91 : BitVec 32 := 1#32
  let v204 : BitVec 32 := Scalar.subi v203 c1_i32_91
  let v205 : BitVec 32 := Scalar.select v202 arg2 v204
  let c256_i32_93 : BitVec 32 := 256#32
  let v207 : BitVec 32 := Scalar.muli v205 c256_i32_93
  let v208 : BitVec 32 := v207
  let v209 : Index := Scalar.indexCast v208
  let c0_95 : Index := 0#32
  ![0, v209.toNat, 0]
def k0_mult8 (i : grid0.Coords) (k0_t2 : Fin (k0_t2_loop i).trips) : BitVec 32 :=
  let c2_i32_92 : BitVec 32 := 2#32
  let c1_i32_80 : BitVec 32 := 1#32
  let arg2 : BitVec 32 := BitVec.ofNat 32 (i 2).val
  let c0_i32_10 : BitVec 32 := 0#32
  let v40 : BitVec 1 := Scalar.cmpi .sgt arg2 c0_i32_10
  let v41 : BitVec 32 := Scalar.extui v40
  let c0_i32_11 : BitVec 32 := 0#32
  let v42 : BitVec 1 := Scalar.cmpi .slt arg2 c0_i32_11
  let v43 : BitVec 32 := Scalar.extui v42
  let v44 : BitVec 32 := Scalar.subi v41 v43
  let c2_i32 : BitVec 32 := 2#32
  let c0_i32_12 : BitVec 32 := 0#32
  let v45 : BitVec 1 := Scalar.cmpi .sgt c2_i32 c0_i32_12
  let v46 : BitVec 32 := Scalar.extui v45
  let c0_i32_13 : BitVec 32 := 0#32
  let v47 : BitVec 1 := Scalar.cmpi .slt c2_i32 c0_i32_13
  let v48 : BitVec 32 := Scalar.extui v47
  let v49 : BitVec 32 := Scalar.subi v46 v48
  let v50 : BitVec 1 := Scalar.cmpi .ne v44 v49
  let v51 : BitVec 32 := Scalar.remsi arg2 c2_i32
  let c0_i32_14 : BitVec 32 := 0#32
  let v52 : BitVec 1 := Scalar.cmpi .ne v51 c0_i32_14
  let v53 : BitVec 1 := Scalar.andi v50 v52
  let v39 : BitVec 32 := Scalar.divsi arg2 c2_i32
  let c1_i32_15 : BitVec 32 := 1#32
  let v54 : BitVec 32 := Scalar.subi v39 c1_i32_15
  let v55 : BitVec 32 := Scalar.select v53 v54 v39
  let c1_i32_16 : BitVec 32 := 1#32
  let v56 : BitVec 32 := Scalar.addi v55 c1_i32_16
  let v178 : BitVec 32 := Scalar.subi v56 c1_i32_80
  let c1_i32_81 : BitVec 32 := 1#32
  let v180 : BitVec 32 := Scalar.divsi v178 c1_i32_81
  let v181 : BitVec 32 := Scalar.muli v180 c1_i32_81
  let v182 : BitVec 32 := Scalar.addi c1_i32_80 v181
  let c1_i32_83 : BitVec 32 := 1#32
  let arg8 : BitVec 32 := Scf.iv v182 c1_i32_83 k0_t2
  let c1_i32_87 : BitVec 32 := 1#32
  let v199 : BitVec 32 := Scalar.addi arg8 c1_i32_87
  let c1_i32_88 : BitVec 32 := 1#32
  let v200 : BitVec 32 := Scalar.subi v56 c1_i32_88
  let v201 : BitVec 32 := Scalar.minsi v199 v200
  let v206 : BitVec 32 := Scalar.muli c2_i32_92 v201
  let c256_i32_96 : BitVec 32 := 256#32
  let v212 : BitVec 32 := Scalar.muli v206 c256_i32_96
  v212
def k0_off17 (i : grid0.Coords) (k0_t2 : Fin (k0_t2_loop i).trips) : Fin 3 → Nat :=
  let c0_97 : Index := 0#32
  let c2_i32_92 : BitVec 32 := 2#32
  let c1_i32_80 : BitVec 32 := 1#32
  let arg2 : BitVec 32 := BitVec.ofNat 32 (i 2).val
  let c0_i32_10 : BitVec 32 := 0#32
  let v40 : BitVec 1 := Scalar.cmpi .sgt arg2 c0_i32_10
  let v41 : BitVec 32 := Scalar.extui v40
  let c0_i32_11 : BitVec 32 := 0#32
  let v42 : BitVec 1 := Scalar.cmpi .slt arg2 c0_i32_11
  let v43 : BitVec 32 := Scalar.extui v42
  let v44 : BitVec 32 := Scalar.subi v41 v43
  let c2_i32 : BitVec 32 := 2#32
  let c0_i32_12 : BitVec 32 := 0#32
  let v45 : BitVec 1 := Scalar.cmpi .sgt c2_i32 c0_i32_12
  let v46 : BitVec 32 := Scalar.extui v45
  let c0_i32_13 : BitVec 32 := 0#32
  let v47 : BitVec 1 := Scalar.cmpi .slt c2_i32 c0_i32_13
  let v48 : BitVec 32 := Scalar.extui v47
  let v49 : BitVec 32 := Scalar.subi v46 v48
  let v50 : BitVec 1 := Scalar.cmpi .ne v44 v49
  let v51 : BitVec 32 := Scalar.remsi arg2 c2_i32
  let c0_i32_14 : BitVec 32 := 0#32
  let v52 : BitVec 1 := Scalar.cmpi .ne v51 c0_i32_14
  let v53 : BitVec 1 := Scalar.andi v50 v52
  let v39 : BitVec 32 := Scalar.divsi arg2 c2_i32
  let c1_i32_15 : BitVec 32 := 1#32
  let v54 : BitVec 32 := Scalar.subi v39 c1_i32_15
  let v55 : BitVec 32 := Scalar.select v53 v54 v39
  let c1_i32_16 : BitVec 32 := 1#32
  let v56 : BitVec 32 := Scalar.addi v55 c1_i32_16
  let v178 : BitVec 32 := Scalar.subi v56 c1_i32_80
  let c1_i32_81 : BitVec 32 := 1#32
  let v180 : BitVec 32 := Scalar.divsi v178 c1_i32_81
  let v181 : BitVec 32 := Scalar.muli v180 c1_i32_81
  let v182 : BitVec 32 := Scalar.addi c1_i32_80 v181
  let c1_i32_83 : BitVec 32 := 1#32
  let arg8 : BitVec 32 := Scf.iv v182 c1_i32_83 k0_t2
  let c1_i32_87 : BitVec 32 := 1#32
  let v199 : BitVec 32 := Scalar.addi arg8 c1_i32_87
  let c1_i32_88 : BitVec 32 := 1#32
  let v200 : BitVec 32 := Scalar.subi v56 c1_i32_88
  let v201 : BitVec 32 := Scalar.minsi v199 v200
  let v206 : BitVec 32 := Scalar.muli c2_i32_92 v201
  let c256_i32_96 : BitVec 32 := 256#32
  let v212 : BitVec 32 := Scalar.muli v206 c256_i32_96
  let v213 : BitVec 32 := v212
  let v214 : Index := Scalar.indexCast v213
  let c0_98 : Index := 0#32
  ![0, v214.toNat, 0]
def k0_off18 (i : grid0.Coords) (k0_t2 : Fin (k0_t2_loop i).trips) : Fin 4 → Nat :=
  let c0_105 : Index := 0#32
  let c0_106 : Index := 0#32
  let c1_i32_80 : BitVec 32 := 1#32
  let arg2 : BitVec 32 := BitVec.ofNat 32 (i 2).val
  let c0_i32_10 : BitVec 32 := 0#32
  let v40 : BitVec 1 := Scalar.cmpi .sgt arg2 c0_i32_10
  let v41 : BitVec 32 := Scalar.extui v40
  let c0_i32_11 : BitVec 32 := 0#32
  let v42 : BitVec 1 := Scalar.cmpi .slt arg2 c0_i32_11
  let v43 : BitVec 32 := Scalar.extui v42
  let v44 : BitVec 32 := Scalar.subi v41 v43
  let c2_i32 : BitVec 32 := 2#32
  let c0_i32_12 : BitVec 32 := 0#32
  let v45 : BitVec 1 := Scalar.cmpi .sgt c2_i32 c0_i32_12
  let v46 : BitVec 32 := Scalar.extui v45
  let c0_i32_13 : BitVec 32 := 0#32
  let v47 : BitVec 1 := Scalar.cmpi .slt c2_i32 c0_i32_13
  let v48 : BitVec 32 := Scalar.extui v47
  let v49 : BitVec 32 := Scalar.subi v46 v48
  let v50 : BitVec 1 := Scalar.cmpi .ne v44 v49
  let v51 : BitVec 32 := Scalar.remsi arg2 c2_i32
  let c0_i32_14 : BitVec 32 := 0#32
  let v52 : BitVec 1 := Scalar.cmpi .ne v51 c0_i32_14
  let v53 : BitVec 1 := Scalar.andi v50 v52
  let v39 : BitVec 32 := Scalar.divsi arg2 c2_i32
  let c1_i32_15 : BitVec 32 := 1#32
  let v54 : BitVec 32 := Scalar.subi v39 c1_i32_15
  let v55 : BitVec 32 := Scalar.select v53 v54 v39
  let c1_i32_16 : BitVec 32 := 1#32
  let v56 : BitVec 32 := Scalar.addi v55 c1_i32_16
  let v178 : BitVec 32 := Scalar.subi v56 c1_i32_80
  let c1_i32_81 : BitVec 32 := 1#32
  let v180 : BitVec 32 := Scalar.divsi v178 c1_i32_81
  let v181 : BitVec 32 := Scalar.muli v180 c1_i32_81
  let v182 : BitVec 32 := Scalar.addi c1_i32_80 v181
  let c1_i32_83 : BitVec 32 := 1#32
  let arg8 : BitVec 32 := Scf.iv v182 c1_i32_83 k0_t2
  let c0_i32_101 : BitVec 32 := 0#32
  let v220 : BitVec 1 := Scalar.cmpi .eq arg8 c0_i32_101
  let c2_i32_102 : BitVec 32 := 2#32
  let v221 : BitVec 32 := Scalar.muli c2_i32_102 arg8
  let c1_i32_103 : BitVec 32 := 1#32
  let v222 : BitVec 32 := Scalar.subi v221 c1_i32_103
  let v223 : BitVec 32 := Scalar.select v220 arg2 v222
  let v226 : Index := Scalar.indexCast v223
  let c0_107 : Index := 0#32
  ![0, 0, v226.toNat, 0]
def k0_off19 (i : grid0.Coords) (k0_t2 : Fin (k0_t2_loop i).trips) : Fin 4 → Nat :=
  let c0_111 : Index := 0#32
  let c1_i32_80 : BitVec 32 := 1#32
  let arg2 : BitVec 32 := BitVec.ofNat 32 (i 2).val
  let c0_i32_10 : BitVec 32 := 0#32
  let v40 : BitVec 1 := Scalar.cmpi .sgt arg2 c0_i32_10
  let v41 : BitVec 32 := Scalar.extui v40
  let c0_i32_11 : BitVec 32 := 0#32
  let v42 : BitVec 1 := Scalar.cmpi .slt arg2 c0_i32_11
  let v43 : BitVec 32 := Scalar.extui v42
  let v44 : BitVec 32 := Scalar.subi v41 v43
  let c2_i32 : BitVec 32 := 2#32
  let c0_i32_12 : BitVec 32 := 0#32
  let v45 : BitVec 1 := Scalar.cmpi .sgt c2_i32 c0_i32_12
  let v46 : BitVec 32 := Scalar.extui v45
  let c0_i32_13 : BitVec 32 := 0#32
  let v47 : BitVec 1 := Scalar.cmpi .slt c2_i32 c0_i32_13
  let v48 : BitVec 32 := Scalar.extui v47
  let v49 : BitVec 32 := Scalar.subi v46 v48
  let v50 : BitVec 1 := Scalar.cmpi .ne v44 v49
  let v51 : BitVec 32 := Scalar.remsi arg2 c2_i32
  let c0_i32_14 : BitVec 32 := 0#32
  let v52 : BitVec 1 := Scalar.cmpi .ne v51 c0_i32_14
  let v53 : BitVec 1 := Scalar.andi v50 v52
  let v39 : BitVec 32 := Scalar.divsi arg2 c2_i32
  let c1_i32_15 : BitVec 32 := 1#32
  let v54 : BitVec 32 := Scalar.subi v39 c1_i32_15
  let v55 : BitVec 32 := Scalar.select v53 v54 v39
  let c1_i32_16 : BitVec 32 := 1#32
  let v56 : BitVec 32 := Scalar.addi v55 c1_i32_16
  let v178 : BitVec 32 := Scalar.subi v56 c1_i32_80
  let c1_i32_81 : BitVec 32 := 1#32
  let v180 : BitVec 32 := Scalar.divsi v178 c1_i32_81
  let v181 : BitVec 32 := Scalar.muli v180 c1_i32_81
  let v182 : BitVec 32 := Scalar.addi c1_i32_80 v181
  let c1_i32_83 : BitVec 32 := 1#32
  let arg8 : BitVec 32 := Scf.iv v182 c1_i32_83 k0_t2
  let c0_i32_101 : BitVec 32 := 0#32
  let v220 : BitVec 1 := Scalar.cmpi .eq arg8 c0_i32_101
  let c2_i32_102 : BitVec 32 := 2#32
  let v221 : BitVec 32 := Scalar.muli c2_i32_102 arg8
  let c1_i32_103 : BitVec 32 := 1#32
  let v222 : BitVec 32 := Scalar.subi v221 c1_i32_103
  let v223 : BitVec 32 := Scalar.select v220 arg2 v222
  let v239 : Index := Scalar.indexCast v223
  let c0_112 : Index := 0#32
  let c0_113 : Index := 0#32
  ![0, v239.toNat, 0, 0]
def k0_off20 (i : grid0.Coords) (k0_t2 : Fin (k0_t2_loop i).trips) : Fin 4 → Nat :=
  let c0_116 : Index := 0#32
  let c0_117 : Index := 0#32
  let c2_i32_104 : BitVec 32 := 2#32
  let c1_i32_80 : BitVec 32 := 1#32
  let arg2 : BitVec 32 := BitVec.ofNat 32 (i 2).val
  let c0_i32_10 : BitVec 32 := 0#32
  let v40 : BitVec 1 := Scalar.cmpi .sgt arg2 c0_i32_10
  let v41 : BitVec 32 := Scalar.extui v40
  let c0_i32_11 : BitVec 32 := 0#32
  let v42 : BitVec 1 := Scalar.cmpi .slt arg2 c0_i32_11
  let v43 : BitVec 32 := Scalar.extui v42
  let v44 : BitVec 32 := Scalar.subi v41 v43
  let c2_i32 : BitVec 32 := 2#32
  let c0_i32_12 : BitVec 32 := 0#32
  let v45 : BitVec 1 := Scalar.cmpi .sgt c2_i32 c0_i32_12
  let v46 : BitVec 32 := Scalar.extui v45
  let c0_i32_13 : BitVec 32 := 0#32
  let v47 : BitVec 1 := Scalar.cmpi .slt c2_i32 c0_i32_13
  let v48 : BitVec 32 := Scalar.extui v47
  let v49 : BitVec 32 := Scalar.subi v46 v48
  let v50 : BitVec 1 := Scalar.cmpi .ne v44 v49
  let v51 : BitVec 32 := Scalar.remsi arg2 c2_i32
  let c0_i32_14 : BitVec 32 := 0#32
  let v52 : BitVec 1 := Scalar.cmpi .ne v51 c0_i32_14
  let v53 : BitVec 1 := Scalar.andi v50 v52
  let v39 : BitVec 32 := Scalar.divsi arg2 c2_i32
  let c1_i32_15 : BitVec 32 := 1#32
  let v54 : BitVec 32 := Scalar.subi v39 c1_i32_15
  let v55 : BitVec 32 := Scalar.select v53 v54 v39
  let c1_i32_16 : BitVec 32 := 1#32
  let v56 : BitVec 32 := Scalar.addi v55 c1_i32_16
  let v178 : BitVec 32 := Scalar.subi v56 c1_i32_80
  let c1_i32_81 : BitVec 32 := 1#32
  let v180 : BitVec 32 := Scalar.divsi v178 c1_i32_81
  let v181 : BitVec 32 := Scalar.muli v180 c1_i32_81
  let v182 : BitVec 32 := Scalar.addi c1_i32_80 v181
  let c1_i32_83 : BitVec 32 := 1#32
  let arg8 : BitVec 32 := Scf.iv v182 c1_i32_83 k0_t2
  let v224 : BitVec 32 := Scalar.muli c2_i32_104 arg8
  let v255 : Index := Scalar.indexCast v224
  let c0_118 : Index := 0#32
  ![0, 0, v255.toNat, 0]
def k0_off21 (i : grid0.Coords) (k0_t2 : Fin (k0_t2_loop i).trips) : Fin 4 → Nat :=
  let c0_122 : Index := 0#32
  let c2_i32_104 : BitVec 32 := 2#32
  let c1_i32_80 : BitVec 32 := 1#32
  let arg2 : BitVec 32 := BitVec.ofNat 32 (i 2).val
  let c0_i32_10 : BitVec 32 := 0#32
  let v40 : BitVec 1 := Scalar.cmpi .sgt arg2 c0_i32_10
  let v41 : BitVec 32 := Scalar.extui v40
  let c0_i32_11 : BitVec 32 := 0#32
  let v42 : BitVec 1 := Scalar.cmpi .slt arg2 c0_i32_11
  let v43 : BitVec 32 := Scalar.extui v42
  let v44 : BitVec 32 := Scalar.subi v41 v43
  let c2_i32 : BitVec 32 := 2#32
  let c0_i32_12 : BitVec 32 := 0#32
  let v45 : BitVec 1 := Scalar.cmpi .sgt c2_i32 c0_i32_12
  let v46 : BitVec 32 := Scalar.extui v45
  let c0_i32_13 : BitVec 32 := 0#32
  let v47 : BitVec 1 := Scalar.cmpi .slt c2_i32 c0_i32_13
  let v48 : BitVec 32 := Scalar.extui v47
  let v49 : BitVec 32 := Scalar.subi v46 v48
  let v50 : BitVec 1 := Scalar.cmpi .ne v44 v49
  let v51 : BitVec 32 := Scalar.remsi arg2 c2_i32
  let c0_i32_14 : BitVec 32 := 0#32
  let v52 : BitVec 1 := Scalar.cmpi .ne v51 c0_i32_14
  let v53 : BitVec 1 := Scalar.andi v50 v52
  let v39 : BitVec 32 := Scalar.divsi arg2 c2_i32
  let c1_i32_15 : BitVec 32 := 1#32
  let v54 : BitVec 32 := Scalar.subi v39 c1_i32_15
  let v55 : BitVec 32 := Scalar.select v53 v54 v39
  let c1_i32_16 : BitVec 32 := 1#32
  let v56 : BitVec 32 := Scalar.addi v55 c1_i32_16
  let v178 : BitVec 32 := Scalar.subi v56 c1_i32_80
  let c1_i32_81 : BitVec 32 := 1#32
  let v180 : BitVec 32 := Scalar.divsi v178 c1_i32_81
  let v181 : BitVec 32 := Scalar.muli v180 c1_i32_81
  let v182 : BitVec 32 := Scalar.addi c1_i32_80 v181
  let c1_i32_83 : BitVec 32 := 1#32
  let arg8 : BitVec 32 := Scf.iv v182 c1_i32_83 k0_t2
  let v224 : BitVec 32 := Scalar.muli c2_i32_104 arg8
  let v268 : Index := Scalar.indexCast v224
  let c0_123 : Index := 0#32
  let c0_124 : Index := 0#32
  ![0, v268.toNat, 0, 0]
def k0_off22 (i : grid0.Coords) (k0_t2 : Fin (k0_t2_loop i).trips) : Fin 4 → Nat :=
  let c0_131 : Index := 0#32
  let c1_132 : Index := 1#32
  let c1_i32_80 : BitVec 32 := 1#32
  let arg2 : BitVec 32 := BitVec.ofNat 32 (i 2).val
  let c0_i32_10 : BitVec 32 := 0#32
  let v40 : BitVec 1 := Scalar.cmpi .sgt arg2 c0_i32_10
  let v41 : BitVec 32 := Scalar.extui v40
  let c0_i32_11 : BitVec 32 := 0#32
  let v42 : BitVec 1 := Scalar.cmpi .slt arg2 c0_i32_11
  let v43 : BitVec 32 := Scalar.extui v42
  let v44 : BitVec 32 := Scalar.subi v41 v43
  let c2_i32 : BitVec 32 := 2#32
  let c0_i32_12 : BitVec 32 := 0#32
  let v45 : BitVec 1 := Scalar.cmpi .sgt c2_i32 c0_i32_12
  let v46 : BitVec 32 := Scalar.extui v45
  let c0_i32_13 : BitVec 32 := 0#32
  let v47 : BitVec 1 := Scalar.cmpi .slt c2_i32 c0_i32_13
  let v48 : BitVec 32 := Scalar.extui v47
  let v49 : BitVec 32 := Scalar.subi v46 v48
  let v50 : BitVec 1 := Scalar.cmpi .ne v44 v49
  let v51 : BitVec 32 := Scalar.remsi arg2 c2_i32
  let c0_i32_14 : BitVec 32 := 0#32
  let v52 : BitVec 1 := Scalar.cmpi .ne v51 c0_i32_14
  let v53 : BitVec 1 := Scalar.andi v50 v52
  let v39 : BitVec 32 := Scalar.divsi arg2 c2_i32
  let c1_i32_15 : BitVec 32 := 1#32
  let v54 : BitVec 32 := Scalar.subi v39 c1_i32_15
  let v55 : BitVec 32 := Scalar.select v53 v54 v39
  let c1_i32_16 : BitVec 32 := 1#32
  let v56 : BitVec 32 := Scalar.addi v55 c1_i32_16
  let v178 : BitVec 32 := Scalar.subi v56 c1_i32_80
  let c1_i32_81 : BitVec 32 := 1#32
  let v180 : BitVec 32 := Scalar.divsi v178 c1_i32_81
  let v181 : BitVec 32 := Scalar.muli v180 c1_i32_81
  let v182 : BitVec 32 := Scalar.addi c1_i32_80 v181
  let c1_i32_83 : BitVec 32 := 1#32
  let arg8 : BitVec 32 := Scf.iv v182 c1_i32_83 k0_t2
  let c0_i32_127 : BitVec 32 := 0#32
  let v283 : BitVec 1 := Scalar.cmpi .eq arg8 c0_i32_127
  let c2_i32_128 : BitVec 32 := 2#32
  let v284 : BitVec 32 := Scalar.muli c2_i32_128 arg8
  let c1_i32_129 : BitVec 32 := 1#32
  let v285 : BitVec 32 := Scalar.subi v284 c1_i32_129
  let v286 : BitVec 32 := Scalar.select v283 arg2 v285
  let v289 : Index := Scalar.indexCast v286
  let c0_133 : Index := 0#32
  ![0, 1, v289.toNat, 0]
def k0_off23 (i : grid0.Coords) (k0_t2 : Fin (k0_t2_loop i).trips) : Fin 4 → Nat :=
  let c0_137 : Index := 0#32
  let c1_i32_80 : BitVec 32 := 1#32
  let arg2 : BitVec 32 := BitVec.ofNat 32 (i 2).val
  let c0_i32_10 : BitVec 32 := 0#32
  let v40 : BitVec 1 := Scalar.cmpi .sgt arg2 c0_i32_10
  let v41 : BitVec 32 := Scalar.extui v40
  let c0_i32_11 : BitVec 32 := 0#32
  let v42 : BitVec 1 := Scalar.cmpi .slt arg2 c0_i32_11
  let v43 : BitVec 32 := Scalar.extui v42
  let v44 : BitVec 32 := Scalar.subi v41 v43
  let c2_i32 : BitVec 32 := 2#32
  let c0_i32_12 : BitVec 32 := 0#32
  let v45 : BitVec 1 := Scalar.cmpi .sgt c2_i32 c0_i32_12
  let v46 : BitVec 32 := Scalar.extui v45
  let c0_i32_13 : BitVec 32 := 0#32
  let v47 : BitVec 1 := Scalar.cmpi .slt c2_i32 c0_i32_13
  let v48 : BitVec 32 := Scalar.extui v47
  let v49 : BitVec 32 := Scalar.subi v46 v48
  let v50 : BitVec 1 := Scalar.cmpi .ne v44 v49
  let v51 : BitVec 32 := Scalar.remsi arg2 c2_i32
  let c0_i32_14 : BitVec 32 := 0#32
  let v52 : BitVec 1 := Scalar.cmpi .ne v51 c0_i32_14
  let v53 : BitVec 1 := Scalar.andi v50 v52
  let v39 : BitVec 32 := Scalar.divsi arg2 c2_i32
  let c1_i32_15 : BitVec 32 := 1#32
  let v54 : BitVec 32 := Scalar.subi v39 c1_i32_15
  let v55 : BitVec 32 := Scalar.select v53 v54 v39
  let c1_i32_16 : BitVec 32 := 1#32
  let v56 : BitVec 32 := Scalar.addi v55 c1_i32_16
  let v178 : BitVec 32 := Scalar.subi v56 c1_i32_80
  let c1_i32_81 : BitVec 32 := 1#32
  let v180 : BitVec 32 := Scalar.divsi v178 c1_i32_81
  let v181 : BitVec 32 := Scalar.muli v180 c1_i32_81
  let v182 : BitVec 32 := Scalar.addi c1_i32_80 v181
  let c1_i32_83 : BitVec 32 := 1#32
  let arg8 : BitVec 32 := Scf.iv v182 c1_i32_83 k0_t2
  let c0_i32_127 : BitVec 32 := 0#32
  let v283 : BitVec 1 := Scalar.cmpi .eq arg8 c0_i32_127
  let c2_i32_128 : BitVec 32 := 2#32
  let v284 : BitVec 32 := Scalar.muli c2_i32_128 arg8
  let c1_i32_129 : BitVec 32 := 1#32
  let v285 : BitVec 32 := Scalar.subi v284 c1_i32_129
  let v286 : BitVec 32 := Scalar.select v283 arg2 v285
  let v302 : Index := Scalar.indexCast v286
  let c64_138 : Index := 64#32
  let c0_139 : Index := 0#32
  ![0, v302.toNat, 64, 0]
def k0_off24 (i : grid0.Coords) (k0_t2 : Fin (k0_t2_loop i).trips) : Fin 4 → Nat :=
  let c0_142 : Index := 0#32
  let c1_143 : Index := 1#32
  let c2_i32_130 : BitVec 32 := 2#32
  let c1_i32_80 : BitVec 32 := 1#32
  let arg2 : BitVec 32 := BitVec.ofNat 32 (i 2).val
  let c0_i32_10 : BitVec 32 := 0#32
  let v40 : BitVec 1 := Scalar.cmpi .sgt arg2 c0_i32_10
  let v41 : BitVec 32 := Scalar.extui v40
  let c0_i32_11 : BitVec 32 := 0#32
  let v42 : BitVec 1 := Scalar.cmpi .slt arg2 c0_i32_11
  let v43 : BitVec 32 := Scalar.extui v42
  let v44 : BitVec 32 := Scalar.subi v41 v43
  let c2_i32 : BitVec 32 := 2#32
  let c0_i32_12 : BitVec 32 := 0#32
  let v45 : BitVec 1 := Scalar.cmpi .sgt c2_i32 c0_i32_12
  let v46 : BitVec 32 := Scalar.extui v45
  let c0_i32_13 : BitVec 32 := 0#32
  let v47 : BitVec 1 := Scalar.cmpi .slt c2_i32 c0_i32_13
  let v48 : BitVec 32 := Scalar.extui v47
  let v49 : BitVec 32 := Scalar.subi v46 v48
  let v50 : BitVec 1 := Scalar.cmpi .ne v44 v49
  let v51 : BitVec 32 := Scalar.remsi arg2 c2_i32
  let c0_i32_14 : BitVec 32 := 0#32
  let v52 : BitVec 1 := Scalar.cmpi .ne v51 c0_i32_14
  let v53 : BitVec 1 := Scalar.andi v50 v52
  let v39 : BitVec 32 := Scalar.divsi arg2 c2_i32
  let c1_i32_15 : BitVec 32 := 1#32
  let v54 : BitVec 32 := Scalar.subi v39 c1_i32_15
  let v55 : BitVec 32 := Scalar.select v53 v54 v39
  let c1_i32_16 : BitVec 32 := 1#32
  let v56 : BitVec 32 := Scalar.addi v55 c1_i32_16
  let v178 : BitVec 32 := Scalar.subi v56 c1_i32_80
  let c1_i32_81 : BitVec 32 := 1#32
  let v180 : BitVec 32 := Scalar.divsi v178 c1_i32_81
  let v181 : BitVec 32 := Scalar.muli v180 c1_i32_81
  let v182 : BitVec 32 := Scalar.addi c1_i32_80 v181
  let c1_i32_83 : BitVec 32 := 1#32
  let arg8 : BitVec 32 := Scf.iv v182 c1_i32_83 k0_t2
  let v287 : BitVec 32 := Scalar.muli c2_i32_130 arg8
  let v318 : Index := Scalar.indexCast v287
  let c0_144 : Index := 0#32
  ![0, 1, v318.toNat, 0]
def k0_off25 (i : grid0.Coords) (k0_t2 : Fin (k0_t2_loop i).trips) : Fin 4 → Nat :=
  let c0_148 : Index := 0#32
  let c2_i32_130 : BitVec 32 := 2#32
  let c1_i32_80 : BitVec 32 := 1#32
  let arg2 : BitVec 32 := BitVec.ofNat 32 (i 2).val
  let c0_i32_10 : BitVec 32 := 0#32
  let v40 : BitVec 1 := Scalar.cmpi .sgt arg2 c0_i32_10
  let v41 : BitVec 32 := Scalar.extui v40
  let c0_i32_11 : BitVec 32 := 0#32
  let v42 : BitVec 1 := Scalar.cmpi .slt arg2 c0_i32_11
  let v43 : BitVec 32 := Scalar.extui v42
  let v44 : BitVec 32 := Scalar.subi v41 v43
  let c2_i32 : BitVec 32 := 2#32
  let c0_i32_12 : BitVec 32 := 0#32
  let v45 : BitVec 1 := Scalar.cmpi .sgt c2_i32 c0_i32_12
  let v46 : BitVec 32 := Scalar.extui v45
  let c0_i32_13 : BitVec 32 := 0#32
  let v47 : BitVec 1 := Scalar.cmpi .slt c2_i32 c0_i32_13
  let v48 : BitVec 32 := Scalar.extui v47
  let v49 : BitVec 32 := Scalar.subi v46 v48
  let v50 : BitVec 1 := Scalar.cmpi .ne v44 v49
  let v51 : BitVec 32 := Scalar.remsi arg2 c2_i32
  let c0_i32_14 : BitVec 32 := 0#32
  let v52 : BitVec 1 := Scalar.cmpi .ne v51 c0_i32_14
  let v53 : BitVec 1 := Scalar.andi v50 v52
  let v39 : BitVec 32 := Scalar.divsi arg2 c2_i32
  let c1_i32_15 : BitVec 32 := 1#32
  let v54 : BitVec 32 := Scalar.subi v39 c1_i32_15
  let v55 : BitVec 32 := Scalar.select v53 v54 v39
  let c1_i32_16 : BitVec 32 := 1#32
  let v56 : BitVec 32 := Scalar.addi v55 c1_i32_16
  let v178 : BitVec 32 := Scalar.subi v56 c1_i32_80
  let c1_i32_81 : BitVec 32 := 1#32
  let v180 : BitVec 32 := Scalar.divsi v178 c1_i32_81
  let v181 : BitVec 32 := Scalar.muli v180 c1_i32_81
  let v182 : BitVec 32 := Scalar.addi c1_i32_80 v181
  let c1_i32_83 : BitVec 32 := 1#32
  let arg8 : BitVec 32 := Scf.iv v182 c1_i32_83 k0_t2
  let v287 : BitVec 32 := Scalar.muli c2_i32_130 arg8
  let v331 : Index := Scalar.indexCast v287
  let c64_149 : Index := 64#32
  let c0_150 : Index := 0#32
  ![0, v331.toNat, 64, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x32x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2x32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== AttnRefIdeal.lean ====
abbrev S4x8192x1024 : Shape := ⟨3, ![4, 8192, 1024]⟩
abbrev S4x32x1024x256 : Shape := ⟨4, ![4, 32, 1024, 256]⟩
abbrev S4x16x32x8192 : Shape := ⟨4, ![4, 16, 32, 8192]⟩
abbrev S4x8192x16x64 : Shape := ⟨4, ![4, 8192, 16, 64]⟩
abbrev S4x16x8192x64 : Shape := ⟨4, ![4, 16, 8192, 64]⟩
abbrev S4x32x16x64x256 : Shape := ⟨5, ![4, 32, 16, 64, 256]⟩
abbrev S4x16x32x256x64 : Shape := ⟨5, ![4, 16, 32, 256, 64]⟩
abbrev S8192 : Shape := ⟨1, ![8192]⟩
abbrev S32x256 : Shape := ⟨2, ![32, 256]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩
abbrev S4x16x8192x32 : Shape := ⟨4, ![4, 16, 8192, 32]⟩
abbrev S4x16x8192x32x1 : Shape := ⟨5, ![4, 16, 8192, 32, 1]⟩
abbrev S4x16x8192x32x256 : Shape := ⟨5, ![4, 16, 8192, 32, 256]⟩
abbrev S4x16x8192x8192 : Shape := ⟨4, ![4, 16, 8192, 8192]⟩
abbrev S1x1x8192x8192 : Shape := ⟨4, ![1, 1, 8192, 8192]⟩
abbrev S4x16x8192 : Shape := ⟨3, ![4, 16, 8192]⟩
abbrev S4x16x8192x1 : Shape := ⟨4, ![4, 16, 8192, 1]⟩

abbrev nBuf : Space → Nat
  | .hbm => 66
  | .vmem => 0
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x1024, .bf16⟩
  | .hbm, ⟨2, _⟩ => ⟨S4x32x1024x256, .bf16⟩
  | .hbm, ⟨3, _⟩ => ⟨S4x16x32x8192, .f32⟩
  | .hbm, ⟨4, _⟩ => ⟨S4x8192x1024, .f32⟩
  | .hbm, ⟨5, _⟩ => ⟨S4x8192x16x64, .f32⟩
  | .hbm, ⟨6, _⟩ => ⟨S4x16x8192x64, .f32⟩
  | .hbm, ⟨7, _⟩ => ⟨S4x8192x1024, .f32⟩
  | .hbm, ⟨8, _⟩ => ⟨S4x8192x16x64, .f32⟩
  | .hbm, ⟨9, _⟩ => ⟨S4x16x8192x64, .f32⟩
  | .hbm, ⟨10, _⟩ => ⟨S4x32x1024x256, .f32⟩
  | .hbm, ⟨11, _⟩ => ⟨S4x32x16x64x256, .f32⟩
  | .hbm, ⟨12, _⟩ => ⟨S4x16x32x256x64, .f32⟩
  | .hbm, ⟨13, _⟩ => ⟨S4x16x8192x64, .f32⟩
  | .hbm, ⟨14, _⟩ => ⟨S8192, .i32⟩
  | .hbm, ⟨15, _⟩ => ⟨S32x256, .i32⟩
  | .hbm, ⟨16, _⟩ => ⟨S8192, .i32⟩
  | .hbm, ⟨17, _⟩ => ⟨S8192x1, .i32⟩
  | .hbm, ⟨18, _⟩ => ⟨S1x8192, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S1x8192, .i32⟩
  | .hbm, ⟨23, _⟩ => ⟨S8192x1, .i32⟩
  | .hbm, ⟨24, _⟩ => ⟨S8192x8192, .i32⟩
  | .hbm, ⟨25, _⟩ => ⟨S8192x8192, .i32⟩
  | .hbm, ⟨26, _⟩ => ⟨S8192x8192, .i1⟩
  | .hbm, ⟨27, _⟩ => ⟨S8192x8192, .i1⟩
  | .hbm, ⟨28, _⟩ => ⟨S1x8192, .i32⟩
  | .hbm, ⟨29, _⟩ => ⟨S8192x1, .i32⟩
  | .hbm, ⟨30, _⟩ => ⟨S8192x8192, .i32⟩
  | .hbm, ⟨31, _⟩ => ⟨S8192x8192, .i32⟩
  | .hbm, ⟨32, _⟩ => ⟨S8192x8192, .i1⟩
  | .hbm, ⟨33, _⟩ => ⟨S_, .f32⟩
  | .hbm, ⟨34, _⟩ => ⟨S4x16x32x8192, .f32⟩
  | .hbm, ⟨35, _⟩ => ⟨S4x16x32x8192, .i1⟩
  | .hbm, ⟨36, _⟩ => ⟨S4x16x8192x32, .i1⟩
  | .hbm, ⟨37, _⟩ => ⟨S4x16x8192x32x1, .i1⟩
  | .hbm, ⟨38, _⟩ => ⟨S4x16x8192x32x256, .i1⟩
  | .hbm, ⟨39, _⟩ => ⟨S4x16x8192x8192, .i1⟩
  | .hbm, ⟨40, _⟩ => ⟨S1x1x8192x8192, .i1⟩
  | .hbm, ⟨41, _⟩ => ⟨S4x16x8192x8192, .i1⟩
  | .hbm, ⟨42, _⟩ => ⟨S4x16x8192x8192, .i1⟩
  | .hbm, ⟨43, _⟩ => ⟨S1x1x8192x8192, .i1⟩
  | .hbm, ⟨44, _⟩ => ⟨S4x16x8192x8192, .i1⟩
  | .hbm, ⟨45, _⟩ => ⟨S4x16x8192x8192, .i1⟩
  | .hbm, ⟨46, _⟩ => ⟨S4x16x8192x8192, .f32⟩
  | .hbm, ⟨47, _⟩ => ⟨S_, .f32⟩
  | .hbm, ⟨48, _⟩ => ⟨S_, .f32⟩
  | .hbm, ⟨49, _⟩ => ⟨S4x16x8192x8192, .f32⟩
  | .hbm, ⟨50, _⟩ => ⟨S4x16x8192x8192, .f32⟩
  | .hbm, ⟨51, _⟩ => ⟨S_, .f32⟩
  | .hbm, ⟨52, _⟩ => ⟨S4x16x8192, .f32⟩
  | .hbm, ⟨53, _⟩ => ⟨S4x16x8192x1, .f32⟩
  | .hbm, ⟨54, _⟩ => ⟨S4x16x8192x8192, .f32⟩
  | .hbm, ⟨55, _⟩ => ⟨S4x16x8192x8192, .f32⟩
  | .hbm, ⟨56, _⟩ => ⟨S4x16x8192x8192, .f32⟩
  | .hbm, ⟨57, _⟩ => ⟨S_, .f32⟩
  | .hbm, ⟨58, _⟩ => ⟨S4x16x8192, .f32⟩
  | .hbm, ⟨59, _⟩ => ⟨S4x16x8192x1, .f32⟩
  | .hbm, ⟨60, _⟩ => ⟨S4x16x8192x8192, .f32⟩
  | .hbm, ⟨61, _⟩ => ⟨S4x16x8192x8192, .f32⟩
  | .hbm, ⟨62, _⟩ => ⟨S4x16x8192x64, .f32⟩
  | .hbm, ⟨63, _⟩ => ⟨S4x8192x16x64, .f32⟩
  | .hbm, ⟨64, _⟩ => ⟨S4x8192x1024, .f32⟩
  | .hbm, ⟨65, _⟩ => ⟨S4x8192x1024, .bf16⟩
  | _, _ => ⟨S4x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_cst : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_cst_0 : Ref sig .tc := ⟨.hbm, 47, rfl⟩
abbrev main_call0_v0 : Ref sig .tc := ⟨.hbm, 48, rfl⟩
abbrev main_call0_v1 : Ref sig .tc := ⟨.hbm, 49, rfl⟩
abbrev main_v42 : Ref sig .tc := ⟨.hbm, 50, rfl⟩
abbrev main_cst_1 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_cst_2 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩

abbrev nD : Nat := 1
abbrev τ : Topo := Topo.v7x

variable {F : FTy → Type} [FloatOps F]
-- ==== Proj.lean ====
abbrev S4x8192x1024 : Shape := ⟨3, ![4, 8192, 1024]⟩
abbrev S1x1024 : Shape := ⟨2, ![1, 1024]⟩
abbrev S1x1024x13344 : Shape := ⟨3, ![1, 1024, 13344]⟩
abbrev S1024x13344 : Shape := ⟨2, ![1024, 13344]⟩
abbrev S1024x6144 : Shape := ⟨2, ![1024, 6144]⟩
abbrev S1024x7168 : Shape := ⟨2, ![1024, 7168]⟩
abbrev S1024x13312 : Shape := ⟨2, ![1024, 13312]⟩
abbrev S32768x1024 : Shape := ⟨2, ![32768, 1024]⟩
abbrev S1024 : Shape := ⟨1, ![1024]⟩
abbrev S32768x13312 : Shape := ⟨2, ![32768, 13312]⟩
abbrev S2048x1024 : Shape := ⟨2, ![2048, 1024]⟩
abbrev S1024x1024 : Shape := ⟨2, ![1024, 1024]⟩
abbrev S2048 : Shape := ⟨1, ![2048]⟩
abbrev S2048x1 : Shape := ⟨2, ![2048, 1]⟩

abbrev nBuf : Space → Nat
  | .hbm => 12
  | .vmem => 8
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x13344, .f32⟩
  | .hbm, ⟨3, _⟩ => ⟨S1024x13344, .f32⟩
  | .hbm, ⟨4, _⟩ => ⟨S1024x6144, .f32⟩
  | .hbm, ⟨5, _⟩ => ⟨S1024x7168, .f32⟩
  | .hbm, ⟨6, _⟩ => ⟨S1024x13312, .f32⟩
  | .hbm, ⟨7, _⟩ => ⟨S1024x13312, .bf16⟩
  | .hbm, ⟨8, _⟩ => ⟨S32768x1024, .f32⟩
  | .hbm, ⟨9, _⟩ => ⟨S1024, .f32⟩
  | .hbm, ⟨10, _⟩ => ⟨S1x1024, .f32⟩
  | .hbm, ⟨11, _⟩ => ⟨S32768x13312, .f32⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S2048x1024, .f32⟩
  | .local _ .vmem, ⟨6, _⟩ => ⟨S2048x1024, .f32⟩
  | .local _ .vmem, ⟨7, _⟩ => ⟨S2048x1024, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjRefIdeal.lean ====
abbrev S4x8192x1024 : Shape := ⟨3, ![4, 8192, 1024]⟩
abbrev S1x1024 : Shape := ⟨2, ![1, 1024]⟩
abbrev S1x1024x13344 : Shape := ⟨3, ![1, 1024, 13344]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S32768x1024 : Shape := ⟨2, ![32768, 1024]⟩
abbrev S1024x13344 : Shape := ⟨2, ![1024, 13344]⟩
abbrev S32768x13344 : Shape := ⟨2, ![32768, 13344]⟩
abbrev S32768x6144 : Shape := ⟨2, ![32768, 6144]⟩
abbrev S32768x7168 : Shape := ⟨2, ![32768, 7168]⟩
abbrev S32768x13312 : Shape := ⟨2, ![32768, 13312]⟩

abbrev nBuf : Space → Nat
  | .hbm => 26
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x13344, .f32⟩
  | .hbm, ⟨3, _⟩ => ⟨S1024, .f32⟩
  | .hbm, ⟨4, _⟩ => ⟨S4x8192x1024, .f32⟩
  | .hbm, ⟨5, _⟩ => ⟨S_, .f32⟩
  | .hbm, ⟨6, _⟩ => ⟨S4x8192, .f32⟩
  | .hbm, ⟨7, _⟩ => ⟨S4x8192x1, .f32⟩
  | .hbm, ⟨8, _⟩ => ⟨S_, .f32⟩
  | .hbm, ⟨9, _⟩ => ⟨S4x8192x1, .f32⟩
  | .hbm, ⟨10, _⟩ => ⟨S4x8192x1, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S4x8192x1, .f32⟩
  | .hbm, ⟨15, _⟩ => ⟨S4x8192x1024, .f32⟩
  | .hbm, ⟨16, _⟩ => ⟨S4x8192x1024, .f32⟩
  | .hbm, ⟨17, _⟩ => ⟨S1x1x1024, .f32⟩
  | .hbm, ⟨18, _⟩ => ⟨S4x8192x1024, .f32⟩
  | .hbm, ⟨19, _⟩ => ⟨S4x8192x1024, .f32⟩
  | .hbm, ⟨20, _⟩ => ⟨S32768x1024, .f32⟩
  | .hbm, ⟨21, _⟩ => ⟨S1024x13344, .f32⟩
  | .hbm, ⟨22, _⟩ => ⟨S32768x13344, .f32⟩
  | .hbm, ⟨23, _⟩ => ⟨S32768x6144, .f32⟩
  | .hbm, ⟨24, _⟩ => ⟨S32768x7168, .f32⟩
  | .hbm, ⟨25, _⟩ => ⟨S32768x13312, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Memory.lean ====
abbrev S4x8192x13312 : Shape := ⟨3, ![4, 8192, 13312]⟩
abbrev S4x256x1024 : Shape := ⟨3, ![4, 256, 1024]⟩
abbrev S1x256 : Shape := ⟨2, ![1, 256]⟩
abbrev S256 : Shape := ⟨1, ![256]⟩
abbrev S4x8192x1024 : Shape := ⟨3, ![4, 8192, 1024]⟩
abbrev S1x512x1024 : Shape := ⟨3, ![1, 512, 1024]⟩
abbrev S1x256x1024 : Shape := ⟨3, ![1, 256, 1024]⟩
abbrev S256x1024 : Shape := ⟨2, ![256, 1024]⟩
abbrev S1x512x256 : Shape := ⟨3, ![1, 512, 256]⟩
abbrev S512x256 : Shape := ⟨2, ![512, 256]⟩
abbrev S512 : Shape := ⟨1, ![512]⟩
abbrev S512x1 : Shape := ⟨2, ![512, 1]⟩
abbrev S256x256 : Shape := ⟨2, ![256, 256]⟩

abbrev nBuf : Space → Nat
  | .hbm => 7
  | .vmem => 9
  | .smem => 0
  | _ => 0

abbrev bufTy : (tb : Table) → Fin (tcTables nBuf tb) → BufTy
  | .hbm, ⟨0, _⟩ => ⟨S4x8192x13312, .f32⟩
  | .hbm, ⟨1, _⟩ => ⟨S4x256x1024, .f32⟩
  | .hbm, ⟨2, _⟩ => ⟨S4x256x1024, .f32⟩
  | .hbm, ⟨3, _⟩ => ⟨S1x256, .f32⟩
  | .hbm, ⟨4, _⟩ => ⟨S256, .f32⟩
  | .hbm, ⟨5, _⟩ => ⟨S1x256, .f32⟩
  | .hbm, ⟨6, _⟩ => ⟨S4x8192x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256, .f32⟩
  | .local _ .vmem, ⟨7, _⟩ => ⟨S1x512x1024, .bf16⟩
  | .local _ .vmem, ⟨8, _⟩ => ⟨S1x512x1024, .bf16⟩
  | _, _ => ⟨S4x8192x13312, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MemoryRefIdeal.lean ====
abbrev S4x8192x13312 : Shape := ⟨3, ![4, 8192, 13312]⟩
abbrev S4x256x1024 : Shape := ⟨3, ![4, 256, 1024]⟩
abbrev S1x256 : Shape := ⟨2, ![1, 256]⟩
abbrev S4x8192x1024 : Shape := ⟨3, ![4, 8192, 1024]⟩
abbrev S4x8192x4x256 : Shape := ⟨4, ![4, 8192, 4, 256]⟩
abbrev S256 : Shape := ⟨1, ![256]⟩
abbrev S_ : Shape := ⟨0, ![]⟩
abbrev S4x8192x4 : Shape := ⟨3, ![4, 8192, 4]⟩
abbrev S4x8192x4x1 : Shape := ⟨4, ![4, 8192, 4, 1]⟩
abbrev S1x1x1x256 : Shape := ⟨4, ![1, 1, 1, 256]⟩
abbrev S4x4x8192x256 : Shape := ⟨4, ![4, 4, 8192, 256]⟩
abbrev S4x256x4x256 : Shape := ⟨4, ![4, 256, 4, 256]⟩
abbrev S4x4x256x256 : Shape := ⟨4, ![4, 4, 256, 256]⟩
abbrev S4x4x8192 : Shape := ⟨3, ![4, 4, 8192]⟩
abbrev S4x4x8192x1 : Shape := ⟨4, ![4, 4, 8192, 1]⟩

abbrev nBuf : Space → Nat
  | .hbm => 47
  | .vmem => 0
  | .smem => 0
  | _ => 0

abbrev bufTy : (tb : Table) → Fin (tcTables nBuf tb) → BufTy
  | .hbm, ⟨0, _⟩ => ⟨S4x8192x13312, .f32⟩
  | .hbm, ⟨1, _⟩ => ⟨S4x256x1024, .f32⟩
  | .hbm, ⟨2, _⟩ => ⟨S4x256x1024, .f32⟩
  | .hbm, ⟨3, _⟩ => ⟨S1x256, .f32⟩
  | .hbm, ⟨4, _⟩ => ⟨S4x8192x1024, .f32⟩
  | .hbm, ⟨5, _⟩ => ⟨S4x8192x4x256, .f32⟩
  | .hbm, ⟨6, _⟩ => ⟨S256, .f32⟩
  | .hbm, ⟨7, _⟩ => ⟨S4x8192x4x256, .f32⟩
  | .hbm, ⟨8, _⟩ => ⟨S_, .f32⟩
  | .hbm, ⟨9, _⟩ => ⟨S4x8192x4, .f32⟩
  | .hbm, ⟨10, _⟩ => ⟨S4x8192x4x1, .f32⟩
  | .hbm, ⟨11, _⟩ => ⟨S_, .f32⟩
  | .hbm, ⟨12, _⟩ => ⟨S4x8192x4x1, .f32⟩
  | .hbm, ⟨13, _⟩ => ⟨S4x8192x4x1, .f32⟩
  | .hbm, ⟨14, _⟩ => ⟨S_, .f32⟩
  | .hbm, ⟨15, _⟩ => ⟨S4x8192x4x1, .f32⟩
  | .hbm, ⟨16, _⟩ => ⟨S4x8192x4x1, .f32⟩
  | .hbm, ⟨17, _⟩ => ⟨S4x8192x4x1, .f32⟩
  | .hbm, ⟨18, _⟩ => ⟨S4x8192x4x256, .f32⟩
  | .hbm, ⟨19, _⟩ => ⟨S4x8192x4x256, .f32⟩
  | .hbm, ⟨20, _⟩ => ⟨S1x1x1x256, .f32⟩
  | .hbm, ⟨21, _⟩ => ⟨S4x8192x4x256, .f32⟩
  | .hbm, ⟨22, _⟩ => ⟨S4x8192x4x256, .f32⟩
  | .hbm, ⟨23, _⟩ => ⟨S4x4x8192x256, .f32⟩
  | .hbm, ⟨24, _⟩ => ⟨S4x256x4x256, .f32⟩
  | .hbm, ⟨25, _⟩ => ⟨S4x4x256x256, .f32⟩
  | .hbm, ⟨26, _⟩ => ⟨S4x256x4x256, .f32⟩
  | .hbm, ⟨27, _⟩ => ⟨S4x4x256x256, .f32⟩
  | .hbm, ⟨28, _⟩ => ⟨S4x4x8192x256, .f32⟩
  | .hbm, ⟨29, _⟩ => ⟨S_, .f32⟩
  | .hbm, ⟨30, _⟩ => ⟨S4x4x8192x256, .f32⟩
  | .hbm, ⟨31, _⟩ => ⟨S4x4x8192x256, .f32⟩
  | .hbm, ⟨32, _⟩ => ⟨S_, .f32⟩
  | .hbm, ⟨33, _⟩ => ⟨S4x4x8192, .f32⟩
  | .hbm, ⟨34, _⟩ => ⟨S4x4x8192x1, .f32⟩
  | .hbm, ⟨35, _⟩ => ⟨S4x4x8192x256, .f32⟩
  | .hbm, ⟨36, _⟩ => ⟨S4x4x8192x256, .f32⟩
  | .hbm, ⟨37, _⟩ => ⟨S4x4x8192x256, .f32⟩
  | .hbm, ⟨38, _⟩ => ⟨S_, .f32⟩
  | .hbm, ⟨39, _⟩ => ⟨S4x4x8192, .f32⟩
  | .hbm, ⟨40, _⟩ => ⟨S4x4x8192x1, .f32⟩
  | .hbm, ⟨41, _⟩ => ⟨S4x4x8192x256, .f32⟩
  | .hbm, ⟨42, _⟩ => ⟨S4x4x8192x256, .f32⟩
  | .hbm, ⟨43, _⟩ => ⟨S4x4x8192x256, .f32⟩
  | .hbm, ⟨44, _⟩ => ⟨S4x8192x4x256, .f32⟩
  | .hbm, ⟨45, _⟩ => ⟨S4x8192x1024, .f32⟩
  | .hbm, ⟨46, _⟩ => ⟨S4x8192x1024, .bf16⟩
  | _, _ => ⟨S4x8192x13312, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== Merge.lean ====
abbrev S32768x2048 : Shape := ⟨2, ![32768, 2048]⟩
abbrev S32768x1024 : Shape := ⟨2, ![32768, 1024]⟩
abbrev S32768x13312 : Shape := ⟨2, ![32768, 13312]⟩
abbrev S4x8192x1024 : Shape := ⟨3, ![4, 8192, 1024]⟩
abbrev S1x2048x1024 : Shape := ⟨3, ![1, 2048, 1024]⟩
abbrev S1x1024x1024 : Shape := ⟨3, ![1, 1024, 1024]⟩
abbrev S1x1024 : Shape := ⟨2, ![1, 1024]⟩
abbrev S2048x1024 : Shape := ⟨2, ![2048, 1024]⟩
abbrev S1024x1024 : Shape := ⟨2, ![1024, 1024]⟩
abbrev S1024 : Shape := ⟨1, ![1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 23
  | .vmem => 23
  | .smem => 0
  | _ => 0

abbrev bufTy : (tb : Table) → Fin (tcTables nBuf tb) → BufTy
  | .hbm, ⟨0, _⟩ => ⟨S32768x2048, .bf16⟩
  | .hbm, ⟨1, _⟩ => ⟨S32768x1024, .bf16⟩
  | .hbm, ⟨2, _⟩ => ⟨S32768x1024, .bf16⟩
  | .hbm, ⟨3, _⟩ => ⟨S32768x13312, .f32⟩
  | .hbm, ⟨4, _⟩ => ⟨S4x8192x1024, .f32⟩
  | .hbm, ⟨5, _⟩ => ⟨S1x2048x1024, .f32⟩
  | .hbm, ⟨6, _⟩ => ⟨S1x1024x1024, .f32⟩
  | .hbm, ⟨7, _⟩ => ⟨S1x1024x1024, .f32⟩
  | .hbm, ⟨8, _⟩ => ⟨S1x1024x1024, .f32⟩
  | .hbm, ⟨9, _⟩ => ⟨S1x1024, .f32⟩
  | .hbm, ⟨10, _⟩ => ⟨S32768x1024, .f32⟩
  | .hbm, ⟨11, _⟩ => ⟨S2048x1024, .f32⟩
  | .hbm, ⟨12, _⟩ => ⟨S2048x1024, .bf16⟩
  | .hbm, ⟨13, _⟩ => ⟨S1024x1024, .f32⟩
  | .hbm, ⟨14, _⟩ => ⟨S1024x1024, .bf16⟩
  | .hbm, ⟨15, _⟩ => ⟨S1024x1024, .f32⟩
  | .hbm, ⟨16, _⟩ => ⟨S1024x1024, .bf16⟩
  | .hbm, ⟨17, _⟩ => ⟨S1024x1024, .f32⟩
  | .hbm, ⟨18, _⟩ => ⟨S1024x1024, .bf16⟩
  | .hbm, ⟨19, _⟩ => ⟨S1024, .f32⟩
  | .hbm, ⟨20, _⟩ => ⟨S1x1024, .f32⟩
  | .hbm, ⟨21, _⟩ => ⟨S32768x1024, .f32⟩
  | .hbm, ⟨22, _⟩ => ⟨S32768x1024, .bf16⟩
  | .local _ .vmem, ⟨0, _⟩ => ⟨S512x2048, .bf16⟩
  | .local _ .vmem, ⟨1, _⟩ => ⟨S512x2048, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S2048x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .bf16⟩
  | .local _ .vmem, ⟨22, _⟩ => ⟨S512x1024, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_4 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_5 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MergeRefIdeal.lean ====
abbrev S32768x2048 : Shape := ⟨2, ![32768, 2048]⟩
abbrev S32768x1024 : Shape := ⟨2, ![32768, 1024]⟩
abbrev S32768x13312 : Shape := ⟨2, ![32768, 13312]⟩
abbrev S4x8192x1024 : Shape := ⟨3, ![4, 8192, 1024]⟩
abbrev S1x2048x1024 : Shape := ⟨3, ![1, 2048, 1024]⟩
abbrev S1x1024x1024 : Shape := ⟨3, ![1, 1024, 1024]⟩
abbrev S1x1024 : Shape := ⟨2, ![1, 1024]⟩
abbrev S_ : Shape := ⟨0, ![]⟩
abbrev S2048x1024 : Shape := ⟨2, ![2048, 1024]⟩
abbrev S1024x1024 : Shape := ⟨2, ![1024, 1024]⟩
abbrev S1024 : Shape := ⟨1, ![1024]⟩
abbrev S32768 : Shape := ⟨1, ![32768]⟩
abbrev S32768x1 : Shape := ⟨2, ![32768, 1]⟩

abbrev nBuf : Space → Nat
  | .hbm => 73
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S32768x1024, .bf16⟩
  | .hbm, ⟨2, _⟩ => ⟨S32768x1024, .bf16⟩
  | .hbm, ⟨3, _⟩ => ⟨S32768x13312, .f32⟩
  | .hbm, ⟨4, _⟩ => ⟨S4x8192x1024, .f32⟩
  | .hbm, ⟨5, _⟩ => ⟨S1x2048x1024, .f32⟩
  | .hbm, ⟨6, _⟩ => ⟨S1x1024x1024, .f32⟩
  | .hbm, ⟨7, _⟩ => ⟨S1x1024x1024, .f32⟩
  | .hbm, ⟨8, _⟩ => ⟨S1x1024x1024, .f32⟩
  | .hbm, ⟨9, _⟩ => ⟨S1x1024, .f32⟩
  | .hbm, ⟨10, _⟩ => ⟨S32768x1024, .f32⟩
  | .hbm, ⟨11, _⟩ => ⟨S32768x1024, .f32⟩
  | .hbm, ⟨12, _⟩ => ⟨S32768x1024, .f32⟩
  | .hbm, ⟨13, _⟩ => ⟨S_, .f32⟩
  | .hbm, ⟨14, _⟩ => ⟨S32768x1024, .f32⟩
  | .hbm, ⟨15, _⟩ => ⟨S32768x1024, .f32⟩
  | .hbm, ⟨16, _⟩ => ⟨S_, .f32⟩
  | .hbm, ⟨17, _⟩ => ⟨S32768x1024, .f32⟩
  | .hbm, ⟨18, _⟩ => ⟨S32768x1024, .f32⟩
  | .hbm, ⟨19, _⟩ => ⟨S32768x2048, .f32⟩
  | .hbm, ⟨20, _⟩ => ⟨S2048x1024, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S_, .f32⟩
  | .hbm, ⟨27, _⟩ => ⟨S32768x1024, .f32⟩
  | .hbm, ⟨28, _⟩ => ⟨S32768x1024, .f32⟩
  | .hbm, ⟨29, _⟩ => ⟨S_, .f32⟩
  | .hbm, ⟨30, _⟩ => ⟨S32768x1024, .f32⟩
  | .hbm, ⟨31, _⟩ => ⟨S32768x1024, .f32⟩
  | .hbm, ⟨32, _⟩ => ⟨S32768x1024, .f32⟩
  | .hbm, ⟨33, _⟩ => ⟨S1024x1024, .f32⟩
  | .hbm, ⟨34, _⟩ => ⟨S32768x1024, .f32⟩
  | .hbm, ⟨35, _⟩ => ⟨S32768x1024, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S32768x1024, .f32⟩
  | .hbm, ⟨40, _⟩ => ⟨S_, .f32⟩
  | .hbm, ⟨41, _⟩ => ⟨S32768x1024, .f32⟩
  | .hbm, ⟨42, _⟩ => ⟨S32768x1024, .f32⟩
  | .hbm, ⟨43, _⟩ => ⟨S_, .f32⟩
  | .hbm, ⟨44, _⟩ => ⟨S32768x1024, .f32⟩
  | .hbm, ⟨45, _⟩ => ⟨S32768x1024, .f32⟩
  | .hbm, ⟨46, _⟩ => ⟨S32768x1024, .f32⟩
  | .hbm, ⟨47, _⟩ => ⟨S1024x1024, .f32⟩
  | .hbm, ⟨48, _⟩ => ⟨S32768x1024, .f32⟩
  | .hbm, ⟨49, _⟩ => ⟨S32768x1024, .f32⟩
  | .hbm, ⟨50, _⟩ => ⟨S32768x1024, .f32⟩
  | .hbm, ⟨51, _⟩ => ⟨S32768x1024, .f32⟩
  | .hbm, ⟨52, _⟩ => ⟨S1024x1024, .f32⟩
  | .hbm, ⟨53, _⟩ => ⟨S32768x1024, .f32⟩
  | .hbm, ⟨54, _⟩ => ⟨S32768x1024, .f32⟩
  | .hbm, ⟨55, _⟩ => ⟨S1024, .f32⟩
  | .hbm, ⟨56, _⟩ => ⟨S32768x1024, .f32⟩
  | .hbm, ⟨57, _⟩ => ⟨S_, .f32⟩
  | .hbm, ⟨58, _⟩ => ⟨S32768, .f32⟩
  | .hbm, ⟨59, _⟩ => ⟨S32768x1, .f32⟩
  | .hbm, ⟨60, _⟩ => ⟨S_, .f32⟩
  | .hbm, ⟨61, _⟩ => ⟨S32768x1, .f32⟩
  | .hbm, ⟨62, _⟩ => ⟨S32768x1, .f32⟩
  | .hbm, ⟨63, _⟩ => ⟨S_, .f32⟩
  | .hbm, ⟨64, _⟩ => ⟨S32768x1, .f32⟩
  | .hbm, ⟨65, _⟩ => ⟨S32768x1, .f32⟩
  | .hbm, ⟨66, _⟩ => ⟨S32768x1, .f32⟩
  | .hbm, ⟨67, _⟩ => ⟨S32768x1024, .f32⟩
  | .hbm, ⟨68, _⟩ => ⟨S32768x1024, .f32⟩
  | .hbm, ⟨69, _⟩ => ⟨S1x1024, .f32⟩
  | .hbm, ⟨70, _⟩ => ⟨S32768x1024, .f32⟩
  | .hbm, ⟨71, _⟩ => ⟨S32768x1024, .f32⟩
  | .hbm, ⟨72, _⟩ => ⟨S32768x1024, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_5 : Ref sig .tc := ⟨.hbm, 57, rfl⟩
abbrev main_v41 : Ref sig .tc := ⟨.hbm, 58, rfl⟩
abbrev main_v42 : Ref sig .tc := ⟨.hbm, 59, rfl⟩
abbrev main_cst_6 : Ref sig .tc := ⟨.hbm, 60, rfl⟩
abbrev main_v43 : Ref sig .tc := ⟨.hbm, 61, rfl⟩
abbrev main_v44 : Ref sig .tc := ⟨.hbm, 62, rfl⟩
abbrev main_cst_7 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩

abbrev nD : Nat := 1
abbrev τ : Topo := Topo.v7x

variable {F : FTy → Type} [FloatOps F]
-- ==== Sample.lean ====
abbrev S32x1x1024 : Shape := ⟨3, ![32, 1, 1024]⟩
abbrev S1x1024 : Shape := ⟨2, ![1, 1024]⟩
abbrev S1x1024x13344 : Shape := ⟨3, ![1, 1024, 13344]⟩
abbrev S1024x13344 : Shape := ⟨2, ![1024, 13344]⟩
abbrev S1024x6144 : Shape := ⟨2, ![1024, 6144]⟩
abbrev S1024x7168 : Shape := ⟨2, ![1024, 7168]⟩
abbrev S1024x13312 : Shape := ⟨2, ![1024, 13312]⟩
abbrev S32x1024 : Shape := ⟨2, ![32, 1024]⟩
abbrev S1024 : Shape := ⟨1, ![1024]⟩
abbrev S32x13312 : Shape := ⟨2, ![32, 13312]⟩
abbrev S1024x1024 : Shape := ⟨2, ![1024, 1024]⟩
abbrev S32 : Shape := ⟨1, ![32]⟩
abbrev S32x1 : Shape := ⟨2, ![32, 1]⟩

abbrev nBuf : Space → Nat
  | .hbm => 12
  | .vmem => 7
  | .smem => 0
  | _ => 0

abbrev bufTy : (tb : Table) → Fin (tcTables nBuf tb) → BufTy
  | .hbm, ⟨0, _⟩ => ⟨S32x1x1024, .f32⟩
  | .hbm, ⟨1, _⟩ => ⟨S1x1024, .f32⟩
  | .hbm, ⟨2, _⟩ => ⟨S1x1024x13344, .f32⟩
  | .hbm, ⟨3, _⟩ => ⟨S1024x13344, .f32⟩
  | .hbm, ⟨4, _⟩ => ⟨S1024x6144, .f32⟩
  | .hbm, ⟨5, _⟩ => ⟨S1024x7168, .f32⟩
  | .hbm, ⟨6, _⟩ => ⟨S1024x13312, .f32⟩
  | .hbm, ⟨7, _⟩ => ⟨S1024x13312, .bf16⟩
  | .hbm, ⟨8, _⟩ => ⟨S32x1024, .f32⟩
  | .hbm, ⟨9, _⟩ => ⟨S1024, .f32⟩
  | .hbm, ⟨10, _⟩ => ⟨S1x1024, .f32⟩
  | .hbm, ⟨11, _⟩ => ⟨S32x13312, .f32⟩
  | .local _ .vmem, ⟨0, _⟩ => ⟨S32x1024, .f32⟩
  | .local _ .vmem, ⟨1, _⟩ => ⟨S1x1024, .f32⟩
  | .local _ .vmem, ⟨2, _⟩ => ⟨S1024x1024, .bf16⟩
  | .local _ .vmem, ⟨3, _⟩ => ⟨S1024x1024, .bf16⟩
  | .local _ .vmem, ⟨4, _⟩ => ⟨S32x1024, .f32⟩
  | .local _ .vmem, ⟨5, _⟩ => ⟨S32x1024, .f32⟩
  | .local _ .vmem, ⟨6, _⟩ => ⟨S32x1024, .bf16⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SampleRefIdeal.lean ====
abbrev S32x1x1024 : Shape := ⟨3, ![32, 1, 1024]⟩
abbrev S1x1024 : Shape := ⟨2, ![1, 1024]⟩
abbrev S1x1024x13344 : Shape := ⟨3, ![1, 1024, 13344]⟩
abbrev S1024 : Shape := ⟨1, ![1024]⟩
abbrev S_ : Shape := ⟨0, ![]⟩
abbrev S32x1 : Shape := ⟨2, ![32, 1]⟩
abbrev S32x1x1 : Shape := ⟨3, ![32, 1, 1]⟩
abbrev S1x1x1024 : Shape := ⟨3, ![1, 1, 1024]⟩
abbrev S32x1024 : Shape := ⟨2, ![32, 1024]⟩
abbrev S1024x13344 : Shape := ⟨2, ![1024, 13344]⟩
abbrev S32x13344 : Shape := ⟨2, ![32, 13344]⟩
abbrev S32x6144 : Shape := ⟨2, ![32, 6144]⟩
abbrev S32x7168 : Shape := ⟨2, ![32, 7168]⟩
abbrev S32x13312 : Shape := ⟨2, ![32, 13312]⟩

abbrev nBuf : Space → Nat
  | .hbm => 26
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S1x1024, .f32⟩
  | .hbm, ⟨2, _⟩ => ⟨S1x1024x13344, .f32⟩
  | .hbm, ⟨3, _⟩ => ⟨S1024, .f32⟩
  | .hbm, ⟨4, _⟩ => ⟨S32x1x1024, .f32⟩
  | .hbm, ⟨5, _⟩ => ⟨S_, .f32⟩
  | .hbm, ⟨6, _⟩ => ⟨S32x1, .f32⟩
  | .hbm, ⟨7, _⟩ => ⟨S32x1x1, .f32⟩
  | .hbm, ⟨8, _⟩ => ⟨S_, .f32⟩
  | .hbm, ⟨9, _⟩ => ⟨S32x1x1, .f32⟩
  | .hbm, ⟨10, _⟩ => ⟨S32x1x1, .f32⟩
  | .hbm, ⟨11, _⟩ => ⟨S_, .f32⟩
  | .hbm, ⟨12, _⟩ => ⟨S32x1x1, .f32⟩
  | .hbm, ⟨13, _⟩ => ⟨S32x1x1, .f32⟩
  | .hbm, ⟨14, _⟩ => ⟨S32x1x1, .f32⟩
  | .hbm, ⟨15, _⟩ => ⟨S32x1x1024, .f32⟩
  | .hbm, ⟨16, _⟩ => ⟨S32x1x1024, .f32⟩
  | .hbm, ⟨17, _⟩ => ⟨S1x1x1024, .f32⟩
  | .hbm, ⟨18, _⟩ => ⟨S32x1x1024, .f32⟩
  | .hbm, ⟨19, _⟩ => ⟨S32x1x1024, .f32⟩
  | .hbm, ⟨20, _⟩ => ⟨S32x1024, .f32⟩
  | .hbm, ⟨21, _⟩ => ⟨S1024x13344, .f32⟩
  | .hbm, ⟨22, _⟩ => ⟨S32x13344, .f32⟩
  | .hbm, ⟨23, _⟩ => ⟨S32x6144, .f32⟩
  | .hbm, ⟨24, _⟩ => ⟨S32x7168, .f32⟩
  | .hbm, ⟨25, _⟩ => ⟨S32x13312, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== MemKV.lean ====
abbrev S4x256x1024 : Shape := ⟨3, ![4, 256, 1024]⟩
abbrev S1x1024 : Shape := ⟨2, ![1, 1024]⟩
abbrev S1x1024x1024 : Shape := ⟨3, ![1, 1024, 1024]⟩
abbrev S1024x1024 : Shape := ⟨2, ![1024, 1024]⟩
abbrev S1024x2048 : Shape := ⟨2, ![1024, 2048]⟩
abbrev S1024 : Shape := ⟨1, ![1024]⟩
abbrev S256x1024 : Shape := ⟨2, ![256, 1024]⟩
abbrev S256 : Shape := ⟨1, ![256]⟩
abbrev S256x1 : Shape := ⟨2, ![256, 1]⟩

abbrev nBuf : Space → Nat
  | .hbm => 12
  | .vmem => 8
  | .smem => 0
  | _ => 0

abbrev bufTy : (tb : Table) → Fin (tcTables nBuf tb) → BufTy
  | .hbm, ⟨0, _⟩ => ⟨S4x256x1024, .f32⟩
  | .hbm, ⟨1, _⟩ => ⟨S1x1024, .f32⟩
  | .hbm, ⟨2, _⟩ => ⟨S1x1024x1024, .f32⟩
  | .hbm, ⟨3, _⟩ => ⟨S1x1024x1024, .f32⟩
  | .hbm, ⟨4, _⟩ => ⟨S1024x1024, .f32⟩
  | .hbm, ⟨5, _⟩ => ⟨S1024x1024, .f32⟩
  | .hbm, ⟨6, _⟩ => ⟨S1024x2048, .f32⟩
  | .hbm, ⟨7, _⟩ => ⟨S1024x2048, .bf16⟩
  | .hbm, ⟨8, _⟩ => ⟨S1024x1024, .f32⟩
  | .hbm, ⟨9, _⟩ => ⟨S1024, .f32⟩
  | .hbm, ⟨10, _⟩ => ⟨S1x1024, .f32⟩
  | .hbm, ⟨11, _⟩ => ⟨S1024x2048, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S256x1024, .f32⟩
  | .local _ .vmem, ⟨6, _⟩ => ⟨S256x1024, .f32⟩
  | .local _ .vmem, ⟨7, _⟩ => ⟨S256x1024, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MemKVRefIdeal.lean ====
abbrev S4x256x1024 : Shape := ⟨3, ![4, 256, 1024]⟩
abbrev S1x1024 : Shape := ⟨2, ![1, 1024]⟩
abbrev S1x1024x1024 : Shape := ⟨3, ![1, 1024, 1024]⟩
abbrev S1024 : Shape := ⟨1, ![1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S1024x1024 : Shape := ⟨2, ![1024, 1024]⟩
abbrev S1024x2048 : Shape := ⟨2, ![1024, 2048]⟩

abbrev nBuf : Space → Nat
  | .hbm => 27
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1x1024, .f32⟩
  | .hbm, ⟨2, _⟩ => ⟨S1x1024x1024, .f32⟩
  | .hbm, ⟨3, _⟩ => ⟨S1x1024x1024, .f32⟩
  | .hbm, ⟨4, _⟩ => ⟨S1024, .f32⟩
  | .hbm, ⟨5, _⟩ => ⟨S4x256x1024, .f32⟩
  | .hbm, ⟨6, _⟩ => ⟨S_, .f32⟩
  | .hbm, ⟨7, _⟩ => ⟨S4x256, .f32⟩
  | .hbm, ⟨8, _⟩ => ⟨S4x256x1, .f32⟩
  | .hbm, ⟨9, _⟩ => ⟨S_, .f32⟩
  | .hbm, ⟨10, _⟩ => ⟨S4x256x1, .f32⟩
  | .hbm, ⟨11, _⟩ => ⟨S4x256x1, .f32⟩
  | .hbm, ⟨12, _⟩ => ⟨S_, .f32⟩
  | .hbm, ⟨13, _⟩ => ⟨S4x256x1, .f32⟩
  | .hbm, ⟨14, _⟩ => ⟨S4x256x1, .f32⟩
  | .hbm, ⟨15, _⟩ => ⟨S4x256x1, .f32⟩
  | .hbm, ⟨16, _⟩ => ⟨S4x256x1024, .f32⟩
  | .hbm, ⟨17, _⟩ => ⟨S4x256x1024, .f32⟩
  | .hbm, ⟨18, _⟩ => ⟨S1x1x1024, .f32⟩
  | .hbm, ⟨19, _⟩ => ⟨S4x256x1024, .f32⟩
  | .hbm, ⟨20, _⟩ => ⟨S4x256x1024, .f32⟩
  | .hbm, ⟨21, _⟩ => ⟨S1024x1024, .f32⟩
  | .hbm, ⟨22, _⟩ => ⟨S1024x1024, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S1024x2048, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== MemKeys.lean ====
abbrev S1024x2048 : Shape := ⟨2, ![1024, 2048]⟩
abbrev S1x256 : Shape := ⟨2, ![1, 256]⟩
abbrev S256 : Shape := ⟨1, ![256]⟩
abbrev S1024x1024 : Shape := ⟨2, ![1024, 1024]⟩
abbrev S256x1024 : Shape := ⟨2, ![256, 1024]⟩
abbrev S256x256 : Shape := ⟨2, ![256, 256]⟩
abbrev S256x1 : Shape := ⟨2, ![256, 1]⟩

abbrev nBuf : Space → Nat
  | .hbm => 5
  | .vmem => 5
  | .smem => 0
  | _ => 0

abbrev bufTy : (tb : Table) → Fin (tcTables nBuf tb) → BufTy
  | .hbm, ⟨0, _⟩ => ⟨S1024x2048, .f32⟩
  | .hbm, ⟨1, _⟩ => ⟨S1x256, .f32⟩
  | .hbm, ⟨2, _⟩ => ⟨S256, .f32⟩
  | .hbm, ⟨3, _⟩ => ⟨S1x256, .f32⟩
  | .hbm, ⟨4, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S1x256, .f32⟩
  | .local _ .vmem, ⟨3, _⟩ => ⟨S256x1024, .f32⟩
  | .local _ .vmem, ⟨4, _⟩ => ⟨S256x1024, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MemKeysRefIdeal.lean ====
abbrev S1024x2048 : Shape := ⟨2, ![1024, 2048]⟩
abbrev S1x256 : Shape := ⟨2, ![1, 256]⟩
abbrev S1024x1024 : Shape := ⟨2, ![1024, 1024]⟩
abbrev S1024x4x256 : Shape := ⟨3, ![1024, 4, 256]⟩
abbrev S256 : Shape := ⟨1, ![256]⟩
abbrev S_ : Shape := ⟨0, ![]⟩
abbrev S1024x4 : Shape := ⟨2, ![1024, 4]⟩
abbrev S1024x4x1 : Shape := ⟨3, ![1024, 4, 1]⟩
abbrev S1x1x256 : Shape := ⟨3, ![1, 1, 256]⟩

abbrev nBuf : Space → Nat
  | .hbm => 22
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1x256, .f32⟩
  | .hbm, ⟨2, _⟩ => ⟨S1024x1024, .f32⟩
  | .hbm, ⟨3, _⟩ => ⟨S1024x4x256, .f32⟩
  | .hbm, ⟨4, _⟩ => ⟨S256, .f32⟩
  | .hbm, ⟨5, _⟩ => ⟨S1024x4x256, .f32⟩
  | .hbm, ⟨6, _⟩ => ⟨S_, .f32⟩
  | .hbm, ⟨7, _⟩ => ⟨S1024x4, .f32⟩
  | .hbm, ⟨8, _⟩ => ⟨S1024x4x1, .f32⟩
  | .hbm, ⟨9, _⟩ => ⟨S_, .f32⟩
  | .hbm, ⟨10, _⟩ => ⟨S1024x4x1, .f32⟩
  | .hbm, ⟨11, _⟩ => ⟨S1024x4x1, .f32⟩
  | .hbm, ⟨12, _⟩ => ⟨S_, .f32⟩
  | .hbm, ⟨13, _⟩ => ⟨S1024x4x1, .f32⟩
  | .hbm, ⟨14, _⟩ => ⟨S1024x4x1, .f32⟩
  | .hbm, ⟨15, _⟩ => ⟨S1024x4x1, .f32⟩
  | .hbm, ⟨16, _⟩ => ⟨S1024x4x256, .f32⟩
  | .hbm, ⟨17, _⟩ => ⟨S1024x4x256, .f32⟩
  | .hbm, ⟨18, _⟩ => ⟨S1x1x256, .f32⟩
  | .hbm, ⟨19, _⟩ => ⟨S1024x4x256, .f32⟩
  | .hbm, ⟨20, _⟩ => ⟨S1024x4x256, .f32⟩
  | .hbm, ⟨21, _⟩ => ⟨S1024x1024, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Proof.Rows.lean ====
/- What the three projections share: the normalized row and its product with a column, the columns of the input weights, and the
scratch buffer that is filled in the first column step of a row block and read in the others. -/
module

public import Idealize.ShloMosaic.Lib.Pipeline.ValueKit
public import Idealize.ShloMosaic.Lib.Pipeline.ValueKit.Held

@[expose] public section

noncomputable section

namespace Cert.Proof.Rows

open Idealize.ShloMosaic

/-- Element `e` of the row `f`, normalized, with the weights `w`. -/
def normed (f w : Fin 1024 → EReal) (e : Fin 1024) : EReal :=
  f e * Ideal.rsqrt (Ideal.div (∑ z : Fin 1024, f z * f z) (Ideal.ofBits FTy.f32 1149239296#32)
    + Ideal.ofBits FTy.f32 897988541#32) * w e

/-- The normalized row times the column `v`. -/
def projected (f w v : Fin 1024 → EReal) : EReal := ∑ z : Fin 1024, normed f w z * v z

/-- Equal rows, weights and columns give equal products. -/
theorem projected_congr {f f' w w' v v' : Fin 1024 → EReal} (hf : ∀ z, f z = f' z) (hw : ∀ z, w z = w' z) (hv : ∀ z, v z = v' z) :
    projected f w v = projected f' w' v' := by
  rw [funext hf, funext hw, funext hv]

/-- The column of the weights that gives column `j` of the result: the 32 columns from 6144 on are left out. -/
def src (j : Fin 13312) : Fin 13344 := if h : j.val < 6144 then ⟨j.val, by omega⟩ else ⟨j.val + 32, by omega⟩

/-- A row of the columns before 6144 and of those from 6176 on, side by side, is read at `src`. -/
theorem at_src (f : Fin 13344 → EReal) (j : Fin 13312) :
    (if h : j.val < 6144 then f ⟨j.val, by omega⟩ else f ⟨6176 + (j.val - 6144), by omega⟩) = f (src j) := by
  unfold src
  split
  · rfl
  · exact congrArg f (Fin.ext (by show 6176 + (j.val - 6144) = j.val + 32; omega))

/-- A scratch `s` takes `p t` at the multiples `t` of `k` and is kept at the other points; the output `o` is made of the scratch and of
    what else the point reads, by `q`. At every point it is then made of what the scratch took at the last multiple of `k`. -/
theorem out_of_held {N k : ℕ} {S O : Type} (s : (n : ℕ) → n < N → S) (o : Fin N → O) (p : Fin N → S) (q : S → Fin N → O)
    (sA : ∀ t : Fin N, t.val % k = 0 → s t.val t.isLt = p t)
    (sB : ∀ t : Fin N, ¬t.val % k = 0 → s t.val t.isLt = s (t.val - 1) (Nat.lt_of_le_of_lt (Nat.sub_le _ _) t.isLt))
    (oA : ∀ t : Fin N, t.val % k = 0 → o t = q (p t) t)
    (oB : ∀ t : Fin N, ¬t.val % k = 0 → o t = q (s (t.val - 1) (Nat.lt_of_le_of_lt (Nat.sub_le _ _) t.isLt)) t)
    (t : Fin N) : o t = q (p ⟨k * (t.val / k), lt_of_le_of_lt (Nat.mul_div_le _ _) t.isLt⟩) t := by
  have hs := Pipeline.eq_of_write_hold s k p sA sB t
  by_cases h : t.val % k = 0
  · rw [oA t h, ← sA t h, hs]
  · rw [oB t h, ← sB t h, hs]

end Cert.Proof.Rows

end
-- ==== Proof.ProjValue.lean ====
/- The value of the input projection: what the kernel writes is the reference's result, element by element. -/
module

public import proofs.«01_k».proof.Proof.Gen.ProjIdeal.Value
public import proofs.«01_k».proof.Proof.Gen.ProjRefIdeal.Run
public import proofs.«01_k».proof.Proof.Gen.ProjRefIdeal.Read
public import proofs.«01_k».proof.Defs
public import proofs.«01_k».proof.Proof.Rows
public import Idealize.ShloMosaic.Lib.Pipeline.ValueKit

@[expose] public section

set_option maxRecDepth 16384

noncomputable section

namespace Cert.Proof.Proj

open Idealize.ShloMosaic Idealize.ShloMosaic.TcCoe Idealize.SL.Sem
open Idealize.ShloMosaic.Pipeline (Dat)
open Cert.Proof.Rows
open Cert.ProjIdeal Cert.ProjIdeal.Gen Cert.ProjRefIdeal.Read

variable (m : (ℓ : Loc nD τ sig) → Buf (Elt Ideal) ℓ)

/-- Where the blocks stand: grid point `t` is row block `t / 13` and column block `t % 13`; the weights of the normalization are
    staged whole. -/
theorem places : ∀ t : Fin cfg0.N, win0_0.index t = ![t.val / 13, 0] ∧ win0_1.index t = ![0, 0] ∧ win0_2.index t = ![0, t.val % 13]
    ∧ win0_3.index t = ![t.val / 13, t.val % 13] :=
  (by decide +kernel : ∀ t : Fin grid0.N, _)

/-- The prompt. -/
abbrev XP := (⟨S4x8192x1024, .f32⟩ : BufTy).Contents (Elt Ideal)
/-- The weights of the normalization. -/
abbrev NW := (⟨S1x1024, .f32⟩ : BufTy).Contents (Elt Ideal)
/-- The weights of the projection. -/
abbrev WI := (⟨S1x1024x13344, .f32⟩ : BufTy).Contents (Elt Ideal)

/-- Token `u` of the prompt read as one list. -/
abbrev row (x : XP) (u : Fin 32768) (z : Fin 1024) : EReal := x (ix3 ⟨u.val / 8192, by omega⟩ ⟨u.val % 8192, by omega⟩ z)

/-- Element `j` of the projected token `u`. -/
def outv (x : XP) (w : NW) (wi : WI) (u : Fin 32768) (j : Fin 13312) : EReal :=
  projected (row x u) (fun z => w (ix2 0 z)) (fun z => wi (ix3 0 z (src j)))

/-- The prompt read as one list of tokens. -/
theorem rows_apply (x : XP) (u : Fin 32768) (e : Fin 1024) :
    shapeCast S32768x1024 x shapeCasts_S4x8192x1024_S32768x1024 (ix2 u e) = row x u e := by
  pointwise

/-- The weights without the 32 columns. -/
def packed (x : WI) : (⟨S1024x13312, .bf16⟩ : BufTy).Contents (Elt Ideal) :=
  truncf (F := Ideal) .bf16 (concatenate S1024x13312 1 [⟨S1024x6144, (extractStridedSlice S1024x6144 ![0, 0]
      (shapeCast S1024x13344 x shapeCasts_S1x1024x13344_S1024x13344) slices_S1024x13344_S1024x6144_0_0)⟩,
    ⟨S1024x7168, (extractStridedSlice S1024x7168 ![0, 6176] (shapeCast S1024x13344 x shapeCasts_S1x1024x13344_S1024x13344)
      slices_S1024x13344_S1024x7168_0_6176)⟩] concatenates_S1024x6144_S1024x7168_S1024x13312_d1) bitsLt_bf16_f32

/-- The weights without the 32 columns, read at an element. -/
theorem packed_apply (x : WI) (r : Fin 1024) (j : Fin 13312) : packed x (ix2 r j) = x (ix3 0 r (src j)) := by
  unfold packed
  pointwise
  exact at_src (fun q => x (ix3 0 r q)) j

/-- The weights of the normalization as the host passes them. -/
def passed (x : NW) : NW := broadcastInDim S1x1024 ![1] bcast_S1024_S1x1024_1 (shapeCast S1024 x shapeCasts_S1x1024_S1024)

/-- The weights of the normalization as the host passes them, read at an element. -/
theorem passed_apply (x : NW) (e : Fin 1024) : passed x (ix2 0 e) = x (ix2 0 e) := by
  unfold passed
  pointwise

set_option maxHeartbeats 4000000 in
/-- The reference's result, read at an element. -/
theorem ref_apply (x : XP) (w : NW) (wi : WI) (r : Fin 32768) (j : Fin 13312) :
    val_main_v19 x w wi (ix2 r j) = outv x w wi r j := by
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13, val_main_v14, val_main_v15, val_main_v16, val_main_v17, val_main_v18, val_main_v19]
  exact at_src (fun q => projected (row x r) (fun z => w (ix2 0 z)) (fun z => wi (ix3 0 z q))) j

variable (m : (ℓ : Loc nD τ sig) → Buf (Elt Ideal) ℓ)

set_option maxHeartbeats 400000 in
/-- The block of tokens. -/
theorem blk0 (c : Dev nD) (t : Fin cfg0.N) (r : Fin 2048) (e : Fin 1024) (u : Fin 32768) (hu : u.val = 2048 * (t.val / 13) + r.val) :
    iblk m c 0 t (ix2 r e) = row (m ((c : Thread nD τ).loc main_arg0)) u e := by
  have hv : V m c main_v5 = (shapeCast S32768x1024 (m ((c : Thread nD τ).loc main_arg0) : XP) shapeCasts_S4x8192x1024_S32768x1024
      : (⟨S32768x1024, .f32⟩ : BufTy).Contents (Elt Ideal)) := by
    show StableHlo.after hostOps0 _ _ = _
    after_results_simp
    rfl
  have hz : (win0_0.blk t).view.emb (ix2 r e) = ix2 u e := by blk_ext [places t]
  show V m c main_v5 ((win0_0.blk t).view.emb (ix2 r e)) = _
  rw [hv, hz]
  exact rows_apply _ _ _

set_option maxHeartbeats 400000 in
/-- The weights of the normalization, staged whole. -/
theorem blk1 (c : Dev nD) (t : Fin cfg0.N) (e : Fin 1024) :
    iblk m c 1 t (ix2 0 e) = m ((c : Thread nD τ).loc main_arg1) (ix2 0 e) := by
  have hv : V m c main_v7 = passed (m ((c : Thread nD τ).loc main_arg1)) := by
    show StableHlo.after hostOps0 _ _ = _
    after_results_simp
    rfl
  have hz : (win0_1.blk t).view.emb (ix2 0 e) = ix2 0 e := by blk_ext [places t]
  show V m c main_v7 ((win0_1.blk t).view.emb (ix2 0 e)) = _
  rw [hv, hz]
  exact passed_apply _ _

set_option maxHeartbeats 400000 in
/-- The block of the projection's weights. -/
theorem blk2 (c : Dev nD) (t : Fin cfg0.N) (r : Fin 1024) (e : Fin 1024) (j : Fin 13312) (hj : j.val = 1024 * (t.val % 13) + e.val) :
    iblk m c 2 t (ix2 r e) = m ((c : Thread nD τ).loc main_arg2) (ix3 0 r (src j)) := by
  have hv : V m c main_v4 = packed (m ((c : Thread nD τ).loc main_arg2)) := by
    show StableHlo.after hostOps0 _ _ = _
    after_results_simp
    rfl
  have hz : (win0_2.blk t).view.emb (ix2 r e) = ix2 r j := by blk_ext [places t]
  show V m c main_v4 ((win0_2.blk t).view.emb (ix2 r e)) = _
  rw [hv, hz]
  exact packed_apply _ _ _

/-- The two payloads, one after the other: a normalized row of the tokens' block times a column of the weights' block. -/
theorem pay (x : Vec Ideal S2048x1024 .f32) (w : Vec Ideal S1x1024 .f32) (v : Vec Ideal S1024x1024 .bf16) (r : Fin 2048) (e : Fin 1024) :
    k0_pay2 (k0_pay1 x w) v (ix2 r e)
      = projected (fun z => x (ix2 r z)) (fun z => w (ix2 0 z)) (fun z => v (ix2 z e)) := by
  open_payloads
  pointwise
  rfl

/-- What a point leaves in its block of the result. -/
theorem point (c : Dev nD) (t : Fin cfg0.N) (y : S2048x1024.Idx) (u : Fin 32768) (hu : u.val = 2048 * (t.val / 13) + (y 0).val)
    (j : Fin 13312) (hj : j.val = 1024 * (t.val % 13) + (y 1).val) :
    (outsAt0 m c t.val t.isLt).1 y
      = outv (m ((c : Thread nD τ).loc main_arg0)) (m ((c : Thread nD τ).loc main_arg1)) (m ((c : Thread nD τ).loc main_arg2)) u j := by
  rw [out_of_held (k := 13) (fun n h => (outsAt0 m c n h).2) (fun t => (outsAt0 m c t.val t.isLt).1)
    (fun t => k0_pay1 (iblk m c 0 t) (iblk m c 1 t)) (fun s t => k0_pay2 s (iblk m c 2 t))
    (fun t h => by rw [outsAt0_A m c t h]; funext y; frame_out)
    (fun t h => by rw [outsAt0_B m c t h]; rfl)
    (fun t h => by rw [outsAt0_A m c t h]; funext y; frame_out)
    (fun t h => by
      rw [outsAt0_B m c t h]
      funext y
      frame_out
      rw [(Memref.isWhole_whole _).read_unread])
    t, eq_ix2 y]
  have hf : u.val = 2048 * (13 * (t.val / 13) / 13) + (y 0).val := by
    rw [Nat.mul_div_cancel_left _ (by decide : 0 < 13)]; exact hu
  refine (pay _ _ _ (y 0) (y 1)).trans ?_
  exact projected_congr (fun z => blk0 m c _ _ z u hf) (fun z => blk1 m c _ z) (fun z => blk2 m c t z _ j hj)

/-- The array the kernel leaves is the reference's result. -/
theorem final (c : Dev nD) : (dats m 0 c).arrAt 3 cfg0.N
    = val_main_v19 (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  have ht : t.val < 208 := lt_of_lt_of_eq t.isLt N_0
  have hu : 2048 * (t.val / 13) + (y 0).val < 32768 := by
    have h0 : (y 0).val < 2048 := (y 0).isLt; omega
  have hj : 1024 * (t.val % 13) + (y 1).val < 13312 := by
    have h0 : (y 1).val < 1024 := (y 1).isLt; omega
  have hz : ((cfg0.win 3).blk t).view.emb y = ix2 ⟨2048 * (t.val / 13) + (y 0).val, hu⟩ ⟨1024 * (t.val % 13) + (y 1).val, hj⟩ := by
    blk_ext [places t]
  refine (point m c t y ⟨_, hu⟩ rfl ⟨_, hj⟩ rfl).trans ?_
  rw [← ref_apply]
  exact congrArg _ hz.symm

/-- Kernel and reference, launched on the same arguments, leave the same result and keep the arguments. -/
theorem algebraic : Cert.algebraic_ProjIdeal_ProjRefIdeal
    (hProjIdeal := Cert.ProjIdeal.Gen.facts) (hProjRefIdeal := Cert.ProjRefIdeal.Gen.facts) := by
  intro m g m' g' _ hin
  refine ⟨fun c => val_main_v19 (m ((c : Thread nD τ).loc main_arg0)) (m ((c : Thread nD τ).loc main_arg1))
        (m ((c : Thread nD τ).loc main_arg2)), ?_, ?_⟩
  · exact (θ_run _ _ _).mono (fun r h c => ⟨(h c).1.trans (final m c), (h c).2⟩) (Cert.ProjIdeal.Value.run_blocks m g)
  · refine (θ_run _ _ _).mono (fun r h c => ⟨(h c).1.trans ?_, (h c).2⟩) (Cert.ProjRefIdeal.Value.run m' g')
    refine (val_main_v19_eq _ _ _).trans ?_
    obtain ⟨e0, e1, e2⟩ := hin c
    rw [e0, e1, e2]

end Cert.Proof.Proj

end
-- ==== Proof.MemoryValue.lean ====
/- The value of the attention over the memory tokens: what the kernel writes is the reference's result, element by element. -/
module

public import proofs.«01_k».proof.Proof.Gen.MemoryIdeal.Value
public import proofs.«01_k».proof.Proof.Gen.MemoryRefIdeal.Run
public import proofs.«01_k».proof.Proof.Gen.MemoryRefIdeal.Read
public import proofs.«01_k».proof.Defs
public import Idealize.ShloMosaic.Lib.Pipeline.ValueKit

@[expose] public section

set_option maxRecDepth 16384

noncomputable section

namespace Cert.Proof.Mem

open Idealize.ShloMosaic Idealize.ShloMosaic.TcCoe Idealize.SL.Sem
open Idealize.ShloMosaic.Pipeline (Dat)
open Cert.MemoryIdeal Cert.MemoryIdeal.Gen Cert.MemoryRefIdeal.Read

variable (m : (ℓ : Loc nD τ sig) → Buf (Elt Ideal) ℓ)

/-- Where the blocks of the four operands and of the result stand: the grid's first axis is the batch entry, its second the
    block of 512 tokens. -/
theorem places : ∀ t : Fin cfg0.N, win0_0.index t = ![t.val / 16, t.val % 16, 9] ∧ win0_1.index t = ![t.val / 16, 0, 0]
    ∧ win0_2.index t = ![t.val / 16, 0, 0] ∧ win0_3.index t = ![0, 0] ∧ win0_4.index t = ![t.val / 16, t.val % 16, 0] :=
  (by decide +kernel : ∀ t : Fin grid0.N, _)

/-- The four argument arrays the result is a function of. -/
abbrev P3 := (⟨S4x8192x13312, .f32⟩ : BufTy).Contents (Elt Ideal)
/-- The keys' and the values' arrays. -/
abbrev KV := (⟨S4x256x1024, .f32⟩ : BufTy).Contents (Elt Ideal)
/-- The weights of the queries' normalization. -/
abbrev QW := (⟨S1x256, .f32⟩ : BufTy).Contents (Elt Ideal)

/-- Element `x` of the normalized query of token `t`, the head's columns beginning at `a`. -/
def qn (p3 : P3) (w : QW) (b : Fin 4) (t : Fin 8192) (a : ℕ) (ha : a + 256 ≤ 1024) (x : Fin 256) : EReal :=
  p3 (ix3 b t ⟨9216 + (a + x.val), by omega⟩) * Ideal.rsqrt (Ideal.div
    (∑ z : Fin 256, p3 (ix3 b t ⟨9216 + (a + z.val), by omega⟩) * p3 (ix3 b t ⟨9216 + (a + z.val), by omega⟩))
    (Ideal.ofBits FTy.f32 1132462080#32) + Ideal.ofBits FTy.f32 897988541#32) * w (ix2 0 x)

/-- The score of the query of token `t` with memory token `j`. -/
def score (p3 : P3) (k : KV) (w : QW) (b : Fin 4) (t : Fin 8192) (a : ℕ) (ha : a + 256 ≤ 1024) (j : Fin 256) : EReal :=
  (∑ x : Fin 256, qn p3 w b t a ha x * k (ix3 b j ⟨a + x.val, by omega⟩)) * Ideal.ofBits FTy.f32 1031798784#32

/-- The softmax-weighted sum of the values. -/
def outv (p3 : P3) (k v : KV) (w : QW) (b : Fin 4) (t : Fin 8192) (a : ℕ) (ha : a + 256 ≤ 1024) (d : Fin 256) : EReal :=
  ∑ j : Fin 256, Ideal.div
    (Ideal.exp (score p3 k w b t a ha j - Finset.fold max (Ideal.ofBits FTy.f32 4286578688#32) (score p3 k w b t a ha) Finset.univ))
    (∑ j' : Fin 256, Ideal.exp (score p3 k w b t a ha j'
      - Finset.fold max (Ideal.ofBits FTy.f32 4286578688#32) (score p3 k w b t a ha) Finset.univ)) * v (ix3 b j ⟨a + d.val, by omega⟩)

set_option maxHeartbeats 4000000 in
/-- The reference's result, read at an element. -/
theorem ref_apply (p3 : P3) (k v : KV) (w : QW) (b : Fin 4) (t : Fin 8192) (a : ℕ) (ha : a + 256 ≤ 1024) (h : ∃ n : Fin 4, a = n.val * 256)
    (d : Fin 256) : val_main_v36 p3 k v w (ix3 b t ⟨a + d.val, by omega⟩) = outv p3 k v w b t a ha d := by
  obtain ⟨n, rfl⟩ := h
  pointwise [val_main_v0, val_main_v1, val_main_v2, val_main_v3, val_main_cst, val_main_v4, val_main_v5, val_main_cst_0, val_main_v6, val_main_v7, val_main_cst_1, val_main_v8, val_main_v9, val_main_v10, val_main_v11, val_main_v12, val_main_v13, val_main_v14, val_main_v15, val_main_v16, val_main_v17, val_main_v18, val_main_v19, val_main_v20, val_main_v21, val_main_cst_2, val_main_v22, val_main_v23, val_main_cst_3, val_main_v24, val_main_v25, val_main_v26, val_main_v27, val_main_v28, val_main_cst_4, val_main_v29, val_main_v30, val_main_v31, val_main_v32, val_main_v33, val_main_v34, val_main_v35, val_main_v36]
  rfl

/-- The block of queries, read in the projection's array. -/
theorem blk_q (c : Dev nD) (t : Fin cfg0.N) (r : Fin 512) (e : Fin 1024) (b : Fin 4) (hb : b.val = t.val / 16) (u : Fin 8192)
    (hu : u.val = 512 * (t.val % 16) + r.val) :
    iblk m c 0 t (ix3 0 r e) = m ((c : Thread nD τ).loc main_arg0) (ix3 b u ⟨9216 + e.val, by omega⟩) := by
  blk_ext [iblk, V, places t]

/-- The block of keys, read in its array. -/
theorem blk_k (c : Dev nD) (t : Fin cfg0.N) (r : Fin 256) (e : Fin 1024) (b : Fin 4) (hb : b.val = t.val / 16) :
    iblk m c 1 t (ix3 0 r e) = m ((c : Thread nD τ).loc main_arg1) (ix3 b r e) := by
  blk_ext [iblk, V, places t]

/-- The block of values, read in its array. -/
theorem blk_v (c : Dev nD) (t : Fin cfg0.N) (r : Fin 256) (e : Fin 1024) (b : Fin 4) (hb : b.val = t.val / 16) :
    iblk m c 2 t (ix3 0 r e) = m ((c : Thread nD τ).loc main_arg2) (ix3 b r e) := by
  blk_ext [iblk, V, places t]
/-- The normalization's weights. -/
theorem blk_w (c : Dev nD) (t : Fin cfg0.N) (e : Fin 256) :
    iblk m c 3 t (ix2 0 e) = m ((c : Thread nD τ).loc main_arg3) (ix2 0 e) := by
  unfold iblk
  blk_simp
  have hv : V m c main_v1 = (broadcastInDim S1x256 ![1] bcast_S256_S1x256_1
      (shapeCast S256 (m ((c : Thread nD τ).loc main_arg3) : QW) shapeCasts_S1x256_S256) : QW) := by
    entry_read
    rfl
  show V m c main_v1 _ = _
  rw [hv]
  pointwise
  blk_ext [places t]

/-- What a grid point stores at an element of its block is the reference at the element's place in the array. -/
theorem point (c : Dev nD) (t : Fin cfg0.N) (y : S1x512x1024.Idx) :
    out0_4 (iblk m c 0 t) (iblk m c 1 t) (iblk m c 2 t) (iblk m c 3 t) y
      = val_main_v36 (m ((c : Thread nD τ).loc main_arg0)) (m ((c : Thread nD τ).loc main_arg1))
          (m ((c : Thread nD τ).loc main_arg2)) (m ((c : Thread nD τ).loc main_arg3)) (((cfg0.win 4).blk t).view.emb y) := by
  have hb : t.val / 16 < 4 := by have := t.isLt; simp only [show cfg0.N = 64 from rfl] at this; omega
  unfold out0_4
  canon_tiles x h
  all_goals
    open_payloads
    pointwise
    have hu : 512 * (t.val % 16) + (x 1).val < 8192 := by omega
    simp only [blk_q m c t _ _ ⟨t.val / 16, hb⟩ rfl ⟨512 * (t.val % 16) + (x 1).val, hu⟩ rfl, blk_k m c t _ _ ⟨t.val / 16, hb⟩ rfl,
      blk_v m c t _ _ ⟨t.val / 16, hb⟩ rfl, blk_w m c t]
    generalize hz : ((cfg0.win 4).blk t).view.emb y = z
  case piece0 =>
    have e : z = ix3 ⟨t.val / 16, hb⟩ ⟨512 * (t.val % 16) + (x 1).val, hu⟩ ⟨768 + (x 2).val, by omega⟩ := by
      subst hz
      blk_ext [places t]
    rw [e, ref_apply _ _ _ _ _ _ 768 (by omega) ⟨3, rfl⟩ (x 2)]
    rfl
  case piece1 =>
    have e : z = ix3 ⟨t.val / 16, hb⟩ ⟨512 * (t.val % 16) + (x 1).val, hu⟩ ⟨512 + (x 2).val, by omega⟩ := by
      subst hz
      blk_ext [places t]
    rw [e, ref_apply _ _ _ _ _ _ 512 (by omega) ⟨2, rfl⟩ (x 2)]
    rfl
  case piece2 =>
    have e : z = ix3 ⟨t.val / 16, hb⟩ ⟨512 * (t.val % 16) + (x 1).val, hu⟩ ⟨256 + (x 2).val, by omega⟩ := by
      subst hz
      blk_ext [places t]
    rw [e, ref_apply _ _ _ _ _ _ 256 (by omega) ⟨1, rfl⟩ (x 2)]
    rfl
  case piece3 =>
    have e : z = ix3 ⟨t.val / 16, hb⟩ ⟨512 * (t.val % 16) + (x 1).val, hu⟩ ⟨0 + (x 2).val, by omega⟩ := by
      subst hz
      blk_ext [places t]
    rw [e, ref_apply _ _ _ _ _ _ 0 (by omega) ⟨0, rfl⟩ (x 2)]
    unfold outv score qn
    simp only [Nat.zero_add]

/-- The array the kernel leaves is the reference's result. -/
theorem final (c : Dev nD) : (dats m 0 c).arrAt 4 cfg0.N
    = val_main_v36 (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp
  rw [after0_4]
  exact point m c t y

/-- Kernel and reference, launched on the same arguments, leave the same result and keep the arguments. -/
theorem algebraic : Cert.algebraic_MemoryIdeal_MemoryRefIdeal
    (hMemoryIdeal := Cert.MemoryIdeal.Gen.facts) (hMemoryRefIdeal := Cert.MemoryRefIdeal.Gen.facts) := by
  intro m g m' g' _ hin
  refine ⟨fun c => val_main_v36 (m ((c : Thread nD τ).loc main_arg0)) (m ((c : Thread nD τ).loc main_arg1))
        (m ((c : Thread nD τ).loc main_arg2)) (m ((c : Thread nD τ).loc main_arg3)), ?_, ?_⟩
  · exact (θ_run _ _ _).mono (fun r h c => ⟨(h c).1.trans (final m c), (h c).2⟩) (Cert.MemoryIdeal.Value.run_blocks m g)
  · refine (θ_run _ _ _).mono (fun r h c => ⟨(h c).1.trans ?_, (h c).2⟩) (Cert.MemoryRefIdeal.Value.run m' g')
    refine (val_main_v36_eq m' c).trans ?_
    obtain ⟨e0, e1, e2, e3⟩ := hin c
    rw [e0, e1, e2, e3]

end Cert.Proof.Mem

end
-- ==== Proof.MergeValue.lean ====
/- The value of the merge of the three branches: what the kernel writes is the reference's result, element by element. -/
module

public import proofs.«01_k».proof.Proof.Gen.MergeIdeal.Value
public import proofs.«01_k».proof.Proof.Gen.MergeRefIdeal.Run
public import proofs.«01_k».proof.Proof.Gen.MergeRefIdeal.Read
public import proofs.«01_k».proof.Defs
public import proofs.«01_k».proof.Defs
public import Idealize.ShloMosaic.Lib.Pipeline.ValueKit

@[expose] public section

set_option maxRecDepth 16384

noncomputable section

namespace Cert.Proof.Merge

open Idealize.ShloMosaic Idealize.ShloMosaic.TcCoe Idealize.SL.Sem
open Idealize.ShloMosaic.Pipeline (Dat)
open Cert.MergeIdeal Cert.MergeIdeal.Gen Cert.MergeRefIdeal.Read

variable (m : (ℓ : Loc nD τ sig) → Buf (Elt Ideal) ℓ)

/-- Where the blocks stand: grid point `t` is a block of 512 tokens; the three gates' blocks are three column blocks of one array;
    the weights are staged whole. -/
theorem places : ∀ t : Fin cfg0.N, win0_0.index t = ![t.val, 0] ∧ win0_1.index t = ![t.val, 0] ∧ win0_2.index t = ![t.val, 0]
    ∧ win0_3.index t = ![t.val, 10] ∧ win0_4.index t = ![t.val, 11] ∧ win0_5.index t = ![t.val, 12] ∧ win0_6.index t = ![t.val, 0]
    ∧ win0_7.index t = ![0, 0] ∧ win0_8.index t = ![0, 0] ∧ win0_9.index t = ![0, 0] ∧ win0_10.index t = ![0, 0]
    ∧ win0_11.index t = ![0, 0] ∧ win0_12.index t = ![t.val, 0] ∧ win0_13.index t = ![t.val, 0] :=
  (by decide +kernel : ∀ t : Fin grid0.N, _)

/-- The recurrence's result, the first branch. -/
abbrev Y0 := (⟨S32768x2048, .bf16⟩ : BufTy).Contents (Elt Ideal)
/-- Another branch's result. -/
abbrev Y1 := (⟨S32768x1024, .bf16⟩ : BufTy).Contents (Elt Ideal)
/-- The projection whose columns are the gates. -/
abbrev PM := (⟨S32768x13312, .f32⟩ : BufTy).Contents (Elt Ideal)
/-- The residual stream. -/
abbrev XP := (⟨S4x8192x1024, .f32⟩ : BufTy).Contents (Elt Ideal)
/-- The first branch's weights. -/
abbrev W0 := (⟨S1x2048x1024, .f32⟩ : BufTy).Contents (Elt Ideal)
/-- Another weight matrix. -/
abbrev W1 := (⟨S1x1024x1024, .f32⟩ : BufTy).Contents (Elt Ideal)
/-- The weights of the normalization. -/
abbrev NW := (⟨S1x1024, .f32⟩ : BufTy).Contents (Elt Ideal)

/-- The gate of token `r` at column `e`, the gates' columns beginning at `o`. -/
def gate (p : PM) (r : Fin 32768) (o : ℕ) (ho : o + 1024 ≤ 13312) (e : Fin 1024) : EReal :=
  Ideal.div 1 (1 + Ideal.exp (-(p (ix2 r ⟨o + e.val, by omega⟩))))

/-- The gated sum of the three branches. -/
def merged (y0 : Y0) (y1 y2 : Y1) (p : PM) (w0 : W0) (w1 w2 : W1) (r : Fin 32768) (e : Fin 1024) : EReal :=
  gate p r 10240 (by omega) e * (∑ x : Fin 2048, y0 (ix2 r x) * w0 (ix3 0 x e))
  + gate p r 11264 (by omega) e * (∑ x : Fin 1024, y1 (ix2 r x) * w1 (ix3 0 x e))
  + gate p r 12288 (by omega) e * (∑ x : Fin 1024, y2 (ix2 r x) * w2 (ix3 0 x e))

/-- The residual stream with the projected sum added. -/
def x1 (y0 : Y0) (y1 y2 : Y1) (p : PM) (xp : XP) (w0 : W0) (w1 w2 w3 : W1) (r : Fin 32768) (e : Fin 1024) : EReal :=
  xp (ix3 ⟨r.val / 8192, by omega⟩ ⟨r.val % 8192, by omega⟩ e) + ∑ x : Fin 1024, merged y0 y1 y2 p w0 w1 w2 r x * w3 (ix3 0 x e)

/-- The normalized stream. -/
def hf (y0 : Y0) (y1 y2 : Y1) (p : PM) (xp : XP) (w0 : W0) (w1 w2 w3 : W1) (nw : NW) (r : Fin 32768) (e : Fin 1024) : EReal :=
  x1 y0 y1 y2 p xp w0 w1 w2 w3 r e * Ideal.rsqrt (Ideal.div
      (∑ z : Fin 1024, x1 y0 y1 y2 p xp w0 w1 w2 w3 r z * x1 y0 y1 y2 p xp w0 w1 w2 w3 r z) (Ideal.ofBits FTy.f32 1149239296#32)
    + Ideal.ofBits FTy.f32 897988541#32) * nw (ix2 0 e)

set_option maxHeartbeats 4000000 in
/-- The reference's first result, read at an element. -/
theorem ref_x1 (y0 : Y0) (y1 y2 : Y1) (p : PM) (xp : XP) (w0 : W0) (w1 w2 w3 : W1) (r : Fin 32768) (e : Fin 1024) :
    val_main_v38 y0 y1 y2 p xp w0 w1 w2 w3 (ix2 r e) = x1 y0 y1 y2 p xp w0 w1 w2 w3 r e := by
  pointwise [val_main_v0, val_main_v1, val_main_v2, val_main_cst, val_main_v3, val_main_v4, val_main_cst_0, val_main_v5, val_main_v6, val_main_v7, val_main_v8, val_main_v9, val_main_v10, val_main_v11, val_main_v12, val_main_v13, val_main_cst_1, val_main_v14, val_main_v15, val_main_cst_2, val_main_v16, val_main_v17, val_main_v18, val_main_v19, val_main_v20, val_main_v21, val_main_v22, val_main_v23, val_main_v24, val_main_v25, val_main_cst_3, val_main_v26, val_main_v27, val_main_cst_4, val_main_v28, val_main_v29, val_main_v30, val_main_v31, val_main_v32, val_main_v33, val_main_v34, val_main_v35, val_main_v36, val_main_v37, val_main_v38]
  rfl

set_option maxHeartbeats 4000000 in
/-- The reference's second result, read at an element. -/
theorem ref_hf (y0 : Y0) (y1 y2 : Y1) (p : PM) (xp : XP) (w0 : W0) (w1 w2 w3 : W1) (nw : NW) (r : Fin 32768) (e : Fin 1024) :
    val_main_v53 y0 y1 y2 p xp w0 w1 w2 w3 nw (ix2 r e) = hf y0 y1 y2 p xp w0 w1 w2 w3 nw r e := by
  pointwise [val_main_v39, val_main_v40, val_main_cst_5, val_main_v41, val_main_v42, val_main_cst_6, val_main_v43, val_main_v44, val_main_cst_7, val_main_v45, val_main_v46, val_main_v47, val_main_v48, val_main_v49, val_main_v50, val_main_v51, val_main_v52, val_main_v53]
  simp only [ref_x1]
  rfl

/-- The block of the first branch. -/
theorem blk0 (c : Dev nD) (t : Fin cfg0.N) (r : Fin 512) (e : Fin 2048) (u : Fin 32768) (hu : u.val = 512 * t.val + r.val) :
    iblk m c 0 t (ix2 r e) = m ((c : Thread nD τ).loc main_arg0) (ix2 u e) := by
  blk_ext [iblk, V, places t]

/-- The block of the second branch. -/
theorem blk1 (c : Dev nD) (t : Fin cfg0.N) (r : Fin 512) (e : Fin 1024) (u : Fin 32768) (hu : u.val = 512 * t.val + r.val) :
    iblk m c 1 t (ix2 r e) = m ((c : Thread nD τ).loc main_arg1) (ix2 u e) := by
  blk_ext [iblk, V, places t]

/-- The block of the third branch. -/
theorem blk2 (c : Dev nD) (t : Fin cfg0.N) (r : Fin 512) (e : Fin 1024) (u : Fin 32768) (hu : u.val = 512 * t.val + r.val) :
    iblk m c 2 t (ix2 r e) = m ((c : Thread nD τ).loc main_arg2) (ix2 u e) := by
  blk_ext [iblk, V, places t]

/-- The block of the gate's columns from 10240 on. -/
theorem blk3 (c : Dev nD) (t : Fin cfg0.N) (r : Fin 512) (e : Fin 1024) (u : Fin 32768) (hu : u.val = 512 * t.val + r.val) :
    iblk m c 3 t (ix2 r e) = m ((c : Thread nD τ).loc main_arg3) (ix2 u ⟨10240 + e.val, by omega⟩) := by
  blk_ext [iblk, V, places t]

/-- The block of the gate's columns from 11264 on. -/
theorem blk4 (c : Dev nD) (t : Fin cfg0.N) (r : Fin 512) (e : Fin 1024) (u : Fin 32768) (hu : u.val = 512 * t.val + r.val) :
    iblk m c 4 t (ix2 r e) = m ((c : Thread nD τ).loc main_arg3) (ix2 u ⟨11264 + e.val, by omega⟩) := by
  blk_ext [iblk, V, places t]

/-- The block of the gate's columns from 12288 on. -/
theorem blk5 (c : Dev nD) (t : Fin cfg0.N) (r : Fin 512) (e : Fin 1024) (u : Fin 32768) (hu : u.val = 512 * t.val + r.val) :
    iblk m c 5 t (ix2 r e) = m ((c : Thread nD τ).loc main_arg3) (ix2 u ⟨12288 + e.val, by omega⟩) := by
  blk_ext [iblk, V, places t]

/-- The residual stream read as one list of tokens. -/
theorem rows_apply (x : XP) (u : Fin 32768) (e : Fin 1024) :
    shapeCast S32768x1024 x shapeCasts_S4x8192x1024_S32768x1024 (ix2 u e)
      = x (ix3 ⟨u.val / 8192, by omega⟩ ⟨u.val % 8192, by omega⟩ e) := by
  pointwise

/-- The first branch's weights without their leading axis. -/
theorem w0_apply (x : W0) (r : Fin 2048) (e : Fin 1024) :
    truncf (F := Ideal) .bf16 (shapeCast S2048x1024 x shapeCasts_S1x2048x1024_S2048x1024) bitsLt_bf16_f32 (ix2 r e) = x (ix3 0 r e) := by
  pointwise

/-- A weight matrix without its leading axis. -/
theorem w1_apply (x : W1) (r : Fin 1024) (e : Fin 1024) :
    truncf (F := Ideal) .bf16 (shapeCast S1024x1024 x shapeCasts_S1x1024x1024_S1024x1024) bitsLt_bf16_f32 (ix2 r e) = x (ix3 0 r e) := by
  pointwise

set_option maxHeartbeats 4000000 in
/-- The block of the residual stream. -/
theorem blk6 (c : Dev nD) (t : Fin cfg0.N) (r : Fin 512) (e : Fin 1024) (u : Fin 32768) (hu : u.val = 512 * t.val + r.val) :
    iblk m c 6 t (ix2 r e) = m ((c : Thread nD τ).loc main_arg4) (ix3 ⟨u.val / 8192, by omega⟩ ⟨u.val % 8192, by omega⟩ e) := by
  have hv : V m c main_v0 = (shapeCast S32768x1024 (m ((c : Thread nD τ).loc main_arg4) : XP) shapeCasts_S4x8192x1024_S32768x1024 : Y1) := by
    show StableHlo.after hostOps0 _ _ = _
    after_results_simp
    rfl
  have hz : (win0_6.blk t).view.emb (ix2 r e) = ix2 u e := by blk_ext [places t]
  show V m c main_v0 ((win0_6.blk t).view.emb (ix2 r e)) = _
  rw [hv, hz]
  exact rows_apply _ _ _

set_option maxHeartbeats 4000000 in
/-- The weights staged by window 7. -/
theorem blk7 (c : Dev nD) (t : Fin cfg0.N) (r : Fin 2048) (e : Fin 1024) :
    iblk m c 7 t (ix2 r e) = m ((c : Thread nD τ).loc main_arg5) (ix3 0 r e) := by
  have hv : V m c main_v2 = (truncf (F := Ideal) .bf16 (shapeCast S2048x1024 (m ((c : Thread nD τ).loc main_arg5) : W0) shapeCasts_S1x2048x1024_S2048x1024) bitsLt_bf16_f32
      : (⟨S2048x1024, .bf16⟩ : BufTy).Contents (Elt Ideal)) := by
    show StableHlo.after hostOps0 _ _ = _
    after_results_simp
    rfl
  have hz : (win0_7.blk t).view.emb (ix2 r e) = ix2 r e := by blk_ext [places t]
  show V m c main_v2 ((win0_7.blk t).view.emb (ix2 r e)) = _
  rw [hv, hz]
  exact w0_apply _ _ _

set_option maxHeartbeats 4000000 in
/-- The weights staged by window 8. -/
theorem blk8 (c : Dev nD) (t : Fin cfg0.N) (r : Fin 1024) (e : Fin 1024) :
    iblk m c 8 t (ix2 r e) = m ((c : Thread nD τ).loc main_arg6) (ix3 0 r e) := by
  have hv : V m c main_v4 = (truncf (F := Ideal) .bf16 (shapeCast S1024x1024 (m ((c : Thread nD τ).loc main_arg6) : W1) shapeCasts_S1x1024x1024_S1024x1024) bitsLt_bf16_f32
      : (⟨S1024x1024, .bf16⟩ : BufTy).Contents (Elt Ideal)) := by
    show StableHlo.after hostOps0 _ _ = _
    after_results_simp
    rfl
  have hz : (win0_8.blk t).view.emb (ix2 r e) = ix2 r e := by blk_ext [places t]
  show V m c main_v4 ((win0_8.blk t).view.emb (ix2 r e)) = _
  rw [hv, hz]
  exact w1_apply _ _ _

set_option maxHeartbeats 4000000 in
/-- The weights staged by window 9. -/
theorem blk9 (c : Dev nD) (t : Fin cfg0.N) (r : Fin 1024) (e : Fin 1024) :
    iblk m c 9 t (ix2 r e) = m ((c : Thread nD τ).loc main_arg7) (ix3 0 r e) := by
  have hv : V m c main_v6 = (truncf (F := Ideal) .bf16 (shapeCast S1024x1024 (m ((c : Thread nD τ).loc main_arg7) : W1) shapeCasts_S1x1024x1024_S1024x1024) bitsLt_bf16_f32
      : (⟨S1024x1024, .bf16⟩ : BufTy).Contents (Elt Ideal)) := by
    show StableHlo.after hostOps0 _ _ = _
    after_results_simp
    rfl
  have hz : (win0_9.blk t).view.emb (ix2 r e) = ix2 r e := by blk_ext [places t]
  show V m c main_v6 ((win0_9.blk t).view.emb (ix2 r e)) = _
  rw [hv, hz]
  exact w1_apply _ _ _

set_option maxHeartbeats 4000000 in
/-- The weights staged by window 10. -/
theorem blk10 (c : Dev nD) (t : Fin cfg0.N) (r : Fin 1024) (e : Fin 1024) :
    iblk m c 10 t (ix2 r e) = m ((c : Thread nD τ).loc main_arg8) (ix3 0 r e) := by
  have hv : V m c main_v8 = (truncf (F := Ideal) .bf16 (shapeCast S1024x1024 (m ((c : Thread nD τ).loc main_arg8) : W1) shapeCasts_S1x1024x1024_S1024x1024) bitsLt_bf16_f32
      : (⟨S1024x1024, .bf16⟩ : BufTy).Contents (Elt Ideal)) := by
    show StableHlo.after hostOps0 _ _ = _
    after_results_simp
    rfl
  have hz : (win0_10.blk t).view.emb (ix2 r e) = ix2 r e := by blk_ext [places t]
  show V m c main_v8 ((win0_10.blk t).view.emb (ix2 r e)) = _
  rw [hv, hz]
  exact w1_apply _ _ _

set_option maxHeartbeats 4000000 in
/-- The normalization's weights. -/
theorem blk11 (c : Dev nD) (t : Fin cfg0.N) (e : Fin 1024) :
    iblk m c 11 t (ix2 0 e) = m ((c : Thread nD τ).loc main_arg9) (ix2 0 e) := by
  have hv : V m c main_v10 = (broadcastInDim S1x1024 ![1] bcast_S1024_S1x1024_1
      (shapeCast S1024 (m ((c : Thread nD τ).loc main_arg9) : NW) shapeCasts_S1x1024_S1024) : NW) := by
    show StableHlo.after hostOps0 _ _ = _
    after_results_simp
    rfl
  have hz : (win0_11.blk t).view.emb (ix2 0 e) = ix2 0 e := by blk_ext [places t]
  show V m c main_v10 ((win0_11.blk t).view.emb (ix2 0 e)) = _
  rw [hv, hz]
  pointwise
  first | done | rfl

set_option maxHeartbeats 4000000 in
/-- The kernel's first payload over a grid point's blocks is the residual stream with the projected sum added, at the block's rows. -/
theorem pay_x1 (c : Dev nD) (t : Fin cfg0.N) (x : S512x1024.Idx) (u : Fin 32768) (hu : u.val = 512 * t.val + (x 0).val) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) x = x1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) u (x 1) := by
  unfold_out out0_12
  canon_tiles y h
  obtain rfl : y = x := by funext a; apply Fin.ext; match a with | ⟨0, _⟩ => exact h0.symm | ⟨1, _⟩ => exact h1.symm
  open_payloads
  pointwise
  have e6 : iblk m c 6 t y = iblk m c 6 t (ix2 (y 0) (y 1)) :=
    congrArg _ (by funext a; match a with | ⟨0, _⟩ => rfl | ⟨1, _⟩ => rfl)
  have f6 := e6.trans (blk6 m c t (y 0) (y 1) u hu)
  have f10 : ∀ z, iblk m c 10 t (ix2 z (y 1)) = m ((c : Thread nD τ).loc main_arg8) (ix3 0 z (y 1)) := fun z => blk10 m c t z (y 1)
  have f11 := blk11 m c t (y 1)
  simp only [f6, f10, f11, zero_sub, blk0 m c t _ _ u hu, blk1 m c t _ _ u hu, blk2 m c t _ _ u hu, blk3 m c t _ _ u hu, blk4 m c t _ _ u hu, blk5 m c t _ _ u hu, blk6 m c t _ _ u hu, blk7 m c t, blk8 m c t, blk9 m c t, blk10 m c t, blk11 m c t]
  rfl

set_option maxHeartbeats 4000000 in
/-- The kernel's second payload is its first one normalized. -/
theorem pay_hf (c : Dev nD) (t : Fin cfg0.N) (x : S512x1024.Idx) (u : Fin 32768) (hu : u.val = 512 * t.val + (x 0).val) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) x = hf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) u (x 1) := by
  unfold_out out0_13
  canon_tiles y h
  obtain rfl : y = x := by funext a; apply Fin.ext; match a with | ⟨0, _⟩ => exact h0.symm | ⟨1, _⟩ => exact h1.symm
  open_payloads
  pointwise
  have e6 : iblk m c 6 t y = iblk m c 6 t (ix2 (y 0) (y 1)) :=
    congrArg _ (by funext a; match a with | ⟨0, _⟩ => rfl | ⟨1, _⟩ => rfl)
  have f6 := e6.trans (blk6 m c t (y 0) (y 1) u hu)
  have f10 : ∀ z, iblk m c 10 t (ix2 z (y 1)) = m ((c : Thread nD τ).loc main_arg8) (ix3 0 z (y 1)) := fun z => blk10 m c t z (y 1)
  have f11 := blk11 m c t (y 1)
  simp only [f6, f10, f11, zero_sub, blk0 m c t _ _ u hu, blk1 m c t _ _ u hu, blk2 m c t _ _ u hu, blk3 m c t _ _ u hu, blk4 m c t _ _ u hu, blk5 m c t _ _ u hu, blk6 m c t _ _ u hu, blk7 m c t, blk8 m c t, blk9 m c t, blk10 m c t, blk11 m c t]
  rfl

/-- The array of the first result. -/
theorem final12 (c : Dev nD) : (dats m 0 c).arrAt 12 cfg0.N = val_main_v38 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 12 _ (by decide +kernel) fun t hf y => ?_
  blk_simp
  rw [after0_12]
  have hu : 512 * t.val + (y 0).val < 32768 := by
    have := t.isLt; have h0 : (y 0).val < 512 := (y 0).isLt; simp only [show cfg0.N = 64 from rfl] at this; omega
  have hz : ((cfg0.win 12).blk t).view.emb y = ix2 ⟨512 * t.val + (y 0).val, hu⟩ (y 1) := by blk_ext [places t]
  refine (pay_x1 m c t y ⟨_, hu⟩ rfl).trans ((ref_x1 _ _ _ _ _ _ _ _ _ _ _).symm.trans ?_)
  exact congrArg _ hz.symm

/-- The array of the second result. -/
theorem final13 (c : Dev nD) : (dats m 0 c).arrAt 13 cfg0.N = val_main_v53 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 13 _ (by decide +kernel) fun t hf y => ?_
  blk_simp
  rw [after0_13]
  have hu : 512 * t.val + (y 0).val < 32768 := by
    have := t.isLt; have h0 : (y 0).val < 512 := (y 0).isLt; simp only [show cfg0.N = 64 from rfl] at this; omega
  have hz : ((cfg0.win 13).blk t).view.emb y = ix2 ⟨512 * t.val + (y 0).val, hu⟩ (y 1) := by blk_ext [places t]
  refine (pay_hf m c t y ⟨_, hu⟩ rfl).trans ((ref_hf _ _ _ _ _ _ _ _ _ _ _ _).symm.trans ?_)
  exact congrArg _ hz.symm

/-- Kernel and reference, launched on the same arguments, leave the same two results and keep the arguments. -/
theorem algebraic : Cert.algebraic_MergeIdeal_MergeRefIdeal
    (hMergeIdeal := Cert.MergeIdeal.Gen.facts) (hMergeRefIdeal := Cert.MergeRefIdeal.Gen.facts) := by
  intro m g m' g' _ hin
  refine ⟨fun c => val_main_v38 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)), fun c => val_main_v53 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)), ?_, ?_⟩
  · exact (θ_run _ _ _).mono (fun r h c => ⟨(h c).1.trans (final12 m c), (h c).2.1.trans (final13 m c), (h c).2.2⟩) (Cert.MergeIdeal.Value.run_blocks m g)
  · refine (θ_run _ _ _).mono (fun r h c => ⟨(h c).1.trans ?_, (h c).2.1.trans ?_, (h c).2.2⟩) (Cert.MergeRefIdeal.Value.run m' g')
    all_goals
      obtain ⟨e0, e1, e2, e3, e4, e5, e6, e7, e8, e9⟩ := hin c
    · refine (val_main_v38_eq _ _ _ _ _ _ _ _ _).trans ?_
      rw [e0, e1, e2, e3, e4, e5, e6, e7, e8]
    · refine (val_main_v53_eq m' c).trans ?_
      rw [e0, e1, e2, e3, e4, e5, e6, e7, e8, e9]

end Cert.Proof.Merge

end
-- ==== Proof.AttnOffsets.lean ====
/-
The attention kernel's loop counts and load offsets, decided over the grid, and its loads read at an element.
-/
module
public import proofs.«01_k».proof.Proof.Gen.AttnIdeal.Value
public import Idealize.ShloMosaic.Lib.Pipeline.ValueKit
@[expose] public section
set_option maxRecDepth 16384
noncomputable section
namespace Cert.Proof.Attn
open Idealize.ShloMosaic Idealize.ShloMosaic.TcCoe Idealize.SL.Sem
open Idealize.ShloMosaic.Pipeline (Dat)
open Cert.AttnIdeal Cert.AttnIdeal.Gen

/-- A grid point with a given third coordinate. -/
def at2 (a : Fin 32) : grid0.Coords := fun j => match j with | ⟨0, _⟩ => (0 : Fin 4) | ⟨1, _⟩ => (0 : Fin 8) | ⟨2, _⟩ => (a : Fin 32)
/-- The pair loop's count, at each query block. -/
theorem trips1' : ∀ a : Fin 32, (k0_t1_loop (at2 a)).trips = a.val / 2 := by decide +kernel
/-- The pair loop runs once for each pair of key blocks after the first. -/
theorem trips1 (i : grid0.Coords) : (k0_t1_loop i).trips = (i 2).val / 2 := trips1' (i 2)
/-- The second loop's count, at each query block. -/
theorem trips2' : ∀ a : Fin 32, (k0_t2_loop (at2 a)).trips = 0 := by decide +kernel
/-- The second loop never runs. -/
theorem trips2 (i : grid0.Coords) : (k0_t2_loop i).trips = 0 := trips2' (i 2)
/-- Load offset 1, decided at every query block. -/
theorem off1' : ∀ (a : Fin 32), k0_off1 (at2 a) = ![0, 256 * a.val, 0] := by decide +kernel
/-- Load offset 1 at a grid point. -/
theorem off1 (i : grid0.Coords) : k0_off1 i = ![0, 256 * (i 2).val, 0] := off1' (i 2)
/-- Load offset 2, decided at every query block. -/
theorem off2' : ∀ (a : Fin 32), 2 ≤ a.val → k0_off2 (at2 a) = ![0, 256, 0] := by decide +kernel
/-- Load offset 2 at a grid point. -/
theorem off2 (i : grid0.Coords) : 2 ≤ (i 2).val → k0_off2 i = ![0, 256, 0] := off2' (i 2)
/-- Load offset 3, decided at every query block. -/
theorem off3' : ∀ (a : Fin 32), 2 ≤ a.val → k0_off3 (at2 a) = ![0, 512, 0] := by decide +kernel
/-- Load offset 3 at a grid point. -/
theorem off3 (i : grid0.Coords) : 2 ≤ (i 2).val → k0_off3 i = ![0, 512, 0] := off3' (i 2)
/-- Load offset 4, decided at every query block. -/
theorem off4' : ∀ (a : Fin 32), k0_off4 (at2 a) = ![0, a.val, 0, 0] := by decide +kernel
/-- Load offset 4 at a grid point. -/
theorem off4 (i : grid0.Coords) : k0_off4 i = ![0, (i 2).val, 0, 0] := off4' (i 2)
/-- Load offset 5, decided at every query block. -/
theorem off5' : ∀ (a : Fin 32), k0_off5 (at2 a) = ![0, a.val, 64, 0] := by decide +kernel
/-- Load offset 5 at a grid point. -/
theorem off5 (i : grid0.Coords) : k0_off5 i = ![0, (i 2).val, 64, 0] := off5' (i 2)
/-- Load offset 6, decided at every query block. -/
theorem off6' : ∀ (a : Fin 32) (k : Fin (k0_t1_loop (at2 a)).trips), 2 * (k.val + 2) ≤ a.val → k0_off6 (at2 a) k = ![0, 256 * (2 * k.val + 3), 0] := by decide +kernel
/-- Load offset 6 at a grid point. -/
theorem off6 (i : grid0.Coords) (k : Fin (k0_t1_loop i).trips) : 2 * (k.val + 2) ≤ (i 2).val → k0_off6 i k = ![0, 256 * (2 * k.val + 3), 0] := off6' (i 2) k
/-- Load offset 7, decided at every query block. -/
theorem off7' : ∀ (a : Fin 32) (k : Fin (k0_t1_loop (at2 a)).trips), 2 * (k.val + 2) ≤ a.val → k0_off7 (at2 a) k = ![0, 256 * (2 * k.val + 4), 0] := by decide +kernel
/-- Load offset 7 at a grid point. -/
theorem off7 (i : grid0.Coords) (k : Fin (k0_t1_loop i).trips) : 2 * (k.val + 2) ≤ (i 2).val → k0_off7 i k = ![0, 256 * (2 * k.val + 4), 0] := off7' (i 2) k
/-- Load offset 8, decided at every query block. -/
theorem off8' : ∀ (a : Fin 32) (k : Fin (k0_t1_loop (at2 a)).trips), k0_off8 (at2 a) k = ![0, 0, 2 * k.val + 1, 0] := by decide +kernel
/-- Load offset 8 at a grid point. -/
theorem off8 (i : grid0.Coords) (k : Fin (k0_t1_loop i).trips) : k0_off8 i k = ![0, 0, 2 * k.val + 1, 0] := off8' (i 2) k
/-- Load offset 9, decided at every query block. -/
theorem off9' : ∀ (a : Fin 32) (k : Fin (k0_t1_loop (at2 a)).trips), k0_off9 (at2 a) k = ![0, 2 * k.val + 1, 0, 0] := by decide +kernel
/-- Load offset 9 at a grid point. -/
theorem off9 (i : grid0.Coords) (k : Fin (k0_t1_loop i).trips) : k0_off9 i k = ![0, 2 * k.val + 1, 0, 0] := off9' (i 2) k
/-- Load offset 10, decided at every query block. -/
theorem off10' : ∀ (a : Fin 32) (k : Fin (k0_t1_loop (at2 a)).trips), k0_off10 (at2 a) k = ![0, 0, 2 * k.val + 2, 0] := by decide +kernel
/-- Load offset 10 at a grid point. -/
theorem off10 (i : grid0.Coords) (k : Fin (k0_t1_loop i).trips) : k0_off10 i k = ![0, 0, 2 * k.val + 2, 0] := off10' (i 2) k
/-- Load offset 11, decided at every query block. -/
theorem off11' : ∀ (a : Fin 32) (k : Fin (k0_t1_loop (at2 a)).trips), k0_off11 (at2 a) k = ![0, 2 * k.val + 2, 0, 0] := by decide +kernel
/-- Load offset 11 at a grid point. -/
theorem off11 (i : grid0.Coords) (k : Fin (k0_t1_loop i).trips) : k0_off11 i k = ![0, 2 * k.val + 2, 0, 0] := off11' (i 2) k
/-- Load offset 12, decided at every query block. -/
theorem off12' : ∀ (a : Fin 32) (k : Fin (k0_t1_loop (at2 a)).trips), k0_off12 (at2 a) k = ![0, 1, 2 * k.val + 1, 0] := by decide +kernel
/-- Load offset 12 at a grid point. -/
theorem off12 (i : grid0.Coords) (k : Fin (k0_t1_loop i).trips) : k0_off12 i k = ![0, 1, 2 * k.val + 1, 0] := off12' (i 2) k
/-- Load offset 13, decided at every query block. -/
theorem off13' : ∀ (a : Fin 32) (k : Fin (k0_t1_loop (at2 a)).trips), k0_off13 (at2 a) k = ![0, 2 * k.val + 1, 64, 0] := by decide +kernel
/-- Load offset 13 at a grid point. -/
theorem off13 (i : grid0.Coords) (k : Fin (k0_t1_loop i).trips) : k0_off13 i k = ![0, 2 * k.val + 1, 64, 0] := off13' (i 2) k
/-- Load offset 14, decided at every query block. -/
theorem off14' : ∀ (a : Fin 32) (k : Fin (k0_t1_loop (at2 a)).trips), k0_off14 (at2 a) k = ![0, 1, 2 * k.val + 2, 0] := by decide +kernel
/-- Load offset 14 at a grid point. -/
theorem off14 (i : grid0.Coords) (k : Fin (k0_t1_loop i).trips) : k0_off14 i k = ![0, 1, 2 * k.val + 2, 0] := off14' (i 2) k
/-- Load offset 15, decided at every query block. -/
theorem off15' : ∀ (a : Fin 32) (k : Fin (k0_t1_loop (at2 a)).trips), k0_off15 (at2 a) k = ![0, 2 * k.val + 2, 64, 0] := by decide +kernel
/-- Load offset 15 at a grid point. -/
theorem off15 (i : grid0.Coords) (k : Fin (k0_t1_loop i).trips) : k0_off15 i k = ![0, 2 * k.val + 2, 64, 0] := off15' (i 2) k

/-- A load of a block of keys, read at an element. -/
theorem load_k (arg4 : Memref sig .tc .vmem S1x8192x128 .bf16) (h4 : arg4.IsWhole) (x1 : Vec Ideal S1x8192x128 .bf16) (off : Fin 3 → ℕ)
    (inb : ∀ a, off a + S1x256x128.size a ≤ S1x8192x128.size a) (o : ℕ) (ho : off = ![0, o, 0]) (x : Fin 256) (z : Fin 128) (hx : o + x.val < 8192) :
    View.readAt (Elt Ideal) arg4.view (Rect.unit (s := S1x8192x128) off S1x256x128.size inb).toLoadRect (h4.unread x1) (ix3 0 x z) = x1 (ix3 0 ⟨o + x.val, hx⟩ z) := by
  subst ho
  rw [View.readAt_eq_ld, h4.read_unread]
  refine View.ld_unit_apply_of _ _ _ _ _ _ fun a => ?_
  fin_cases a <;> simp [ix1, ix2, ix3, ix4]

/-- A load of a block of transposed values, read at an element. -/
theorem load_v (arg5 : Memref sig .tc .vmem S1x32x128x256 .bf16) (h5 : arg5.IsWhole) (x2 : Vec Ideal S1x32x128x256 .bf16) (off : Fin 4 → ℕ)
    (inb : ∀ a, off a + S1x1x64x256.size a ≤ S1x32x128x256.size a) (b o : ℕ) (ho : off = ![0, b, o, 0]) (d : Fin 64) (x : Fin 256) (hb : b < 32) (hx : o + d.val < 128) :
    View.readAt (Elt Ideal) arg5.view (Rect.unit (s := S1x32x128x256) off S1x1x64x256.size inb).toLoadRect (h5.unread x2) (ix4 0 0 d x) = x2 (ix4 0 ⟨b, hb⟩ ⟨o + d.val, hx⟩ x) := by
  subst ho
  rw [View.readAt_eq_ld, h5.read_unread]
  refine View.ld_unit_apply_of _ _ _ _ _ _ fun a => ?_
  fin_cases a <;> simp [ix1, ix2, ix3, ix4]

/-- A load of a block of the selection, read at an element. -/
theorem load_s (arg6 : Memref sig .tc .vmem S1x2x32x256 .f32) (h6 : arg6.IsWhole) (x3 : Vec Ideal S1x2x32x256 .f32) (off : Fin 4 → ℕ)
    (inb : ∀ a, off a + S1x1x1x256.size a ≤ S1x2x32x256.size a) (h b : ℕ) (ho : off = ![0, h, b, 0]) (t : Fin 256) (hh : h < 2) (hb : b < 32) :
    View.readAt (Elt Ideal) arg6.view (Rect.unit (s := S1x2x32x256) off S1x1x1x256.size inb).toLoadRect (h6.unread x3) (ix4 0 0 0 t) = x3 (ix4 0 ⟨h, hh⟩ ⟨b, hb⟩ t) := by
  subst ho
  rw [View.readAt_eq_ld, h6.read_unread]
  refine View.ld_unit_apply_of _ _ _ _ _ _ fun a => ?_
  fin_cases a <;> simp [ix1, ix2, ix3, ix4]

/-- The load of the queries is their whole block. -/
theorem load_q (arg3 : Memref sig .tc .vmem S1x256x128 .bf16) (h3 : arg3.IsWhole) (x0 : Vec Ideal S1x256x128 .bf16)  :
    View.readAt (Elt Ideal) arg3.view (Rect.unit (s := S1x256x128) ![0, 0, 0] S1x256x128.size inb_S1x256x128_S1x256x128_0_0_0).toLoadRect (h3.unread x0) = x0 := by
  rw [View.readAt_eq_ld, h3.read_unread]
  funext y
  refine View.ld_unit_apply_of _ _ _ _ _ _ fun a => ?_
  fin_cases a <;> simp [ix1, ix2, ix3, ix4]
end Cert.Proof.Attn
-- ==== Proof.AttnMath.lean ====
/-
The running softmax over key blocks, on the extended reals: the sums it keeps, one block's step, and its quotient.
-/
module
public import Idealize.ShloMosaic.Lib.Pipeline.ValueKit
@[expose] public section
noncomputable section
namespace Cert.Proof.Attn
open Idealize.ShloMosaic

/-- Minus infinity, as the kernel and the reference write it. -/
theorem neg_inf : Ideal.ofBits FTy.f32 4286578688#32 = ⊥ := by simp [Ideal.ofBits, Ideal.ieee]

/-- A selection on a decided condition. -/
theorem sel_decide {α : Type} (p : Prop) [Decidable p] (a b : α) : Scalar.select (BitVec.ofBool (decide p)) a b = if p then a else b := by
  unfold Scalar.select
  by_cases h : p <;> simp [h]

/-- A real factor that is not negative distributes over a finite sum of extended reals. -/
theorem sum_mul_real {ι : Type} (s : Finset ι) (f : ι → EReal) (c : ℝ) (hc : 0 ≤ c) :
    (∑ x ∈ s, f x) * (c : EReal) = ∑ x ∈ s, f x * (c : EReal) := by
  classical
  induction s using Finset.induction_on with
  | empty => simp
  | insert a s ha ih =>
    rw [Finset.sum_insert ha, Finset.sum_insert ha, EReal.right_distrib_of_nonneg_of_ne_top (EReal.coe_nonneg.2 hc) (EReal.coe_ne_top c), ih]

/-- A finite sum of reals, as an extended real. -/
theorem sum_coe {ι : Type} (s : Finset ι) (f : ι → ℝ) : (∑ x ∈ s, (f x : EReal)) = ((∑ x ∈ s, f x : ℝ) : EReal) := by
  classical
  induction s using Finset.induction_on with
  | empty => simp
  | insert a s ha ih => rw [Finset.sum_insert ha, Finset.sum_insert ha, ih, EReal.coe_add]

/-- The largest of a real and of values each real or minus infinity is a real. -/
theorem max_fold_real {ι : Type} (s : Finset ι) (g : ι → EReal) (hg : ∀ x ∈ s, g x = ⊥ ∨ ∃ r : ℝ, g x = r) (a : ℝ) :
    ∃ r : ℝ, max (a : EReal) (Finset.fold max ⊥ g s) = r := by
  classical
  induction s using Finset.induction_on generalizing a with
  | empty => exact ⟨a, by simp⟩
  | insert y s hy ih =>
    rw [Finset.fold_insert hy, ← max_assoc]
    have hs : ∀ x ∈ s, g x = ⊥ ∨ ∃ r : ℝ, g x = r := fun x hx => hg x (Finset.mem_insert_of_mem hx)
    rcases hg y (Finset.mem_insert_self y s) with h | ⟨r, h⟩
    · rw [h, max_bot_right]
      exact ih hs a
    · rw [h, ← (EReal.coe_strictMono.monotone.map_max : _ = max (a : EReal) (r : EReal))]
      exact ih hs (max a r)

/-- The largest of values each real or minus infinity, one of them real, is a real. -/
theorem fold_real {ι : Type} (s : Finset ι) (g : ι → EReal) (hg : ∀ x ∈ s, g x = ⊥ ∨ ∃ r : ℝ, g x = r) (y : ι) (hy : y ∈ s) (a : ℝ)
    (ha : g y = a) : ∃ r : ℝ, Finset.fold max ⊥ g s = r := by
  obtain ⟨r, hr⟩ := max_fold_real s g hg a
  refine ⟨r, ?_⟩
  rw [← hr, ← ha, max_eq_right]
  exact (Finset.le_fold_max (g y)).2 (.inr ⟨y, hy, le_rfl⟩)

variable (i : ℕ) (t : Fin 256) (σ : ℕ → Fin 256 → ℝ) (on : ℕ → Prop) [DecidablePred on]

/-- The weighted sum over the query's own block of keys (those not after it, lane `t`), the scores taken from `μ`. -/
def ownSum (wv : ℕ → Fin 256 → EReal) (μ : ℝ) : EReal := ∑ x : Fin 256, if x ≤ t then wv i x * ((Real.exp (σ i x - μ) : ℝ) : EReal) else 0

/-- The weighted sum over a whole block of keys. -/
def blkSum (wv : ℕ → Fin 256 → EReal) (μ : ℝ) (j : ℕ) : EReal := ∑ x : Fin 256, wv j x * ((Real.exp (σ j x - μ) : ℝ) : EReal)

/-- What the accumulator holds once the blocks before `n` are visited. -/
def G (wv : ℕ → Fin 256 → EReal) (n : ℕ) (μ : ℝ) : EReal :=
  ownSum i t σ wv μ + ∑ j ∈ Finset.range n, if on j then blkSum σ wv μ j else 0

/-- Moving the origin of one exponential. -/
theorem exp_shift (s μ μ' : ℝ) : ((Real.exp (s - μ) : ℝ) : EReal) * ((Real.exp (μ - μ') : ℝ) : EReal) = ((Real.exp (s - μ') : ℝ) : EReal) := by
  rw [← EReal.coe_mul, ← Real.exp_add]
  congr 2
  ring

/-- Moving the scores' origin multiplies the sums by a real factor. -/
theorem G_shift (wv : ℕ → Fin 256 → EReal) (n : ℕ) (μ μ' : ℝ) :
    G i t σ on wv n μ * ((Real.exp (μ - μ') : ℝ) : EReal) = G i t σ on wv n μ' := by
  have h0 : 0 ≤ Real.exp (μ - μ') := (Real.exp_pos _).le
  unfold G ownSum blkSum
  rw [EReal.right_distrib_of_nonneg_of_ne_top (EReal.coe_nonneg.2 h0) (EReal.coe_ne_top _), sum_mul_real _ _ _ h0, sum_mul_real _ _ _ h0]
  congr 1
  · refine Finset.sum_congr rfl fun x _ => ?_
    split_ifs
    · rw [mul_assoc, exp_shift]
    · exact zero_mul _
  · refine Finset.sum_congr rfl fun j _ => ?_
    split_ifs
    · rw [sum_mul_real _ _ _ h0]
      exact Finset.sum_congr rfl fun x _ => by rw [mul_assoc, exp_shift]
    · exact zero_mul _

/-- With all weights one, the sum is a positive real. -/
theorem G_one (n : ℕ) (μ : ℝ) : ∃ r : ℝ, 0 < r ∧ G i t σ on (fun _ _ => 1) n μ = r := by
  refine ⟨(∑ x : Fin 256, if x ≤ t then Real.exp (σ i x - μ) else 0)
    + ∑ j ∈ Finset.range n, if on j then ∑ x : Fin 256, Real.exp (σ j x - μ) else 0, ?_, ?_⟩
  · refine add_pos_of_pos_of_nonneg ?_ (Finset.sum_nonneg fun j _ => ?_)
    · refine lt_of_lt_of_le ?_ (Finset.single_le_sum (f := fun x : Fin 256 => if x ≤ t then Real.exp (σ i x - μ) else 0) (fun x _ => ?_) (Finset.mem_univ t))
      · simpa using Real.exp_pos _
      · split_ifs
        · exact (Real.exp_pos _).le
        · exact le_rfl
    · split_ifs
      · exact Finset.sum_nonneg fun x _ => (Real.exp_pos _).le
      · exact le_rfl
  · unfold G ownSum blkSum
    rw [EReal.coe_add, ← sum_coe, ← sum_coe]
    congr 1
    · refine Finset.sum_congr rfl fun x _ => ?_
      split_ifs <;> simp
    · refine Finset.sum_congr rfl fun j _ => ?_
      split_ifs
      · rw [← sum_coe]
        exact Finset.sum_congr rfl fun x _ => one_mul _
      · simp

/-- The query's own block: the maximum is a real. -/
theorem own_max : ∃ μ : ℝ, max (⊥ : EReal) (Finset.fold max ⊥ (fun x : Fin 256 => if x ≤ t then ((σ i x : ℝ) : EReal) else ⊥) Finset.univ) = μ := by
  obtain ⟨r, hr⟩ := fold_real Finset.univ (fun x : Fin 256 => if x ≤ t then ((σ i x : ℝ) : EReal) else ⊥)
    (fun x _ => by
      split_ifs
      · exact .inr ⟨_, rfl⟩
      · exact .inl rfl) t (Finset.mem_univ t) (σ i t) (by simp)
  exact ⟨r, by rw [max_bot_left, hr]⟩

/-- The query's own block: the sum. -/
theorem own_acc (wv : ℕ → Fin 256 → EReal) (μ : ℝ) :
    (∑ x : Fin 256, wv i x * Ideal.exp ((if x ≤ t then ((σ i x : ℝ) : EReal) else ⊥) - (μ : EReal))) = G i t σ on wv 0 μ := by
  unfold G ownSum
  rw [Finset.range_zero, Finset.sum_empty, add_zero]
  refine Finset.sum_congr rfl fun x _ => ?_
  split_ifs
  · rw [← EReal.coe_sub, Ideal.exp_coe]
  · rw [EReal.bot_sub, Ideal.exp_bot, mul_zero]

/-- One block's step: the new maximum is a real. -/
theorem step_max (n : ℕ) (μ : ℝ) :
    ∃ μ' : ℝ, max (μ : EReal) (if on n then Finset.fold max ⊥ (fun x : Fin 256 => ((σ n x : ℝ) : EReal)) Finset.univ else ⊥) = μ' := by
  split_ifs
  · exact max_fold_real _ _ (fun x _ => .inr ⟨_, rfl⟩) μ
  · exact ⟨μ, max_bot_right _⟩

/-- One block's step: the new sum. -/
theorem step_acc (wv : ℕ → Fin 256 → EReal) (n : ℕ) (μ μ' : ℝ) :
    G i t σ on wv n μ * Ideal.exp ((μ : EReal) - (μ' : EReal))
      + (if on n then ∑ x : Fin 256, wv n x * Ideal.exp (((σ n x : ℝ) : EReal) - (μ' : EReal)) else 0) = G i t σ on wv (n + 1) μ' := by
  rw [← EReal.coe_sub, Ideal.exp_coe, G_shift]
  unfold G blkSum
  rw [Finset.sum_range_succ, add_assoc]
  congr 2

/-- The quotient does not depend on the scores' origin. -/
theorem quot (wv : ℕ → Fin 256 → EReal) (n : ℕ) (μ μ' : ℝ) :
    Ideal.div (G i t σ on wv n μ) (G i t σ on (fun _ _ => 1) n μ) = Ideal.div (G i t σ on wv n μ') (G i t σ on (fun _ _ => 1) n μ') := by
  obtain ⟨r, hr, e⟩ := G_one i t σ on n μ
  have e' := G_shift i t σ on (fun _ _ => 1) n μ μ'
  rw [← G_shift i t σ on wv n μ μ', ← e', e, ← EReal.coe_mul]
  have hp := Real.exp_pos (μ - μ')
  unfold Ideal.div
  rw [if_neg (by simpa using hr.ne'), if_neg (by simpa using hr.ne'), ← EReal.coe_inv, ← EReal.coe_inv, mul_assoc, ← EReal.coe_mul]
  congr 2
  field_simp

/-- A block that is not selected adds nothing. -/
theorem G_skip (wv : ℕ → Fin 256 → EReal) (n : ℕ) (μ : ℝ) (h : ¬ on n) : G i t σ on wv (n + 1) μ = G i t σ on wv n μ := by
  unfold G
  rw [Finset.sum_range_succ, if_neg h, add_zero]

/-- Whether the query sees the key in lane `x` of block `j`. -/
def sees (j : ℕ) (x : Fin 256) : Prop := (j = i ∧ x ≤ t) ∨ (j < i ∧ on j)
/-- It is decidable. -/
instance (j : ℕ) (x : Fin 256) : Decidable (sees i t on j x) := by unfold sees; infer_instance

/-- The sum over all blocks of the keys the query sees. -/
theorem all_sum (wv : ℕ → Fin 256 → EReal) (μ : ℝ) (N : ℕ) (hi : i < N) :
    (∑ j ∈ Finset.range N, ∑ x : Fin 256, if sees i t on j x then wv j x * ((Real.exp (σ j x - μ) : ℝ) : EReal) else 0) = G i t σ on wv i μ := by
  have h : ∀ j ∈ Finset.range N, (∑ x : Fin 256, if sees i t on j x then wv j x * ((Real.exp (σ j x - μ) : ℝ) : EReal) else 0)
      = (if j = i then ownSum i t σ wv μ else 0) + (if j < i then (if on j then blkSum σ wv μ j else 0) else 0) := fun j _ => by
    unfold sees ownSum blkSum
    rcases lt_trichotomy j i with h | h | h
    · by_cases ho : on j <;> simp [h, h.ne, ho]
    · subst h
      simp
    · simp [h.ne', h.not_gt]
  rw [Finset.sum_congr rfl h, Finset.sum_add_distrib, Finset.sum_ite_eq' (Finset.range N) i, if_pos (Finset.mem_range.2 hi)]
  unfold G
  congr 1
  rw [← Finset.sum_filter]
  refine Finset.sum_congr ?_ fun _ _ => rfl
  ext j
  simp only [Finset.mem_filter, Finset.mem_range]
  omega

end Cert.Proof.Attn
-- ==== Proof.AttnPay.lean ====
/-
The attention kernel's vector operations, folded into steps over key blocks and read at an element.
-/
module
public import proofs.«01_k».proof.Proof.AttnOffsets
public import proofs.«01_k».proof.Proof.AttnMath
@[expose] public section
set_option maxRecDepth 16384
noncomputable section
namespace Cert.Proof.Attn
open Idealize.ShloMosaic Idealize.ShloMosaic.TcCoe Idealize.SL.Sem
open Idealize.ShloMosaic.Pipeline (Dat)
open Cert.AttnIdeal Cert.AttnIdeal.Gen

/-- The running maximum of the block before, raised by the largest score of a block where the block is selected. -/
def stepMax (m : FVec Ideal S1x256 .f32) (on : IVec S1x256 1) (s : FVec Ideal S256x256 .f32) : FVec Ideal S1x256 .f32 :=
  maximumf m (select on (shapeCast S1x256 (multiReduction .maximumf [0] S256 s 0xFF800000#32 reduces_S256x256_S256 (.inl rfl) rfl) shapeCasts_S256_S1x256) (broadcast S1x256 (Scalar.ofBits .f32 0xFF800000#32)))

/-- The accumulator after a block: rescaled to the new maximum, plus the block's weighted values where the block is selected. -/
def stepAcc (w : FVec Ideal S16x256 .bf16) (m : FVec Ideal S1x256 .f32) (acc : FVec Ideal S80x256 .f32) (on : IVec S1x256 1)
    (s : FVec Ideal S256x256 .f32) (v : Vec Ideal S1x1x64x256 .bf16) : FVec Ideal S80x256 .f32 :=
  addf (mulf acc (broadcastTo S80x256 (exp (subf m (stepMax m on s))) broadcasts_S1x256_S80x256))
    (select (broadcastTo S80x256 (shapeCast S1x256 on shapeCasts_S1x256_S1x256) broadcasts_S1x256_S80x256)
      (matmul dot_S80x256_S256x256_S80x256_1_0_0_1_n_n none
        (concatenate S80x256 0 [⟨S64x256, shapeCast S64x256 v shapeCasts_S1x1x64x256_S64x256⟩, ⟨S16x256, w⟩] concatenates_S64x256_S16x256_S80x256_d0)
        (truncf .bf16 (exp (subf s (broadcastTo S256x256 (stepMax m on s) broadcasts_S1x256_S256x256))) bitsLt_bf16_f32)
        (constant S80x256 .f32 0x00000000#32))
      (broadcast S80x256 (Scalar.ofBits .f32 0x00000000#32)))

/-- What a trip of the pair loop carries: the two heads' maxima and accumulators, and both heads' scores of the next two blocks. -/
abbrev Carry : Type := FVec Ideal S1x256 .f32 × FVec Ideal S80x256 .f32 × FVec Ideal S1x256 .f32 × FVec Ideal S80x256 .f32 × FVec Ideal S512x256 .f32 × FVec Ideal S512x256 .f32

/-- A trip of the pair loop, as steps over two blocks for each head and the next scores. -/
def pairStep (q0 q1 : FVec Ideal S256x128 .bf16) (w : FVec Ideal S16x256 .bf16) (kA kB : Vec Ideal S1x256x128 .bf16)
    (s00 s01 s10 s11 : Vec Ideal S1x1x1x256 .f32) (v00 v01 v10 v11 : Vec Ideal S1x1x64x256 .bf16) (a : Carry) : Carry :=
  (stepMax (stepMax a.1 (k0_pay5 s00) (k0_pay4 a.2.2.2.2.1)) (k0_pay5 s01) (k0_pay9 a.2.2.2.2.1),
   stepAcc w (stepMax a.1 (k0_pay5 s00) (k0_pay4 a.2.2.2.2.1)) (stepAcc w a.1 a.2.1 (k0_pay5 s00) (k0_pay4 a.2.2.2.2.1) v00) (k0_pay5 s01) (k0_pay9 a.2.2.2.2.1) v01,
   stepMax (stepMax a.2.2.1 (k0_pay5 s10) (k0_pay4 a.2.2.2.2.2)) (k0_pay5 s11) (k0_pay9 a.2.2.2.2.2),
   stepAcc w (stepMax a.2.2.1 (k0_pay5 s10) (k0_pay4 a.2.2.2.2.2)) (stepAcc w a.2.2.1 a.2.2.2.1 (k0_pay5 s10) (k0_pay4 a.2.2.2.2.2) v10) (k0_pay5 s11) (k0_pay9 a.2.2.2.2.2) v11,
   k0_pay2 q0 kA kB, k0_pay2 q1 kA kB)

/-- What the pair loop starts from: for each head the query's own block, then the first block, and the scores of the next two. -/
def initCarry (q0 q1 : FVec Ideal S256x128 .bf16) (w : FVec Ideal S16x256 .bf16) (kI kB kA kC : Vec Ideal S1x256x128 .bf16)
    (s0 s1 : Vec Ideal S1x1x1x256 .f32) (vI0 v0 vI1 v1 : Vec Ideal S1x1x64x256 .bf16) : Carry :=
  (stepMax (k0_pay54 k0_pay41 k0_pay45 (k0_pay2 q0 kI kB)) (k0_pay5 s0) (k0_pay9 (k0_pay2 q0 kI kB)),
   stepAcc w (k0_pay54 k0_pay41 k0_pay45 (k0_pay2 q0 kI kB)) (k0_pay55 k0_pay41 w k0_pay45 (k0_pay2 q0 kI kB) vI0) (k0_pay5 s0) (k0_pay9 (k0_pay2 q0 kI kB)) v0,
   stepMax (k0_pay54 k0_pay41 k0_pay45 (k0_pay2 q1 kI kB)) (k0_pay5 s1) (k0_pay9 (k0_pay2 q1 kI kB)),
   stepAcc w (k0_pay54 k0_pay41 k0_pay45 (k0_pay2 q1 kI kB)) (k0_pay55 k0_pay41 w k0_pay45 (k0_pay2 q1 kI kB) vI1) (k0_pay5 s1) (k0_pay9 (k0_pay2 q1 kI kB)) v1,
   k0_pay2 q0 kA kC, k0_pay2 q1 kA kC)

/-- The generated trip is a pair step over its loads. -/
theorem trip_eq (𝒱 : Variants) (c : Dev nD) (bd : Option 𝒱.V) (i : grid0.Coords) (arg3 : Memref sig .tc .vmem S1x256x128 .bf16) (harg3 : arg3.IsWhole) (arg4 : Memref sig .tc .vmem S1x8192x128 .bf16) (harg4 : arg4.IsWhole) (arg5 : Memref sig .tc .vmem S1x32x128x256 .bf16) (harg5 : arg5.IsWhole) (arg6 : Memref sig .tc .vmem S1x2x32x256 .f32) (harg6 : arg6.IsWhole) (arg7 : Memref sig .tc .vmem S1x256x128 .bf16) (harg7 : arg7.IsWhole) (arg2 : BitVec 32) (v33 : FVec Ideal S256x128 .bf16) (v37 : FVec Ideal S256x128 .bf16) (v38 : FVec Ideal S16x256 .bf16) (v56 : BitVec 32) (v90 : FVec Ideal S512x256 .f32) (v91 : FVec Ideal S512x256 .f32) (v117 : FVec Ideal S1x256 .f32) (v134 : FVec Ideal S80x256 .f32) (v141 : FVec Ideal S1x256 .f32) (v150 : FVec Ideal S80x256 .f32) (v151 : FVec Ideal S256x256 .f32) (v153 : FVec Ideal S1x256 .f32) (cst_71 : Ideal .f32) (X_arg4 : BufTy.Contents (Elt Ideal) arg4.view.ty) (X_arg5 : BufTy.Contents (Elt Ideal) arg5.view.ty) (X_arg6 : BufTy.Contents (Elt Ideal) arg6.view.ty) (k : Fin (k0_t1_loop i).trips) (a : Carry) :
    tripR_k0_t1 𝒱 c bd i arg3 harg3 arg4 harg4 arg5 harg5 arg6 harg6 arg7 harg7 arg2 v33 v37 v38 v56 v90 v91 v117 v134 v141 v150 v151 v153 cst_71 X_arg4 X_arg5 X_arg6 k a = pairStep v33 v37 v38
      (View.readAt (Elt Ideal) arg4.view (Rect.unit (s := S1x8192x128) (k0_off6 i k) S1x256x128.size (k0_off6_inb i k)).toLoadRect X_arg4) (View.readAt (Elt Ideal) arg4.view (Rect.unit (s := S1x8192x128) (k0_off7 i k) S1x256x128.size (k0_off7_inb i k)).toLoadRect X_arg4)
      (View.readAt (Elt Ideal) arg6.view (Rect.unit (s := S1x2x32x256) (k0_off8 i k) S1x1x1x256.size (k0_off8_inb i k)).toLoadRect X_arg6) (View.readAt (Elt Ideal) arg6.view (Rect.unit (s := S1x2x32x256) (k0_off10 i k) S1x1x1x256.size (k0_off10_inb i k)).toLoadRect X_arg6) (View.readAt (Elt Ideal) arg6.view (Rect.unit (s := S1x2x32x256) (k0_off12 i k) S1x1x1x256.size (k0_off12_inb i k)).toLoadRect X_arg6) (View.readAt (Elt Ideal) arg6.view (Rect.unit (s := S1x2x32x256) (k0_off14 i k) S1x1x1x256.size (k0_off14_inb i k)).toLoadRect X_arg6)
      (View.readAt (Elt Ideal) arg5.view (Rect.unit (s := S1x32x128x256) (k0_off9 i k) S1x1x64x256.size (k0_off9_inb i k)).toLoadRect X_arg5) (View.readAt (Elt Ideal) arg5.view (Rect.unit (s := S1x32x128x256) (k0_off11 i k) S1x1x64x256.size (k0_off11_inb i k)).toLoadRect X_arg5) (View.readAt (Elt Ideal) arg5.view (Rect.unit (s := S1x32x128x256) (k0_off13 i k) S1x1x64x256.size (k0_off13_inb i k)).toLoadRect X_arg5) (View.readAt (Elt Ideal) arg5.view (Rect.unit (s := S1x32x128x256) (k0_off15 i k) S1x1x64x256.size (k0_off15_inb i k)).toLoadRect X_arg5) a := by
  unfold tripR_k0_t1 trip_k0_t1
  unfold trip_k0_t1.sl.r_6 trip_k0_t1.sl.r_9 trip_k0_t1.sl.r_10 trip_k0_t1.sl.r_11 trip_k0_t1.sl.r_12 trip_k0_t1.sl.r_13 trip_k0_t1.sl.r trip_k0_t1.sl.r_1
  rfl

/-- The running maximum after a block, at a lane. -/
theorem stepMax_apply (m : FVec Ideal S1x256 .f32) (on : IVec S1x256 1) (s : FVec Ideal S256x256 .f32) (t : Fin 256) :
    stepMax m on s (ix2 0 t) = max (m (ix2 0 t)) (Scalar.select (on (ix2 0 t)) (Finset.fold max (Ideal.ofBits FTy.f32 4286578688#32) (fun x => s (ix2 x t)) Finset.univ) (Ideal.ofBits FTy.f32 4286578688#32)) := by
  pointwise [stepMax]
/-- The accumulator after a block, at a row and a lane. -/
theorem stepAcc_apply (w : FVec Ideal S16x256 .bf16) (m : FVec Ideal S1x256 .f32) (acc : FVec Ideal S80x256 .f32) (on : IVec S1x256 1)
    (s : FVec Ideal S256x256 .f32) (v : Vec Ideal S1x1x64x256 .bf16) (r : Fin 80) (t : Fin 256) :
    stepAcc w m acc on s v (ix2 r t) = acc (ix2 r t) * Ideal.exp (m (ix2 0 t) - stepMax m on s (ix2 0 t))
      + Scalar.select (on (ix2 0 t)) (∑ x, (if h : r.val < 64 then v (ix4 0 0 ⟨r.val, h⟩ x) else w (ix2 ⟨r.val - 64, by omega⟩ x)) * Ideal.exp (s (ix2 x t) - stepMax m on s (ix2 0 t))) 0 := by
  unfold stepAcc
  generalize stepMax m on s = mm
  pointwise
/-- A score, as the kernel sums it. -/
theorem sc_apply (q : FVec Ideal S256x128 .bf16) (ka kb : Vec Ideal S1x256x128 .bf16) (x : Fin 512) (t : Fin 256) :
    k0_pay2 q ka kb (ix2 x t) = ∑ z : Fin 128, (if h : x.val < 256 then ka (ix3 0 ⟨x.val, h⟩ z) else kb (ix3 0 ⟨x.val - 256, by omega⟩ z)) * q (ix2 t z) := by
  pointwise [k0_pay2, k0_pay1]
/-- Whether a block is selected, at a lane. -/
theorem on_apply (v : Vec Ideal S1x1x1x256 .f32) (t : Fin 256) :
    k0_pay5 v (ix2 0 t) = BitVec.ofBool (decide (Ideal.ofBits FTy.f32 1056964608#32 < v (ix4 0 0 0 t))) := by
  pointwise [k0_pay5]
/-- The first of two blocks of scores. -/
theorem lo_apply (q : FVec Ideal S512x256 .f32) (x : Fin 256) (t : Fin 256) : k0_pay4 q (ix2 x t) = q (ix2 ⟨x.val, by omega⟩ t) := by
  pointwise [k0_pay4]
/-- The second of two blocks of scores. -/
theorem hi_apply (q : FVec Ideal S512x256 .f32) (x : Fin 256) (t : Fin 256) : k0_pay9 q (ix2 x t) = q (ix2 ⟨256 + x.val, by omega⟩ t) := by
  pointwise [k0_pay9]
/-- The own block's scores, those of later keys at minus infinity. -/
theorem mask_apply (q : FVec Ideal S512x256 .f32) (x : Fin 256) (t : Fin 256) :
    k0_pay53 k0_pay41 q (ix2 x t) = if x ≤ t then q (ix2 ⟨x.val, by omega⟩ t) else Ideal.ofBits FTy.f32 4286578688#32 := by
  have h : k0_pay53 k0_pay41 q (ix2 x t) = Scalar.select (IntOp.cmpi CmpIPredicate.sle (BitVec.ofNat 32 x.val) (BitVec.ofNat 32 t.val))
      (q (ix2 ⟨x.val, by omega⟩ t)) (Ideal.ofBits FTy.f32 4286578688#32) := by
    pointwise [k0_pay53, k0_pay41]
  rw [h]
  unfold Scalar.select
  refine if_congr ?_ rfl rfl
  clear h q
  revert x t
  decide +kernel
/-- The queries of the pair's first head, the other head's columns at zero. -/
theorem q0_apply (q : Vec Ideal S1x256x128 .bf16) (x : Fin 256) (z : Fin 128) :
    k0_pay42 q (ix2 x z) = if z.val < 64 then q (ix3 0 x z) else 0 := by
  pointwise [k0_pay42, k0_pay40, k0_pay39]
  unfold Scalar.select
  refine if_congr ?_ rfl rfl
  clear q x
  revert z
  decide +kernel
/-- The queries of the pair's second head, the other head's columns at zero. -/
theorem q1_apply (q : Vec Ideal S1x256x128 .bf16) (x : Fin 256) (z : Fin 128) :
    k0_pay43 q (ix2 x z) = if 64 ≤ z.val then q (ix3 0 x z) else 0 := by
  pointwise [k0_pay43, k0_pay40, k0_pay39]
  unfold Scalar.select
  refine if_congr ?_ rfl rfl
  clear q x
  revert z
  decide +kernel
/-- The weights of the denominator's rows are one. -/
theorem ones_apply (r : Fin 16) (x : Fin 256) : (k0_pay44 : FVec Ideal S16x256 .bf16) (ix2 r x) = 1 := by
  pointwise [k0_pay44]
/-- The own block's maximum, at a lane. -/
theorem ownMax_apply (s : FVec Ideal S512x256 .f32) (t : Fin 256) : k0_pay54 k0_pay41 k0_pay45 s (ix2 0 t)
    = max (Ideal.ofBits FTy.f32 4286578688#32) (Finset.fold max (Ideal.ofBits FTy.f32 4286578688#32) (fun x => k0_pay53 k0_pay41 s (ix2 x t)) Finset.univ) := by
  pointwise [k0_pay54, k0_pay45]
/-- The own block's accumulator, at a row and a lane. -/
theorem ownAcc_apply (s : FVec Ideal S512x256 .f32) (w : FVec Ideal S16x256 .bf16) (v : Vec Ideal S1x1x64x256 .bf16) (r : Fin 80) (t : Fin 256) :
    k0_pay55 k0_pay41 w k0_pay45 s v (ix2 r t) = ∑ x, (if h : r.val < 64 then v (ix4 0 0 ⟨r.val, h⟩ x) else w (ix2 ⟨r.val - 64, by omega⟩ x))
      * Ideal.exp (k0_pay53 k0_pay41 s (ix2 x t) - k0_pay54 k0_pay41 k0_pay45 s (ix2 0 t)) := by
  unfold k0_pay55
  generalize k0_pay54 k0_pay41 k0_pay45 s = mm
  pointwise [k0_pay45]
/-- The kernel's result, at an element: each head's weighted values over its denominator. -/
theorem out_apply (a0 a1 : FVec Ideal S80x256 .f32) (x : Fin 256) (t : Fin 128) : k0_pay75 a0 a1 (ix3 0 x t)
    = if h : t.val < 64 then Ideal.div (a0 (ix2 ⟨t.val, by omega⟩ x)) (a0 (ix2 64 x)) else Ideal.div (a1 (ix2 ⟨t.val - 64, by omega⟩ x)) (a1 (ix2 64 x)) := by
  pointwise [k0_pay75]

end Cert.Proof.Attn
-- ==== Proof.AttnRun.lean ====
/-
The attention kernel's body as its prologue, its pair loop and its division.
-/
module
public import proofs.«01_k».proof.Proof.AttnPay
@[expose] public section
set_option maxRecDepth 16384
noncomputable section
namespace Cert.Proof.Attn
open Idealize.ShloMosaic Idealize.ShloMosaic.TcCoe Idealize.SL.Sem
open Idealize.ShloMosaic.Pipeline (Dat)
open Cert.AttnIdeal Cert.AttnIdeal.Gen

set_option maxHeartbeats 4000000 in
/-- The body's result: the last division of what the pair loop leaves. -/
theorem run_eq (c : Dev nD) (i : grid0.Coords) (arg3 : Memref sig .tc .vmem S1x256x128 .bf16) (harg3 : arg3.IsWhole) (arg4 : Memref sig .tc .vmem S1x8192x128 .bf16) (harg4 : arg4.IsWhole) (arg5 : Memref sig .tc .vmem S1x32x128x256 .bf16) (harg5 : arg5.IsWhole) (arg6 : Memref sig .tc .vmem S1x2x32x256 .f32) (harg6 : arg6.IsWhole) (arg7 : Memref sig .tc .vmem S1x256x128 .bf16) (harg7 : arg7.IsWhole)
    (x0 : Vec Ideal S1x256x128 .bf16) (x1 : Vec Ideal S1x8192x128 .bf16) (x2 : Vec Ideal S1x32x128x256 .bf16) (x3 : Vec Ideal S1x2x32x256 .f32) :
    ∃ arg2 v56 v90 v91 v117 v134 v141 v150 v151 v153 cst_71,
    out0_A_4 c i arg3 harg3 arg4 harg4 arg5 harg5 arg6 harg6 arg7 harg7 x0 x1 x2 x3
    = k0_pay75 (st_k0_t1 Variants.none c none i arg3 harg3 arg4 harg4 arg5 harg5 arg6 harg6 arg7 harg7 arg2 (k0_pay42 (View.readAt (Elt Ideal) arg3.view (Rect.unit (s := S1x256x128) ![0, 0, 0] S1x256x128.size inb_S1x256x128_S1x256x128_0_0_0).toLoadRect (harg3.unread x0))) (k0_pay43 (View.readAt (Elt Ideal) arg3.view (Rect.unit (s := S1x256x128) ![0, 0, 0] S1x256x128.size inb_S1x256x128_S1x256x128_0_0_0).toLoadRect (harg3.unread x0))) k0_pay44 v56 v90 v91 v117 v134 v141 v150 v151 v153 cst_71 (harg4.unread x1) (harg5.unread x2) (harg6.unread x3) (initCarry (k0_pay42 (View.readAt (Elt Ideal) arg3.view (Rect.unit (s := S1x256x128) ![0, 0, 0] S1x256x128.size inb_S1x256x128_S1x256x128_0_0_0).toLoadRect (harg3.unread x0))) (k0_pay43 (View.readAt (Elt Ideal) arg3.view (Rect.unit (s := S1x256x128) ![0, 0, 0] S1x256x128.size inb_S1x256x128_S1x256x128_0_0_0).toLoadRect (harg3.unread x0))) k0_pay44
        (View.readAt (Elt Ideal) arg4.view (Rect.unit (s := S1x8192x128) (k0_off1 i) S1x256x128.size (k0_off1_inb i)).toLoadRect (harg4.unread x1)) (View.readAt (Elt Ideal) arg4.view (Rect.unit (s := S1x8192x128) ![0, 0, 0] S1x256x128.size (by decide)).toLoadRect (harg4.unread x1)) (View.readAt (Elt Ideal) arg4.view (Rect.unit (s := S1x8192x128) (k0_off2 i) S1x256x128.size (k0_off2_inb i)).toLoadRect (harg4.unread x1)) (View.readAt (Elt Ideal) arg4.view (Rect.unit (s := S1x8192x128) (k0_off3 i) S1x256x128.size (k0_off3_inb i)).toLoadRect (harg4.unread x1))
        (View.readAt (Elt Ideal) arg6.view (Rect.unit (s := S1x2x32x256) ![0, 0, 0, 0] S1x1x1x256.size (by decide)).toLoadRect (harg6.unread x3)) (View.readAt (Elt Ideal) arg6.view (Rect.unit (s := S1x2x32x256) ![0, 1, 0, 0] S1x1x1x256.size (by decide)).toLoadRect (harg6.unread x3))
        (View.readAt (Elt Ideal) arg5.view (Rect.unit (s := S1x32x128x256) (k0_off4 i) S1x1x64x256.size (k0_off4_inb i)).toLoadRect (harg5.unread x2)) (View.readAt (Elt Ideal) arg5.view (Rect.unit (s := S1x32x128x256) ![0, 0, 0, 0] S1x1x64x256.size (by decide)).toLoadRect (harg5.unread x2))
        (View.readAt (Elt Ideal) arg5.view (Rect.unit (s := S1x32x128x256) (k0_off5 i) S1x1x64x256.size (k0_off5_inb i)).toLoadRect (harg5.unread x2)) (View.readAt (Elt Ideal) arg5.view (Rect.unit (s := S1x32x128x256) ![0, 0, 64, 0] S1x1x64x256.size (by decide)).toLoadRect (harg5.unread x2))) (k0_t1_loop i).trips).2.1
     (st_k0_t1 Variants.none c none i arg3 harg3 arg4 harg4 arg5 harg5 arg6 harg6 arg7 harg7 arg2 (k0_pay42 (View.readAt (Elt Ideal) arg3.view (Rect.unit (s := S1x256x128) ![0, 0, 0] S1x256x128.size inb_S1x256x128_S1x256x128_0_0_0).toLoadRect (harg3.unread x0))) (k0_pay43 (View.readAt (Elt Ideal) arg3.view (Rect.unit (s := S1x256x128) ![0, 0, 0] S1x256x128.size inb_S1x256x128_S1x256x128_0_0_0).toLoadRect (harg3.unread x0))) k0_pay44 v56 v90 v91 v117 v134 v141 v150 v151 v153 cst_71 (harg4.unread x1) (harg5.unread x2) (harg6.unread x3) (initCarry (k0_pay42 (View.readAt (Elt Ideal) arg3.view (Rect.unit (s := S1x256x128) ![0, 0, 0] S1x256x128.size inb_S1x256x128_S1x256x128_0_0_0).toLoadRect (harg3.unread x0))) (k0_pay43 (View.readAt (Elt Ideal) arg3.view (Rect.unit (s := S1x256x128) ![0, 0, 0] S1x256x128.size inb_S1x256x128_S1x256x128_0_0_0).toLoadRect (harg3.unread x0))) k0_pay44
        (View.readAt (Elt Ideal) arg4.view (Rect.unit (s := S1x8192x128) (k0_off1 i) S1x256x128.size (k0_off1_inb i)).toLoadRect (harg4.unread x1)) (View.readAt (Elt Ideal) arg4.view (Rect.unit (s := S1x8192x128) ![0, 0, 0] S1x256x128.size (by decide)).toLoadRect (harg4.unread x1)) (View.readAt (Elt Ideal) arg4.view (Rect.unit (s := S1x8192x128) (k0_off2 i) S1x256x128.size (k0_off2_inb i)).toLoadRect (harg4.unread x1)) (View.readAt (Elt Ideal) arg4.view (Rect.unit (s := S1x8192x128) (k0_off3 i) S1x256x128.size (k0_off3_inb i)).toLoadRect (harg4.unread x1))
        (View.readAt (Elt Ideal) arg6.view (Rect.unit (s := S1x2x32x256) ![0, 0, 0, 0] S1x1x1x256.size (by decide)).toLoadRect (harg6.unread x3)) (View.readAt (Elt Ideal) arg6.view (Rect.unit (s := S1x2x32x256) ![0, 1, 0, 0] S1x1x1x256.size (by decide)).toLoadRect (harg6.unread x3))
        (View.readAt (Elt Ideal) arg5.view (Rect.unit (s := S1x32x128x256) (k0_off4 i) S1x1x64x256.size (k0_off4_inb i)).toLoadRect (harg5.unread x2)) (View.readAt (Elt Ideal) arg5.view (Rect.unit (s := S1x32x128x256) ![0, 0, 0, 0] S1x1x64x256.size (by decide)).toLoadRect (harg5.unread x2))
        (View.readAt (Elt Ideal) arg5.view (Rect.unit (s := S1x32x128x256) (k0_off5 i) S1x1x64x256.size (k0_off5_inb i)).toLoadRect (harg5.unread x2)) (View.readAt (Elt Ideal) arg5.view (Rect.unit (s := S1x32x128x256) ![0, 0, 64, 0] S1x1x64x256.size (by decide)).toLoadRect (harg5.unread x2))) (k0_t1_loop i).trips).2.2.2.1 := by
  have h2 : Scf.trips (k0_t2_loop i).lb (k0_t2_loop i).ub (k0_t2_loop i).st = 0 := trips2 i
  have hw : out0_A_4 c i arg3 harg3 arg4 harg4 arg5 harg5 arg6 harg6 arg7 harg7 x0 x1 x2 x3 = kernelRun0_A.sl.r_17 c i arg3 harg3 arg4 harg4 arg5 harg5 arg6 harg6 arg7 harg7 x0 x1 x2 x3 := by
    unfold out0_A_4 kernelRun0_A
    dsimp only
    frame_out []
  rw [hw]
  unfold kernelRun0_A.sl.r_17
  rw [h2]
  exact ⟨_, _, _, _, _, _, _, _, _, _, _, rfl⟩

end Cert.Proof.Attn
-- ==== Proof.AttnLoop.lean ====
/-
The attention kernel's running state, one head and one query lane at a time.
-/
module
public import proofs.«01_k».proof.Proof.AttnPay
@[expose] public section
set_option maxRecDepth 16384
noncomputable section
namespace Cert.Proof.Attn
open Idealize.ShloMosaic Idealize.ShloMosaic.TcCoe Idealize.SL.Sem
open Idealize.ShloMosaic.Pipeline (Dat)
open Cert.AttnIdeal Cert.AttnIdeal.Gen

variable (t : Fin 256) (I : ℕ) (σ : ℕ → Fin 256 → ℝ) (on : ℕ → Prop) [DecidablePred on] (wv : Fin 80 → ℕ → Fin 256 → EReal)

/-- One head's running state at lane `t`, the blocks before `n` visited: the maximum is a real, and every row holds its sum from it. -/
def Good (n : ℕ) (m : FVec Ideal S1x256 .f32) (acc : FVec Ideal S80x256 .f32) : Prop :=
  ∃ μ : ℝ, m (ix2 0 t) = μ ∧ ∀ r : Fin 80, acc (ix2 r t) = G I t σ on (wv r) n μ

/-- A loaded block of values has the weights of block `n`. -/
def Vals (n : ℕ) (v : Vec Ideal S1x1x64x256 .bf16) : Prop :=
  ∀ (r : Fin 80) (x : Fin 256), (if h : r.val < 64 then v (ix4 0 0 ⟨r.val, h⟩ x) else 1) = wv r n x

/-- The own block leaves the running state with no other block visited. -/
theorem own_good (s : FVec Ideal S512x256 .f32) (v : Vec Ideal S1x1x64x256 .bf16)
    (hs : ∀ x : Fin 256, s (ix2 ⟨x.val, by omega⟩ t) = ((σ I x : ℝ) : EReal)) (hv : Vals wv I v) :
    Good t I σ on wv 0 (k0_pay54 k0_pay41 k0_pay45 s) (k0_pay55 k0_pay41 k0_pay44 k0_pay45 s v) := by
  obtain ⟨μ, hμ⟩ := own_max I t σ
  have hm : ∀ x : Fin 256, k0_pay53 k0_pay41 s (ix2 x t) = if x ≤ t then ((σ I x : ℝ) : EReal) else ⊥ := fun x => by
    rw [mask_apply, hs, neg_inf]
  have h1 : k0_pay54 k0_pay41 k0_pay45 s (ix2 0 t) = μ := by
    rw [ownMax_apply, neg_inf, ← hμ]
    simp only [hm]
  refine ⟨μ, h1, fun r => ?_⟩
  rw [ownAcc_apply, h1, ← own_acc I t σ on (wv r) μ]
  refine Finset.sum_congr rfl fun x _ => ?_
  rw [hm, ← hv r x]
  simp only [ones_apply]

/-- A step over block `n` leaves the running state with that block visited. -/
theorem step_good (n : ℕ) (m : FVec Ideal S1x256 .f32) (acc : FVec Ideal S80x256 .f32) (hg : Good t I σ on wv n m acc)
    (so : Vec Ideal S1x1x1x256 .f32) (ho : on n ↔ Ideal.ofBits FTy.f32 1056964608#32 < so (ix4 0 0 0 t))
    (s : FVec Ideal S256x256 .f32) (hs : ∀ x : Fin 256, s (ix2 x t) = ((σ n x : ℝ) : EReal))
    (v : Vec Ideal S1x1x64x256 .bf16) (hv : Vals wv n v) :
    Good t I σ on wv (n + 1) (stepMax m (k0_pay5 so) s) (stepAcc k0_pay44 m acc (k0_pay5 so) s v) := by
  obtain ⟨μ, h1, h2⟩ := hg
  obtain ⟨μ', h3⟩ := step_max σ on n μ
  have h4 : stepMax m (k0_pay5 so) s (ix2 0 t) = μ' := by
    rw [stepMax_apply, on_apply, sel_decide, neg_inf, h1, ← h3]
    simp only [hs, ho]
  refine ⟨μ', h4, fun r => ?_⟩
  rw [stepAcc_apply, on_apply, sel_decide, h4, h1, h2, ← step_acc I t σ on (wv r) n μ μ']
  congr 1
  refine if_congr ho.symm ?_ rfl
  refine Finset.sum_congr rfl fun x _ => ?_
  rw [hs, ← hv r x]
  simp only [ones_apply]

/-- Two blocks' scores in one array. -/
def Scores (n n' : ℕ) (s : FVec Ideal S512x256 .f32) : Prop :=
  (∀ x : Fin 256, s (ix2 ⟨x.val, by omega⟩ t) = ((σ n x : ℝ) : EReal)) ∧ (∀ x : Fin 256, s (ix2 ⟨256 + x.val, by omega⟩ t) = ((σ n' x : ℝ) : EReal))

/-- What ties a head's scores, selection and weights to the kernel's input blocks. -/
structure Tied (x1 : Vec Ideal S1x8192x128 .bf16) (x2 : Vec Ideal S1x32x128x256 .bf16) (x3 : Vec Ideal S1x2x32x256 .f32)
    (q : FVec Ideal S256x128 .bf16) (h : ℕ) (hh : h < 2) : Prop where
  /-- The scores. -/
  sc : ∀ (j : ℕ) (hj : j < 32) (x : Fin 256), ∑ z : Fin 128, x1 (ix3 0 ⟨256 * j + x.val, by omega⟩ z) * q (ix2 t z) = ((σ j x : ℝ) : EReal)
  /-- The selection. -/
  on : ∀ (j : ℕ) (hj : j < 32), on j ↔ Ideal.ofBits FTy.f32 1056964608#32 < x3 (ix4 0 ⟨h, hh⟩ ⟨j, hj⟩ t)
  /-- The weights. -/
  wv : ∀ (r : Fin 80) (j : ℕ) (hj : j < 32) (x : Fin 256),
    wv r j x = if hr : r.val < 64 then x2 (ix4 0 ⟨j, hj⟩ ⟨64 * h + r.val, by omega⟩ x) else 1

section Loads
variable {x1 : Vec Ideal S1x8192x128 .bf16} {x2 : Vec Ideal S1x32x128x256 .bf16} {x3 : Vec Ideal S1x2x32x256 .f32}
  {q : FVec Ideal S256x128 .bf16} {h : ℕ} {hh : h < 2} (T : Tied t σ on wv x1 x2 x3 q h hh)
include T

/-- The scores of two loaded blocks of keys. -/
theorem scores_of (n n' : ℕ) (hn : n < 32) (hn' : n' < 32) (ka kb : Vec Ideal S1x256x128 .bf16)
    (ha : ∀ (x : Fin 256) (z : Fin 128), ka (ix3 0 x z) = x1 (ix3 0 ⟨256 * n + x.val, by omega⟩ z))
    (hb : ∀ (x : Fin 256) (z : Fin 128), kb (ix3 0 x z) = x1 (ix3 0 ⟨256 * n' + x.val, by omega⟩ z)) : Scores t σ n n' (k0_pay2 q ka kb) := by
  refine ⟨fun x => ?_, fun x => ?_⟩
  · rw [sc_apply, ← T.sc n hn x]
    refine Finset.sum_congr rfl fun z _ => ?_
    rw [dif_pos x.isLt, ← ha]
  · rw [sc_apply, ← T.sc n' hn' x]
    refine Finset.sum_congr rfl fun z _ => ?_
    rw [dif_neg (by simp), ← hb]
    congr 3
    exact Fin.ext (by simp)

/-- The weights of a loaded block of values. -/
theorem vals_of (n : ℕ) (hn : n < 32) (v : Vec Ideal S1x1x64x256 .bf16)
    (hv : ∀ (d : Fin 64) (x : Fin 256), v (ix4 0 0 d x) = x2 (ix4 0 ⟨n, hn⟩ ⟨64 * h + d.val, by omega⟩ x)) : Vals wv n v := fun r x => by
  rw [T.wv r n hn x]
  split_ifs with hr
  · exact hv ⟨r.val, hr⟩ x
  · rfl

/-- The selection of a loaded row. -/
theorem on_of (n : ℕ) (hn : n < 32) (so : Vec Ideal S1x1x1x256 .f32) (hs : so (ix4 0 0 0 t) = x3 (ix4 0 ⟨h, hh⟩ ⟨n, hn⟩ t)) :
    on n ↔ Ideal.ofBits FTy.f32 1056964608#32 < so (ix4 0 0 0 t) := by
  rw [hs]
  exact T.on n hn
end Loads

/-- Two blocks' steps for one head. -/
theorem two_good (n : ℕ) (m : FVec Ideal S1x256 .f32) (acc : FVec Ideal S80x256 .f32) (hg : Good t I σ on wv n m acc)
    (s : FVec Ideal S512x256 .f32) (hs : Scores t σ n (n + 1) s)
    (sa sb : Vec Ideal S1x1x1x256 .f32) (ha : on n ↔ Ideal.ofBits FTy.f32 1056964608#32 < sa (ix4 0 0 0 t))
    (hb : on (n + 1) ↔ Ideal.ofBits FTy.f32 1056964608#32 < sb (ix4 0 0 0 t))
    (va vb : Vec Ideal S1x1x64x256 .bf16) (hva : Vals wv n va) (hvb : Vals wv (n + 1) vb) :
    Good t I σ on wv (n + 2) (stepMax (stepMax m (k0_pay5 sa) (k0_pay4 s)) (k0_pay5 sb) (k0_pay9 s))
      (stepAcc k0_pay44 (stepMax m (k0_pay5 sa) (k0_pay4 s)) (stepAcc k0_pay44 m acc (k0_pay5 sa) (k0_pay4 s) va) (k0_pay5 sb) (k0_pay9 s) vb) := by
  refine step_good t I σ on wv (n + 1) _ _ (step_good t I σ on wv n _ _ hg sa ha _ (fun x => ?_) va hva) sb hb _ (fun x => ?_) vb hvb
  · rw [lo_apply]
    exact hs.1 x
  · rw [hi_apply]
    exact hs.2 x

end Cert.Proof.Attn
-- ==== Proof.AttnBody.lean ====
/-
The attention kernel's pair loop keeps the running state.
-/
module
public import proofs.«01_k».proof.Proof.AttnLoop
@[expose] public section
set_option maxRecDepth 16384
noncomputable section
namespace Cert.Proof.Attn
open Idealize.ShloMosaic Idealize.ShloMosaic.TcCoe Idealize.SL.Sem
open Idealize.ShloMosaic.Pipeline (Dat)
open Cert.AttnIdeal Cert.AttnIdeal.Gen

variable (t : Fin 256) (σ0 σ1 : ℕ → Fin 256 → ℝ) (on0 on1 : ℕ → Prop) [DecidablePred on0] [DecidablePred on1] (wv0 wv1 : Fin 80 → ℕ → Fin 256 → EReal)

/-- Both heads' running state with the blocks before `n` visited, and the scores of the next two blocks where the loop goes on. -/
def Inv (I n : ℕ) (a : Carry) : Prop :=
  Good t I σ0 on0 wv0 n a.1 a.2.1 ∧ Good t I σ1 on1 wv1 n a.2.2.1 a.2.2.2.1 ∧
    (n + 1 ≤ I → Scores t σ0 n (n + 1) a.2.2.2.2.1 ∧ Scores t σ1 n (n + 1) a.2.2.2.2.2)

/-- The first head of a pair. -/
theorem lt0 : 0 < 2 := by decide
/-- The second head of a pair. -/
theorem lt1 : 1 < 2 := by decide
/-- The first block of keys is inside the keys. -/
theorem inb_k0 : ∀ a, (![0, 0, 0] : Fin 3 → ℕ) a + S1x256x128.size a ≤ S1x8192x128.size a := by decide
/-- The first head's first row is inside the selection. -/
theorem inb_s0 : ∀ a, (![0, 0, 0, 0] : Fin 4 → ℕ) a + S1x1x1x256.size a ≤ S1x2x32x256.size a := by decide
/-- The second head's first row is inside the selection. -/
theorem inb_s1 : ∀ a, (![0, 1, 0, 0] : Fin 4 → ℕ) a + S1x1x1x256.size a ≤ S1x2x32x256.size a := by decide
/-- The first head's first block is inside the values. -/
theorem inb_v0 : ∀ a, (![0, 0, 0, 0] : Fin 4 → ℕ) a + S1x1x64x256.size a ≤ S1x32x128x256.size a := by decide
/-- The second head's first block is inside the values. -/
theorem inb_v1 : ∀ a, (![0, 0, 64, 0] : Fin 4 → ℕ) a + S1x1x64x256.size a ≤ S1x32x128x256.size a := by decide

section Loop
variable {x1 : Vec Ideal S1x8192x128 .bf16} {x2 : Vec Ideal S1x32x128x256 .bf16} {x3 : Vec Ideal S1x2x32x256 .f32}
  {q0 q1 : FVec Ideal S256x128 .bf16} (T0 : Tied t σ0 on0 wv0 x1 x2 x3 q0 0 lt0) (T1 : Tied t σ1 on1 wv1 x1 x2 x3 q1 1 lt1)
include T0 T1

set_option maxHeartbeats 2000000 in
/-- The invariant holds before every trip of the pair loop and after its last. -/
theorem loop_inv (𝒱 : Variants) (c : Dev nD) (bd : Option 𝒱.V) (i : grid0.Coords) (arg3 : Memref sig .tc .vmem S1x256x128 .bf16) (harg3 : arg3.IsWhole) (arg4 : Memref sig .tc .vmem S1x8192x128 .bf16) (harg4 : arg4.IsWhole) (arg5 : Memref sig .tc .vmem S1x32x128x256 .bf16) (harg5 : arg5.IsWhole) (arg6 : Memref sig .tc .vmem S1x2x32x256 .f32) (harg6 : arg6.IsWhole) (arg7 : Memref sig .tc .vmem S1x256x128 .bf16) (harg7 : arg7.IsWhole) (arg2 : BitVec 32)  (v56 : BitVec 32) (v90 : FVec Ideal S512x256 .f32) (v91 : FVec Ideal S512x256 .f32) (v117 : FVec Ideal S1x256 .f32) (v134 : FVec Ideal S80x256 .f32) (v141 : FVec Ideal S1x256 .f32) (v150 : FVec Ideal S80x256 .f32) (v151 : FVec Ideal S256x256 .f32) (v153 : FVec Ideal S1x256 .f32) (cst_71 : Ideal .f32) (init : Carry)
    (h0 : Inv t σ0 σ1 on0 on1 wv0 wv1 (i 2).val 1 init) (k : ℕ) (hk : k ≤ (i 2).val / 2) :
    Inv t σ0 σ1 on0 on1 wv0 wv1 (i 2).val (2 * k + 1) (st_k0_t1 𝒱 c bd i arg3 harg3 arg4 harg4 arg5 harg5 arg6 harg6 arg7 harg7 arg2 q0 q1 k0_pay44 v56 v90 v91 v117 v134 v141 v150 v151 v153 cst_71 (harg4.unread x1) (harg5.unread x2) (harg6.unread x3) init k) := by
  have hI : (i 2).val < 32 := (i 2).isLt
  induction k with
  | zero => exact h0
  | succ k ih =>
    obtain ⟨g0, g1, hs⟩ := ih (by omega)
    obtain ⟨s0, s1⟩ := hs (by omega)
    have ht : k < (k0_t1_loop i).trips := by
      rw [trips1]
      omega
    rw [show 2 * (k + 1) + 1 = 2 * k + 1 + 2 from by omega]
    have e := st_k0_t1_succ 𝒱 c bd i arg3 harg3 arg4 harg4 arg5 harg5 arg6 harg6 arg7 harg7 arg2 q0 q1 k0_pay44 v56 v90 v91 v117 v134 v141 v150 v151 v153 cst_71 (harg4.unread x1) (harg5.unread x2) (harg6.unread x3) init ⟨k, ht⟩
    rw [trip_eq] at e
    rw [show st_k0_t1 𝒱 c bd i arg3 harg3 arg4 harg4 arg5 harg5 arg6 harg6 arg7 harg7 arg2 q0 q1 k0_pay44 v56 v90 v91 v117 v134 v141 v150 v151 v153 cst_71 (harg4.unread x1) (harg5.unread x2) (harg6.unread x3) init (k + 1) = _ from e]
    refine ⟨two_good t _ σ0 on0 wv0 (2 * k + 1) _ _ g0 _ s0 _ _
        (on_of t σ0 on0 wv0 T0 (2 * k + 1) (by omega) _ (load_s arg6 harg6 x3 _ _ 0 (2 * k + 1) (off8 i ⟨k, ht⟩) t (by omega) (by omega)))
        (on_of t σ0 on0 wv0 T0 (2 * k + 1 + 1) (by omega) _ (load_s arg6 harg6 x3 _ _ 0 (2 * k + 1 + 1) (off10 i ⟨k, ht⟩) t (by omega) (by omega))) _ _
        (vals_of t σ0 on0 wv0 T0 (2 * k + 1) (by omega) _ fun d x => load_v arg5 harg5 x2 _ _ (2 * k + 1) (64 * 0) (off9 i ⟨k, ht⟩) d x (by omega) (by omega))
        (vals_of t σ0 on0 wv0 T0 (2 * k + 1 + 1) (by omega) _ fun d x => load_v arg5 harg5 x2 _ _ (2 * k + 1 + 1) (64 * 0) (off11 i ⟨k, ht⟩) d x (by omega) (by omega)),
      two_good t _ σ1 on1 wv1 (2 * k + 1) _ _ g1 _ s1 _ _
        (on_of t σ1 on1 wv1 T1 (2 * k + 1) (by omega) _ (load_s arg6 harg6 x3 _ _ 1 (2 * k + 1) (off12 i ⟨k, ht⟩) t (by omega) (by omega)))
        (on_of t σ1 on1 wv1 T1 (2 * k + 1 + 1) (by omega) _ (load_s arg6 harg6 x3 _ _ 1 (2 * k + 1 + 1) (off14 i ⟨k, ht⟩) t (by omega) (by omega))) _ _
        (vals_of t σ1 on1 wv1 T1 (2 * k + 1) (by omega) _ fun d x => load_v arg5 harg5 x2 _ _ (2 * k + 1) (64 * 1) (off13 i ⟨k, ht⟩) d x (by omega) (by omega))
        (vals_of t σ1 on1 wv1 T1 (2 * k + 1 + 1) (by omega) _ fun d x => load_v arg5 harg5 x2 _ _ (2 * k + 1 + 1) (64 * 1) (off15 i ⟨k, ht⟩) d x (by omega) (by omega)),
      fun h => ⟨scores_of t σ0 on0 wv0 T0 (2 * k + 1 + 2) (2 * k + 1 + 2 + 1) (by omega) (by omega) _ _ (fun x z => load_k arg4 harg4 x1 _ _ (256 * (2 * k + 1 + 2)) (off6 i ⟨k, ht⟩ (by show 2 * (k + 2) ≤ _; omega)) x z (by omega)) (fun x z => load_k arg4 harg4 x1 _ _ (256 * (2 * k + 1 + 2 + 1)) (off7 i ⟨k, ht⟩ (by show 2 * (k + 2) ≤ _; omega)) x z (by omega)),
        scores_of t σ1 on1 wv1 T1 (2 * k + 1 + 2) (2 * k + 1 + 2 + 1) (by omega) (by omega) _ _ (fun x z => load_k arg4 harg4 x1 _ _ (256 * (2 * k + 1 + 2)) (off6 i ⟨k, ht⟩ (by show 2 * (k + 2) ≤ _; omega)) x z (by omega)) (fun x z => load_k arg4 harg4 x1 _ _ (256 * (2 * k + 1 + 2 + 1)) (off7 i ⟨k, ht⟩ (by show 2 * (k + 2) ≤ _; omega)) x z (by omega))⟩⟩

set_option maxHeartbeats 2000000 in
/-- The invariant holds where the pair loop starts. -/
theorem init_inv (i : grid0.Coords) (arg4 : Memref sig .tc .vmem S1x8192x128 .bf16) (harg4 : arg4.IsWhole) (arg5 : Memref sig .tc .vmem S1x32x128x256 .bf16) (harg5 : arg5.IsWhole) (arg6 : Memref sig .tc .vmem S1x2x32x256 .f32) (harg6 : arg6.IsWhole) :
    Inv t σ0 σ1 on0 on1 wv0 wv1 (i 2).val 1 (initCarry q0 q1 k0_pay44
        (View.readAt (Elt Ideal) arg4.view (Rect.unit (s := S1x8192x128) (k0_off1 i) S1x256x128.size (k0_off1_inb i)).toLoadRect (harg4.unread x1)) (View.readAt (Elt Ideal) arg4.view (Rect.unit (s := S1x8192x128) ![0, 0, 0] S1x256x128.size inb_k0).toLoadRect (harg4.unread x1)) (View.readAt (Elt Ideal) arg4.view (Rect.unit (s := S1x8192x128) (k0_off2 i) S1x256x128.size (k0_off2_inb i)).toLoadRect (harg4.unread x1)) (View.readAt (Elt Ideal) arg4.view (Rect.unit (s := S1x8192x128) (k0_off3 i) S1x256x128.size (k0_off3_inb i)).toLoadRect (harg4.unread x1))
        (View.readAt (Elt Ideal) arg6.view (Rect.unit (s := S1x2x32x256) ![0, 0, 0, 0] S1x1x1x256.size inb_s0).toLoadRect (harg6.unread x3)) (View.readAt (Elt Ideal) arg6.view (Rect.unit (s := S1x2x32x256) ![0, 1, 0, 0] S1x1x1x256.size inb_s1).toLoadRect (harg6.unread x3))
        (View.readAt (Elt Ideal) arg5.view (Rect.unit (s := S1x32x128x256) (k0_off4 i) S1x1x64x256.size (k0_off4_inb i)).toLoadRect (harg5.unread x2)) (View.readAt (Elt Ideal) arg5.view (Rect.unit (s := S1x32x128x256) ![0, 0, 0, 0] S1x1x64x256.size inb_v0).toLoadRect (harg5.unread x2))
        (View.readAt (Elt Ideal) arg5.view (Rect.unit (s := S1x32x128x256) (k0_off5 i) S1x1x64x256.size (k0_off5_inb i)).toLoadRect (harg5.unread x2)) (View.readAt (Elt Ideal) arg5.view (Rect.unit (s := S1x32x128x256) ![0, 0, 64, 0] S1x1x64x256.size inb_v1).toLoadRect (harg5.unread x2))) := by
  have hI : (i 2).val < 32 := (i 2).isLt
  have s0 := scores_of t σ0 on0 wv0 T0 (i 2).val 0 (by omega) (by omega) _ _ (fun x z => load_k arg4 harg4 x1 _ (k0_off1_inb i) _ (off1 i) x z (by omega)) (fun x z => load_k arg4 harg4 x1 _ (inb := (by decide : ∀ a, (![0, 0, 0] : Fin 3 → ℕ) a + S1x256x128.size a ≤ S1x8192x128.size a)) (256 * 0) (rfl) x z (by omega))
  have s1 := scores_of t σ1 on1 wv1 T1 (i 2).val 0 (by omega) (by omega) _ _ (fun x z => load_k arg4 harg4 x1 _ (k0_off1_inb i) _ (off1 i) x z (by omega)) (fun x z => load_k arg4 harg4 x1 _ (inb := (by decide : ∀ a, (![0, 0, 0] : Fin 3 → ℕ) a + S1x256x128.size a ≤ S1x8192x128.size a)) (256 * 0) (rfl) x z (by omega))
  refine ⟨step_good t _ σ0 on0 wv0 0 _ _ (own_good t _ σ0 on0 wv0 _ _ s0.1 (vals_of t σ0 on0 wv0 T0 (i 2).val (by omega) _ fun d x => load_v arg5 harg5 x2 _ _ (i 2).val (64 * 0) (off4 i) d x (by omega) (by omega))) _
        (on_of t σ0 on0 wv0 T0 0 (by omega) _ (load_s arg6 harg6 x3 _ _ 0 0 (rfl) t (by omega) (by omega))) _ (fun x => ?_) _
        (vals_of t σ0 on0 wv0 T0 0 (by omega) _ fun d x => load_v arg5 harg5 x2 _ _ 0 (64 * 0) (rfl) d x (by omega) (by omega)),
      step_good t _ σ1 on1 wv1 0 _ _ (own_good t _ σ1 on1 wv1 _ _ s1.1 (vals_of t σ1 on1 wv1 T1 (i 2).val (by omega) _ fun d x => load_v arg5 harg5 x2 _ _ (i 2).val (64 * 1) (off5 i) d x (by omega) (by omega))) _
        (on_of t σ1 on1 wv1 T1 0 (by omega) _ (load_s arg6 harg6 x3 _ _ 1 0 (rfl) t (by omega) (by omega))) _ (fun x => ?_) _
        (vals_of t σ1 on1 wv1 T1 0 (by omega) _ fun d x => load_v arg5 harg5 x2 _ _ 0 (64 * 1) (rfl) d x (by omega) (by omega)),
      fun h => ⟨scores_of t σ0 on0 wv0 T0 1 2 (by omega) (by omega) _ _ (fun x z => load_k arg4 harg4 x1 _ _ _ (off2 i h) x z (by omega)) (fun x z => load_k arg4 harg4 x1 _ _ _ (off3 i h) x z (by omega)),
        scores_of t σ1 on1 wv1 T1 1 2 (by omega) (by omega) _ _ (fun x z => load_k arg4 harg4 x1 _ _ _ (off2 i h) x z (by omega)) (fun x z => load_k arg4 harg4 x1 _ _ _ (off3 i h) x z (by omega))⟩⟩
  · rw [hi_apply]
    exact s0.2 x
  · rw [hi_apply]
    exact s1.2 x
end Loop

end Cert.Proof.Attn
-- ==== Proof.AttnRef.lean ====
/-
The attention reference, read at an element: the quotient of the sums over the keys a query sees.
-/
module
public import proofs.«01_k».proof.Proof.Gen.AttnRefIdeal.Run
public import proofs.«01_k».proof.Proof.Gen.AttnRefIdeal.Read
public import proofs.«01_k».proof.Proof.AttnMath
@[expose] public section
set_option maxRecDepth 16384
noncomputable section
namespace Cert.Proof.AttnR
open Idealize.ShloMosaic Idealize.ShloMosaic.TcCoe Idealize.SL.Sem
open Cert.AttnRefIdeal Cert.AttnRefIdeal.Read Cert.Proof.Attn

/-- Queries and keys. -/
abbrev QK := (⟨S4x8192x1024, .bf16⟩ : BufTy).Contents (Elt Ideal)
/-- Transposed values, by block of keys. -/
abbrev VT := (⟨S4x32x1024x256, .bf16⟩ : BufTy).Contents (Elt Ideal)
/-- The selection, by head, block of keys and query. -/
abbrev SL := (⟨S4x16x32x8192, .f32⟩ : BufTy).Contents (Elt Ideal)

/-- The score of query `u` with key `k`, at minus infinity where the query does not see the key. -/
def rs (qa ka : QK) (sel : SL) (b : Fin 4) (u : Fin 8192) (e : Fin 1024) (k : Fin 8192) : EReal :=
  Scalar.select
    (IntOp.ori
      (IntOp.andi (IntOp.cmpi CmpIPredicate.eq (BitVec.ofNat 32 (u.val / 256)) (BitVec.ofNat 32 (k.val / 256)))
        (IntOp.cmpi CmpIPredicate.sle (BitVec.ofNat 32 k.val) (BitVec.ofNat 32 u.val)))
      (IntOp.andi (IntOp.cmpi CmpIPredicate.slt (BitVec.ofNat 32 (k.val / 256)) (BitVec.ofNat 32 (u.val / 256)))
        (BitVec.ofBool (decide (Ideal.ofBits FTy.f32 1056964608#32 < sel (ix4 b ⟨e.val / 64, by omega⟩ ⟨k.val / 256, by omega⟩ u))))))
    (∑ z : Fin 64, qa (ix3 b u ⟨e.val / 64 * 64 + z.val, by omega⟩) * ka (ix3 b k ⟨e.val / 64 * 64 + z.val, by omega⟩))
    (Ideal.ofBits FTy.f32 4286578688#32)

set_option maxHeartbeats 4000000 in
/-- The reference's result, read at an element. -/
theorem ref_apply (qa ka : QK) (vt : VT) (sel : SL) (b : Fin 4) (u : Fin 8192) (e : Fin 1024) :
    val_main_v55 qa ka vt sel (ix3 b u e) = ∑ k : Fin 8192, Ideal.div
      (Ideal.exp (rs qa ka sel b u e k - Finset.fold max (Ideal.ofBits FTy.f32 4286578688#32) (rs qa ka sel b u e) Finset.univ))
      (∑ k' : Fin 8192, Ideal.exp (rs qa ka sel b u e k' - Finset.fold max (Ideal.ofBits FTy.f32 4286578688#32) (rs qa ka sel b u e) Finset.univ))
      * vt (ix4 b ⟨k.val / 256, by omega⟩ e ⟨k.val % 256, by omega⟩) := by
  pointwise [val_main_call0_v0, val_main_call0_v1, val_main_cst, val_main_cst_0, val_main_cst_1, val_main_cst_2, val_main_v0, val_main_v1, val_main_v10, val_main_v11, val_main_v12, val_main_v13, val_main_v14, val_main_v15, val_main_v16, val_main_v17, val_main_v18, val_main_v19, val_main_v2, val_main_v20, val_main_v21, val_main_v22, val_main_v23, val_main_v24, val_main_v25, val_main_v26, val_main_v27, val_main_v28, val_main_v29, val_main_v3, val_main_v30, val_main_v31, val_main_v32, val_main_v33, val_main_v34, val_main_v35, val_main_v36, val_main_v37, val_main_v38, val_main_v39, val_main_v4, val_main_v40, val_main_v41, val_main_v42, val_main_v43, val_main_v44, val_main_v45, val_main_v46, val_main_v47, val_main_v48, val_main_v49, val_main_v5, val_main_v50, val_main_v51, val_main_v52, val_main_v53, val_main_v54, val_main_v55, val_main_v6, val_main_v7, val_main_v8, val_main_v9]
  rfl

/-- Equality of two words of small naturals. -/
theorem cmp_eq (a b : ℕ) (ha : a < 8192) (hb : b < 8192) : IntOp.cmpi CmpIPredicate.eq (BitVec.ofNat 32 a) (BitVec.ofNat 32 b) = BitVec.ofBool (decide (a = b)) := by
  have h : (BitVec.ofNat 32 a = BitVec.ofNat 32 b) ↔ a = b := by
    rw [← BitVec.toNat_inj, BitVec.toNat_ofNat, BitVec.toNat_ofNat]
    omega
  by_cases hab : a = b
  · simp [IntOp.cmpi, hab]
  · have h' : (BitVec.ofNat 32 a == BitVec.ofNat 32 b) = false := beq_eq_false_iff_ne.2 fun e => hab (h.1 e)
    simp [IntOp.cmpi, hab, h']
/-- Order of two words of small naturals. -/
theorem cmp_sle (a b : ℕ) (ha : a < 8192) (hb : b < 8192) : IntOp.cmpi CmpIPredicate.sle (BitVec.ofNat 32 a) (BitVec.ofNat 32 b) = BitVec.ofBool (decide (a ≤ b)) := by
  have h : ∀ n < 8192, (BitVec.ofNat 32 n).toInt = n := fun n hn => by
    rw [BitVec.toInt_eq_toNat_of_lt] <;> rw [BitVec.toNat_ofNat] <;> omega
  simp [IntOp.cmpi, BitVec.sle, h a ha, h b hb]
/-- Strict order of two words of small naturals. -/
theorem cmp_slt (a b : ℕ) (ha : a < 8192) (hb : b < 8192) : IntOp.cmpi CmpIPredicate.slt (BitVec.ofNat 32 a) (BitVec.ofNat 32 b) = BitVec.ofBool (decide (a < b)) := by
  have h : ∀ n < 8192, (BitVec.ofNat 32 n).toInt = n := fun n hn => by
    rw [BitVec.toInt_eq_toNat_of_lt] <;> rw [BitVec.toNat_ofNat] <;> omega
  simp [IntOp.cmpi, BitVec.slt, h a ha, h b hb]
/-- The conjunction of two decided bits. -/
theorem and_decide (p q : Prop) [Decidable p] [Decidable q] : IntOp.andi (BitVec.ofBool (decide p)) (BitVec.ofBool (decide q)) = BitVec.ofBool (decide (p ∧ q)) := by
  by_cases hp : p <;> by_cases hq : q <;> simp [hp, hq, IntOp.andi]
/-- The disjunction of two decided bits. -/
theorem or_decide (p q : Prop) [Decidable p] [Decidable q] : IntOp.ori (BitVec.ofBool (decide p)) (BitVec.ofBool (decide q)) = BitVec.ofBool (decide (p ∨ q)) := by
  by_cases hp : p <;> by_cases hq : q <;> simp [hp, hq, IntOp.ori]

/-- A sum over all keys, by block and lane. -/
theorem sum_keys (F : Fin 8192 → EReal) (f : ℕ → Fin 256 → EReal)
    (h : ∀ (j : ℕ) (hj : j < 32) (x : Fin 256), F ⟨256 * j + x.val, by omega⟩ = f j x) : ∑ k, F k = ∑ j ∈ Finset.range 32, ∑ x, f j x := by
  rw [Finset.sum_range, ← (finProdFinEquiv (m := 32) (n := 256)).sum_comp F, Fintype.sum_prod_type]
  refine Finset.sum_congr rfl fun j _ => Finset.sum_congr rfl fun x _ => ?_
  rw [← h j.val j.isLt x]
  congr 1
  exact Fin.ext (by simp [finProdFinEquiv]; omega)

/-- What ties the scores, the selection and the weights to the reference's arguments, at batch row `b`, head `H`, query lane `t` of block `I`
    and value column `d`. -/
structure Tied (qa ka : QK) (vt : VT) (sel : SL) (b : Fin 4) (H : Fin 16) (I : ℕ) (hI : I < 32) (t : Fin 256) (d : Fin 64)
    (σ : ℕ → Fin 256 → ℝ) (on : ℕ → Prop) (w : ℕ → Fin 256 → EReal) : Prop where
  /-- The scores. -/
  sc : ∀ (j : ℕ) (hj : j < 32) (x : Fin 256), ∑ z : Fin 64, qa (ix3 b ⟨256 * I + t.val, by omega⟩ ⟨64 * H.val + z.val, by omega⟩)
    * ka (ix3 b ⟨256 * j + x.val, by omega⟩ ⟨64 * H.val + z.val, by omega⟩) = ((σ j x : ℝ) : EReal)
  /-- The selection. -/
  on : ∀ (j : ℕ) (hj : j < 32), on j ↔ Ideal.ofBits FTy.f32 1056964608#32 < sel (ix4 b H ⟨j, hj⟩ ⟨256 * I + t.val, by omega⟩)
  /-- The weights. -/
  wv : ∀ (j : ℕ) (hj : j < 32) (x : Fin 256), w j x = vt (ix4 b ⟨j, hj⟩ ⟨64 * H.val + d.val, by omega⟩ x)

section
variable {qa ka : QK} {vt : VT} {sel : SL} {b : Fin 4} {H : Fin 16} {I : ℕ} {hI : I < 32} {t : Fin 256} {d : Fin 64}
  {σ : ℕ → Fin 256 → ℝ} {on : ℕ → Prop} [DecidablePred on] {w : ℕ → Fin 256 → EReal} (T : Tied qa ka vt sel b H I hI t d σ on w)
include T

/-- The masked score at a key. -/
theorem rs_eq (j : ℕ) (hj : j < 32) (x : Fin 256) :
    rs qa ka sel b ⟨256 * I + t.val, by omega⟩ ⟨64 * H.val + d.val, by omega⟩ ⟨256 * j + x.val, by omega⟩
      = if sees I t on j x then ((σ j x : ℝ) : EReal) else ⊥ := by
  have h1 : (256 * I + t.val) / 256 = I := by omega
  have h2 : (256 * j + x.val) / 256 = j := by omega
  have h3 : (64 * H.val + d.val) / 64 = H.val := by omega
  unfold rs
  simp only [h1, h2, h3]
  rw [cmp_eq _ _ (by omega) (by omega), cmp_sle _ _ (by omega) (by omega), cmp_slt _ _ (by omega) (by omega), and_decide, and_decide, or_decide,
    sel_decide, neg_inf]
  refine if_congr ?_ ?_ rfl
  · unfold sees
    rw [T.on j hj, Fin.le_def]
    refine or_congr ?_ Iff.rfl
    omega
  · rw [← T.sc j hj x]
    simp only [Nat.mul_comm H.val 64]

/-- The reference's result as a quotient of the sums. -/
theorem ref_val : ∃ μ : ℝ, val_main_v55 qa ka vt sel (ix3 b ⟨256 * I + t.val, by omega⟩ ⟨64 * H.val + d.val, by omega⟩)
    = Ideal.div (G I t σ on w I μ) (G I t σ on (fun _ _ => 1) I μ) := by
  have hk : ∀ k : Fin 8192, rs qa ka sel b ⟨256 * I + t.val, by omega⟩ ⟨64 * H.val + d.val, by omega⟩ k
      = if sees I t on (k.val / 256) ⟨k.val % 256, by omega⟩ then ((σ (k.val / 256) ⟨k.val % 256, by omega⟩ : ℝ) : EReal) else ⊥ := fun k => by
    rw [← rs_eq T (k.val / 256) (by omega) ⟨k.val % 256, by omega⟩]
    congr 1
    exact Fin.ext (by simp only; omega)
  obtain ⟨M, hM⟩ := fold_real Finset.univ (rs qa ka sel b ⟨256 * I + t.val, by omega⟩ ⟨64 * H.val + d.val, by omega⟩)
    (fun k _ => by
      rw [hk k]
      split_ifs
      · exact .inr ⟨_, rfl⟩
      · exact .inl rfl)
    ⟨256 * I + t.val, by omega⟩ (Finset.mem_univ _) (σ I t) (by rw [rs_eq T I hI t, if_pos (.inl ⟨rfl, le_rfl⟩)])
  refine ⟨M, ?_⟩
  have he : ∀ (j : ℕ) (hj : j < 32) (x : Fin 256),
      Ideal.exp (rs qa ka sel b ⟨256 * I + t.val, by omega⟩ ⟨64 * H.val + d.val, by omega⟩ ⟨256 * j + x.val, by omega⟩ - (M : EReal))
        = if sees I t on j x then ((Real.exp (σ j x - M) : ℝ) : EReal) else 0 := fun j hj x => by
    rw [rs_eq T j hj x]
    split_ifs
    · rw [← EReal.coe_sub, Ideal.exp_coe]
    · rw [EReal.bot_sub, Ideal.exp_bot]
  have hZ : (∑ k' : Fin 8192, Ideal.exp (rs qa ka sel b ⟨256 * I + t.val, by omega⟩ ⟨64 * H.val + d.val, by omega⟩ k' - (M : EReal)))
      = G I t σ on (fun _ _ => 1) I M := by
    rw [← all_sum I t σ on (fun _ _ => 1) M 32 hI]
    refine sum_keys _ _ fun j hj x => ?_
    rw [he j hj x, one_mul]
  obtain ⟨r, hr, hG⟩ := G_one I t σ on I M
  rw [ref_apply, neg_inf, hM, hZ, hG, ← all_sum I t σ on w M 32 hI]
  have hd : ∀ a : EReal, Ideal.div a (r : EReal) = a * ((r⁻¹ : ℝ) : EReal) := fun a => by
    unfold Ideal.div
    rw [if_neg (by simpa using hr.ne'), EReal.coe_inv]
  have hr' : 0 ≤ r⁻¹ := (inv_pos.2 hr).le
  rw [hd, sum_mul_real _ _ _ hr']
  simp only [hd]
  rw [sum_keys _ (fun j x => (if sees I t on j x then w j x * ((Real.exp (σ j x - M) : ℝ) : EReal) else 0) * ((r⁻¹ : ℝ) : EReal)) fun j hj x => ?_]
  · refine Finset.sum_congr rfl fun j _ => ?_
    rw [sum_mul_real _ _ _ hr']
  · rw [he j hj x, T.wv j hj x]
    have e1 : (⟨(256 * j + x.val) / 256, by omega⟩ : Fin 32) = ⟨j, hj⟩ := Fin.ext (by simp only; omega)
    have e2 : (⟨(256 * j + x.val) % 256, by omega⟩ : Fin 256) = x := Fin.ext (by simp only; omega)
    rw [e1, e2]
    split_ifs
    · rw [mul_right_comm, mul_comm (vt _)]
    · simp
end

end Cert.Proof.AttnR
-- ==== Proof.AttnTied.lean ====
/-
The scores, the selection and the weights of a head, as the arguments give them, tied to the kernel's blocks and to the reference.
-/
module
public import proofs.«01_k».proof.Proof.AttnBody
public import proofs.«01_k».proof.Proof.AttnRef
@[expose] public section
set_option maxRecDepth 16384
noncomputable section
namespace Cert.Proof.Attn
open Idealize.ShloMosaic Idealize.ShloMosaic.TcCoe Idealize.SL.Sem
open Cert.AttnIdeal Cert.AttnIdeal.Gen
open Cert.Proof.AttnR (QK VT SL)

/-- A head's columns picked from a pair's, by a factor that is zero at the other head's. -/
theorem sum_half (h : ℕ) (hh : h < 2) (f g : Fin 128 → EReal) :
    (∑ z : Fin 128, f z * (if 64 * h ≤ z.val ∧ z.val < 64 * h + 64 then g z else 0))
      = ∑ z : Fin 64, g ⟨64 * h + z.val, by omega⟩ * f ⟨64 * h + z.val, by omega⟩ := by
  rw [show (∑ z : Fin 128, f z * (if 64 * h ≤ z.val ∧ z.val < 64 * h + 64 then g z else 0))
    = ∑ z : Fin (64 + 64), f z * (if 64 * h ≤ z.val ∧ z.val < 64 * h + 64 then g z else 0) from rfl, Fin.sum_univ_add]
  obtain rfl | rfl : h = 0 ∨ h = 1 := by omega
  · rw [Finset.sum_eq_zero (s := Finset.univ) (f := fun i : Fin 64 => f (Fin.natAdd 64 i) * _) fun z _ => ?_, add_zero]
    · refine Finset.sum_congr rfl fun z _ => ?_
      rw [if_pos (by simp), mul_comm]
      congr 2 <;> exact Fin.ext (by simp)
    · rw [if_neg (by simp), mul_zero]
  · rw [Finset.sum_eq_zero (s := Finset.univ) (f := fun i : Fin 64 => f (Fin.castAdd 64 i) * _) fun z _ => ?_, zero_add]
    · refine Finset.sum_congr rfl fun z _ => ?_
      rw [if_pos (by simp; omega), mul_comm]
      congr 2
    · rw [if_neg (by simp), mul_zero]

/-- A sum of products of reals is a real. -/
theorem sum_real (f g : Fin 64 → EReal) (hf : ∀ z, ∃ r : ℝ, f z = r) (hg : ∀ z, ∃ r : ℝ, g z = r) :
    ∑ z, f z * g z = (((∑ z, f z * g z).toReal : ℝ) : EReal) := by
  choose a ha using hf
  choose b hb using hg
  have h : ∑ z, f z * g z = ((∑ z, a z * b z : ℝ) : EReal) := by
    rw [← sum_coe]
    refine Finset.sum_congr rfl fun z _ => ?_
    rw [ha, hb, EReal.coe_mul]
  rw [h, EReal.toReal_coe]

/-- The score of the query at lane `t` of block `I` with the key at lane `x` of block `j`, at batch row `b` and head `H`. -/
def score (qa ka : QK) (b : Fin 4) (H : Fin 16) (I : ℕ) (hI : I < 32) (t : Fin 256) (j : ℕ) (x : Fin 256) : ℝ :=
  if hj : j < 32 then (∑ z : Fin 64, (qa (ix3 b ⟨256 * I + t.val, by omega⟩ ⟨64 * H.val + z.val, by omega⟩) : EReal)
    * (ka (ix3 b ⟨256 * j + x.val, by omega⟩ ⟨64 * H.val + z.val, by omega⟩) : EReal)).toReal else 0

/-- The query at lane `t` of block `I` selects block `j`. -/
def seln (sel : SL) (b : Fin 4) (H : Fin 16) (I : ℕ) (hI : I < 32) (t : Fin 256) (j : ℕ) : Prop :=
  ∃ hj : j < 32, Ideal.ofBits FTy.f32 1056964608#32 < sel (ix4 b H ⟨j, hj⟩ ⟨256 * I + t.val, by omega⟩)

/-- The values of a head, and ones past them. -/
def wts (vt : VT) (b : Fin 4) (H : Fin 16) (r : Fin 80) (j : ℕ) (x : Fin 256) : EReal :=
  if h : r.val < 64 ∧ j < 32 then vt (ix4 b ⟨j, h.2⟩ ⟨64 * H.val + r.val, by omega⟩ x) else 1

instance (sel : SL) (b : Fin 4) (H : Fin 16) (I : ℕ) (hI : I < 32) (t : Fin 256) : DecidablePred (seln sel b H I hI t) := Classical.decPred _

section
variable (qa ka : QK) (vt : VT) (sel : SL) (hq : ∀ a b e, ∃ r : ℝ, qa (ix3 a b e) = (r : EReal)) (hk : ∀ a b e, ∃ r : ℝ, ka (ix3 a b e) = (r : EReal))
  (b : Fin 4) (H : Fin 16) (I : ℕ) (hI : I < 32) (t : Fin 256)
include hq hk

/-- The scores are the sums of products. -/
theorem score_eq (j : ℕ) (hj : j < 32) (x : Fin 256) :
    ∑ z : Fin 64, (qa (ix3 b ⟨256 * I + t.val, by omega⟩ ⟨64 * H.val + z.val, by omega⟩) : EReal)
      * (ka (ix3 b ⟨256 * j + x.val, by omega⟩ ⟨64 * H.val + z.val, by omega⟩) : EReal) = ((score qa ka b H I hI t j x : ℝ) : EReal) := by
  unfold score
  rw [dif_pos hj]
  exact sum_real _ _ (fun z => hq _ _ _) fun z => hk _ _ _

/-- The reference's scores, selection and weights. -/
theorem tied_r (d : Fin 64) : AttnR.Tied qa ka vt sel b H I hI t d (score qa ka b H I hI t) (seln sel b H I hI t) (wts vt b H ⟨d.val, by omega⟩) where
  sc := score_eq qa ka hq hk b H I hI t
  on j hj := ⟨fun ⟨_, h⟩ => h, fun h => ⟨hj, h⟩⟩
  wv j hj x := by
    unfold wts
    rw [dif_pos ⟨d.isLt, hj⟩]

/-- The kernel's scores, selection and weights. -/
theorem tied_k (p : Fin 8) (h : ℕ) (hh : h < 2) (hH : H.val = 2 * p.val + h)
    (x1 : Vec Ideal S1x8192x128 .bf16) (x2 : Vec Ideal S1x32x128x256 .bf16) (x3 : Vec Ideal S1x2x32x256 .f32) (q : FVec Ideal S256x128 .bf16)
    (e0 : ∀ z : Fin 128, q (ix2 t z) = if 64 * h ≤ z.val ∧ z.val < 64 * h + 64 then qa (ix3 b ⟨256 * I + t.val, by omega⟩ ⟨128 * p.val + z.val, by omega⟩) else (0 : EReal))
    (e1 : ∀ (u : Fin 8192) (z : Fin 128), x1 (ix3 0 u z) = ka (ix3 b u ⟨128 * p.val + z.val, by omega⟩))
    (e2 : ∀ (j : Fin 32) (r : Fin 128) (x : Fin 256), x2 (ix4 0 j r x) = vt (ix4 b j ⟨128 * p.val + r.val, by omega⟩ x))
    (e3 : ∀ (j : Fin 32), x3 (ix4 0 ⟨h, hh⟩ j t) = sel (ix4 b H j ⟨256 * I + t.val, by omega⟩)) :
    Tied t (score qa ka b H I hI t) (seln sel b H I hI t) (wts vt b H) x1 x2 x3 q h hh where
  sc j hj x := by
    rw [← score_eq qa ka hq hk b H I hI t j hj x]
    simp only [e0, e1]
    rw [sum_half h hh (fun z => ka (ix3 b ⟨256 * j + x.val, by omega⟩ ⟨128 * p.val + z.val, by omega⟩))
      (fun z => qa (ix3 b ⟨256 * I + t.val, by omega⟩ ⟨128 * p.val + z.val, by omega⟩))]
    refine Finset.sum_congr rfl fun z _ => ?_
    have e : (⟨128 * p.val + (64 * h + z.val), by omega⟩ : Fin 1024) = ⟨64 * H.val + z.val, by omega⟩ := Fin.ext (by simp only; omega)
    simp only [e]
  on j hj := by
    rw [e3]
    exact ⟨fun ⟨_, h⟩ => h, fun h => ⟨hj, h⟩⟩
  wv r j hj x := by
    unfold wts
    by_cases hr : r.val < 64
    · rw [dif_pos ⟨hr, hj⟩, dif_pos hr, e2]
      have e : (⟨128 * p.val + (64 * h + r.val), by omega⟩ : Fin 1024) = ⟨64 * H.val + r.val, by omega⟩ := Fin.ext (by simp only; omega)
      simp only [e]
    · rw [dif_neg (fun h => hr h.1), dif_neg hr]

/-- A head's result from its running state: the reference's, the own block not being selected. -/
theorem head (hown : ¬ seln sel b H I hI t I) (m : FVec Ideal S1x256 .f32) (acc : FVec Ideal S80x256 .f32)
    (hg : Good t I (score qa ka b H I hI t) (seln sel b H I hI t) (wts vt b H) (2 * (I / 2) + 1) m acc) (d : Fin 64) :
    Ideal.div (acc (ix2 ⟨d.val, by omega⟩ t)) (acc (ix2 64 t))
      = Cert.AttnRefIdeal.Read.val_main_v55 qa ka vt sel (ix3 b ⟨256 * I + t.val, by omega⟩ ⟨64 * H.val + d.val, by omega⟩) := by
  obtain ⟨μ, _, ha⟩ := hg
  obtain ⟨μ', hr⟩ := AttnR.ref_val (tied_r qa ka vt sel hq hk b H I hI t d)
  have h64 : wts vt b H 64 = fun _ _ => 1 := by
    funext j x
    unfold wts
    rw [dif_neg (fun h => absurd h.1 (by decide))]
  have hn : ∀ w, G I t (score qa ka b H I hI t) (seln sel b H I hI t) w (2 * (I / 2) + 1) μ = G I t (score qa ka b H I hI t) (seln sel b H I hI t) w I μ := fun w => by
    obtain e | e : 2 * (I / 2) + 1 = I ∨ 2 * (I / 2) + 1 = I + 1 := by omega
    · rw [e]
    · rw [e, G_skip _ _ _ _ _ _ _ hown]
  rw [hr, ha, ha, h64, hn, hn]
  exact quot _ _ _ _ _ _ _ _
end

end Cert.Proof.Attn
-- ==== Proof.AttnPre.lean ====
/-
What the attention's precondition says of an element: queries and keys are reals, and no query selects its own block.
-/
module
public import proofs.«01_k».proof.Pre_attn_pre
public import Idealize.ShloMosaic.Lib.ReduceAll
public import proofs.«01_k».proof.Proof.AttnMath
@[expose] public section
set_option maxRecDepth 16384
noncomputable section
namespace Cert.Proof.AttnP
open Idealize.ShloMosaic
open Cert.Pre_attn_pre Cert.Pre_attn_pre.Facts

/-- A conjunction of two bits that holds. -/
theorem both : ∀ a b : BitVec 1, IntOp.andi a b = 1#1 → a = 1#1 ∧ b = 1#1 := by decide

/-- A value whose magnitude is below infinity is a real. -/
theorem real_of_abs (x : EReal) (h : max x (-x) < Ideal.ofBits FTy.f32 2139095040#32) : ∃ r : ℝ, x = r := by
  rw [show Ideal.ofBits FTy.f32 2139095040#32 = ⊤ from by simp [Ideal.ofBits, Ideal.ieee]] at h
  induction x with
  | bot => simp at h
  | top => simp at h
  | coe r => exact ⟨r, rfl⟩

/-- The shape relations the precondition is stated over. -/
theorem facts : Cert.Pre_attn_pre.Facts where
  bitsLt_bf16_f32 := by decide
  bcast_S_S4x8192x1024 := by decide
  reducesTo_S4x8192x1024_S_d0_1_2 := by decide
  h_S_ := by decide
  shapeCasts_S32x256_S8192 := by decide
  bcast_S8192_S1x8192_1 := by decide
  bcast_S1x8192_S32x8192_0_1 := by decide
  bcast_S_S4x16x32x8192 := by decide
  bcast_S32x8192_S1x1x32x8192_2_3 := by decide
  bcast_S1x1x32x8192_S4x16x32x8192_0_1_2_3 := by decide
  reducesTo_S4x16x32x8192_S_d0_1_2_3 := by decide

/-- A decided bit that is set. -/
theorem of_decide (p : Prop) [Decidable p] (h : BitVec.ofBool (decide p) = 1#1) : p := by
  by_contra hp
  simp [hp] at h

variable [Facts]

/-- The reading of an element's magnitude test. -/
theorem fin_apply (q : FVec Ideal S4x8192x1024 .bf16) (a : Fin 4) (b : Fin 8192) (e : Fin 1024) :
    cmpf .olt (Host.absf (extf .f32 q bitsLt_bf16_f32)) (broadcastInDim S4x8192x1024 ![] bcast_S_S4x8192x1024 (constant S_ .f32 0x7F800000#32)) (ix3 a b e)
      = BitVec.ofBool (decide (max (q (ix3 a b e)) (-q (ix3 a b e)) < Ideal.ofBits FTy.f32 2139095040#32)) := by
  pointwise
  try rfl

/-- The reading of an element's test that the query selects its own block. -/
theorem own_apply (sel : FVec Ideal S4x16x32x8192 .f32) (b : Fin 4) (H : Fin 16) (j : Fin 32) (u : Fin 8192) (hu : j.val = u.val / 256) :
    noti (andi (broadcastInDim S4x16x32x8192 ![0, 1, 2, 3] bcast_S1x1x32x8192_S4x16x32x8192_0_1_2_3
        (broadcastInDim S1x1x32x8192 ![2, 3] bcast_S32x8192_S1x1x32x8192_2_3
          (cmpi .eq (iotaInDim S32x8192 32 0) (broadcastInDim S32x8192 ![0, 1] bcast_S1x8192_S32x8192_0_1
            (broadcastInDim S1x8192 ![1] bcast_S8192_S1x8192_1 (shapeCast S8192 (iotaInDim S32x256 32 0) shapeCasts_S32x256_S8192))))))
      (cmpf .ogt sel (broadcastInDim S4x16x32x8192 ![] bcast_S_S4x16x32x8192 (constant S_ .f32 0x3F000000#32)))) (ix4 b H j u)
      = BitVec.ofBool (decide (¬ Ideal.ofBits FTy.f32 1056964608#32 < sel (ix4 b H j u))) := by
  pointwise
  rw [← hu]
  by_cases h : Ideal.ofBits FTy.f32 1056964608#32 < sel (ix4 b H j u) <;> simp [h, IntOp.cmpi, IntOp.andi]

/-- The precondition, element by element. -/
theorem of_pre (qa ka : FVec Ideal S4x8192x1024 .bf16) (vt : FVec Ideal S4x32x1024x256 .bf16) (sel : FVec Ideal S4x16x32x8192 .f32)
    (h : fn (F := Ideal) qa ka vt sel = fun _ => 1#1) :
    (∀ a b e, ∃ r : ℝ, qa (ix3 a b e) = r) ∧ (∀ a b e, ∃ r : ℝ, ka (ix3 a b e) = r)
      ∧ ∀ (b : Fin 4) (H : Fin 16) (j : Fin 32) (u : Fin 8192), j.val = u.val / 256 → ¬ Ideal.ofBits FTy.f32 1056964608#32 < sel (ix4 b H j u) := by
  have h0 := congrFun h ix0
  unfold fn fn_part1 at h0
  obtain ⟨h1, h2⟩ := both _ _ h0
  obtain ⟨h3, h4⟩ := both _ _ h1
  refine ⟨fun a b e => ?_, fun a b e => ?_, fun b H j u hu => ?_⟩
  · have := Host.reduce_andi_all _ _ _ _ _ h3 (ix3 a b e)
    rw [fin_apply] at this
    exact real_of_abs _ (of_decide _ this)
  · have := Host.reduce_andi_all _ _ _ _ _ h4 (ix3 a b e)
    rw [fin_apply] at this
    exact real_of_abs _ (of_decide _ this)
  · have := Host.reduce_andi_all _ _ _ _ _ h2 (ix4 b H j u)
    rw [own_apply _ _ _ _ _ hu] at this
    intro hc
    simp [hc] at this

end Cert.Proof.AttnP
-- ==== Proof.AttnValue.lean ====
/-
The value of the attention over chosen blocks: what the kernel writes is the reference's result, element by element.
-/
module
public import proofs.«01_k».proof.Proof.AttnRun
public import proofs.«01_k».proof.Proof.AttnTied
public import proofs.«01_k».proof.Proof.AttnPre
public import proofs.«01_k».proof.Proof.Gen.AttnIdeal.Value
public import proofs.«01_k».proof.Defs
public import Idealize.ShloMosaic.Lib.Pipeline.ValueKit
@[expose] public section
set_option maxRecDepth 16384
noncomputable section
namespace Cert.Proof.Attn
open Idealize.ShloMosaic Idealize.ShloMosaic.TcCoe Idealize.SL.Sem
open Idealize.ShloMosaic.Pipeline (Dat)
open Cert.AttnIdeal Cert.AttnIdeal.Gen
open Cert.Proof.AttnR (QK VT SL)
open Cert.AttnRefIdeal.Read (val_main_v55 val_main_v55_eq)

/-- Where the blocks of the four operands and of the result stand: the grid's axes are the batch entry, the pair of heads and the
    block of 256 queries. -/
theorem places : ∀ t : Fin cfg0.N, win0_0.index t = ![t.val / 256, t.val % 32, t.val / 32 % 8] ∧ win0_1.index t = ![t.val / 256, 0, t.val / 32 % 8]
    ∧ win0_2.index t = ![t.val / 256, 0, t.val / 32 % 8, 0] ∧ win0_3.index t = ![t.val / 256, t.val / 32 % 8, 0, t.val % 32]
    ∧ win0_4.index t = ![t.val / 256, t.val % 32, t.val / 32 % 8] :=
  (by decide +kernel : ∀ t : Fin grid0.N, _)

/-- A grid point's block of queries. -/
theorem coord : ∀ t : Fin cfg0.N, (grid0.coords t 2).val = t.val % 32 :=
  (by decide +kernel : ∀ t : Fin grid0.N, _)

variable (m : (ℓ : Loc nD τ sig) → Buf (Elt Ideal) ℓ)

/-- The block of queries, read in its array. -/
theorem blk_q (c : Dev nD) (t : Fin cfg0.N) (r : Fin 256) (e : Fin 128) (b : Fin 4) (hb : b.val = t.val / 256) (u : Fin 8192)
    (hu : u.val = 256 * (t.val % 32) + r.val) (o : Fin 1024) (ho : o.val = 128 * (t.val / 32 % 8) + e.val) :
    iblk m c 0 t (ix3 0 r e) = m ((c : Thread nD τ).loc main_arg0) (ix3 b u o) := by
  blk_ext [iblk, V, places t]

/-- The block of keys, read in its array. -/
theorem blk_k (c : Dev nD) (t : Fin cfg0.N) (r : Fin 8192) (e : Fin 128) (b : Fin 4) (hb : b.val = t.val / 256)
    (o : Fin 1024) (ho : o.val = 128 * (t.val / 32 % 8) + e.val) :
    iblk m c 1 t (ix3 0 r e) = m ((c : Thread nD τ).loc main_arg1) (ix3 b r o) := by
  blk_ext [iblk, V, places t]

/-- The block of values, read in its array. -/
theorem blk_v (c : Dev nD) (t : Fin cfg0.N) (j : Fin 32) (r : Fin 128) (x : Fin 256) (b : Fin 4) (hb : b.val = t.val / 256)
    (o : Fin 1024) (ho : o.val = 128 * (t.val / 32 % 8) + r.val) :
    iblk m c 2 t (ix4 0 j r x) = m ((c : Thread nD τ).loc main_arg2) (ix4 b j o x) := by
  blk_ext [iblk, V, places t]

/-- The block of the selection, read in its array. -/
theorem blk_s (c : Dev nD) (t : Fin cfg0.N) (h : Fin 2) (j : Fin 32) (x : Fin 256) (b : Fin 4) (hb : b.val = t.val / 256)
    (H : Fin 16) (hH : H.val = 2 * (t.val / 32 % 8) + h.val) (u : Fin 8192) (hu : u.val = 256 * (t.val % 32) + x.val) :
    iblk m c 3 t (ix4 0 h j x) = m ((c : Thread nD τ).loc main_arg3) (ix4 b H j u) := by
  blk_ext [iblk, V, places t]

set_option maxHeartbeats 1000000 in
/-- The body's result at an element is the reference's, the blocks being the arguments'. -/
theorem body_val (qa ka : QK) (vt : VT) (sel : SL) (hq : ∀ a b e, ∃ r : ℝ, qa (ix3 a b e) = (r : EReal))
    (hk : ∀ a b e, ∃ r : ℝ, ka (ix3 a b e) = (r : EReal))
    (hs : ∀ (b : Fin 4) (H : Fin 16) (j : Fin 32) (u : Fin 8192), j.val = u.val / 256 → ¬ Ideal.ofBits FTy.f32 1056964608#32 < sel (ix4 b H j u))
    (b : Fin 4) (p : Fin 8) (I : ℕ) (hI : I < 32) (c : Dev nD) (i : grid0.Coords) (hi : (i 2).val = I)
    (arg3 : Memref sig .tc .vmem S1x256x128 .bf16) (harg3 : arg3.IsWhole) (arg4 : Memref sig .tc .vmem S1x8192x128 .bf16) (harg4 : arg4.IsWhole) (arg5 : Memref sig .tc .vmem S1x32x128x256 .bf16) (harg5 : arg5.IsWhole) (arg6 : Memref sig .tc .vmem S1x2x32x256 .f32) (harg6 : arg6.IsWhole) (arg7 : Memref sig .tc .vmem S1x256x128 .bf16) (harg7 : arg7.IsWhole)
    (x0 : Vec Ideal S1x256x128 .bf16) (x1 : Vec Ideal S1x8192x128 .bf16) (x2 : Vec Ideal S1x32x128x256 .bf16) (x3 : Vec Ideal S1x2x32x256 .f32)
    (e0 : ∀ (t : Fin 256) (z : Fin 128), x0 (ix3 0 t z) = qa (ix3 b ⟨256 * I + t.val, by omega⟩ ⟨128 * p.val + z.val, by omega⟩))
    (e1 : ∀ (u : Fin 8192) (z : Fin 128), x1 (ix3 0 u z) = ka (ix3 b u ⟨128 * p.val + z.val, by omega⟩))
    (e2 : ∀ (j : Fin 32) (r : Fin 128) (x : Fin 256), x2 (ix4 0 j r x) = vt (ix4 b j ⟨128 * p.val + r.val, by omega⟩ x))
    (e3 : ∀ (h : Fin 2) (j : Fin 32) (t : Fin 256), x3 (ix4 0 h j t) = sel (ix4 b ⟨2 * p.val + h.val, by omega⟩ j ⟨256 * I + t.val, by omega⟩))
    (t : Fin 256) (e : Fin 128) :
    out0_A_4 c i arg3 harg3 arg4 harg4 arg5 harg5 arg6 harg6 arg7 harg7 x0 x1 x2 x3 (ix3 0 t e)
      = val_main_v55 qa ka vt sel (ix3 b ⟨256 * I + t.val, by omega⟩ ⟨128 * p.val + e.val, by omega⟩) := by
  subst hi
  obtain ⟨arg2, v56, v90, v91, v117, v134, v141, v150, v151, v153, cst, hrun⟩ := run_eq c i arg3 harg3 arg4 harg4 arg5 harg5 arg6 harg6 arg7 harg7 x0 x1 x2 x3
  rw [hrun, out_apply, load_q, trips1]
  have T0 := tied_k qa ka vt sel hq hk b ⟨2 * p.val, by omega⟩ (i 2).val hI t p 0 lt0 rfl x1 x2 x3 (k0_pay42 x0)
    (fun z => by
      rw [q0_apply, e0]
      exact if_congr (by omega) rfl rfl) e1 e2 (fun j => e3 0 j t)
  have T1 := tied_k qa ka vt sel hq hk b ⟨2 * p.val + 1, by omega⟩ (i 2).val hI t p 1 lt1 rfl x1 x2 x3 (k0_pay43 x0)
    (fun z => by
      rw [q1_apply, e0]
      exact if_congr (by omega) rfl rfl) e1 e2 (fun j => e3 1 j t)
  have L := loop_inv t _ _ _ _ _ _ T0 T1 Variants.none c none i arg3 harg3 arg4 harg4 arg5 harg5 arg6 harg6 arg7 harg7 arg2 v56 v90 v91 v117 v134 v141 v150 v151 v153 cst
    _ (init_inv t _ _ _ _ _ _ T0 T1 i arg4 harg4 arg5 harg5 arg6 harg6) ((i 2).val / 2) le_rfl
  have hn : ∀ H, ¬ seln sel b H (i 2).val hI t (i 2).val := fun H h => by
    obtain ⟨hj, h⟩ := h
    exact hs _ _ _ _ (by simp only; omega) h
  split_ifs with he
  · rw [head qa ka vt sel hq hk b ⟨2 * p.val, by omega⟩ (i 2).val hI t (hn _) _ _ L.1 ⟨e.val, he⟩]
    congr 2
    exact Fin.ext (by simp only; omega)
  · rw [head qa ka vt sel hq hk b ⟨2 * p.val + 1, by omega⟩ (i 2).val hI t (hn _) _ _ L.2.1 ⟨e.val - 64, by omega⟩]
    congr 2
    exact Fin.ext (by simp only; omega)

/-- What a grid point stores at an element of its block is the reference at the element's place in the array. -/
theorem point (c : Dev nD) (hp : @Cert.Pre_attn_pre.fn Cert.Proof.AttnP.facts Ideal _ (m ((c : Thread nD τ).loc main_arg0)) (m ((c : Thread nD τ).loc main_arg1))
          (m ((c : Thread nD τ).loc main_arg2)) (m ((c : Thread nD τ).loc main_arg3)) = fun _ => 1#1) (t : Fin cfg0.N) (y : S1x256x128.Idx) :
    outsAt0 m c t y
      = val_main_v55 (m ((c : Thread nD τ).loc main_arg0)) (m ((c : Thread nD τ).loc main_arg1))
          (m ((c : Thread nD τ).loc main_arg2)) (m ((c : Thread nD τ).loc main_arg3)) (((cfg0.win 4).blk t).view.emb y) := by
  have hN : t.val < 1024 := t.isLt
  obtain ⟨hq, hk, hs⟩ := @AttnP.of_pre AttnP.facts _ _ _ _ hp
  obtain ⟨r, e, rfl⟩ : ∃ (r : Fin 256) (e : Fin 128), y = ix3 0 r e := ⟨y 1, y 2, by
    funext a
    fin_cases a
    · exact Subsingleton.elim (α := Fin 1) _ _
    · rfl
    · rfl⟩
  generalize hz : ((cfg0.win 4).blk t).view.emb (ix3 0 r e) = z
  have ez : z = ix3 ⟨t.val / 256, by omega⟩ ⟨256 * (t.val % 32) + r.val, by omega⟩ ⟨128 * (t.val / 32 % 8) + e.val, by omega⟩ := by
    subst hz
    blk_ext [places t]
  rw [ez]
  exact body_val _ _ _ _ hq hk hs ⟨t.val / 256, by omega⟩ ⟨t.val / 32 % 8, by omega⟩ (t.val % 32) (by omega) c (grid0.coords t) (coord t)
    _ _ _ _ _ _ _ _ _ _ _ _ _ _
    (fun x z => blk_q m c t x z _ rfl _ rfl _ rfl) (fun u z => blk_k m c t u z _ rfl _ rfl)
    (fun j d x => blk_v m c t j d x _ rfl _ rfl) (fun h j x => blk_s m c t h j x _ rfl _ rfl _ rfl) r e

/-- The array the kernel leaves is the reference's result. -/
theorem final (c : Dev nD) (hp : @Cert.Pre_attn_pre.fn Cert.Proof.AttnP.facts Ideal _ (m ((c : Thread nD τ).loc main_arg0)) (m ((c : Thread nD τ).loc main_arg1))
          (m ((c : Thread nD τ).loc main_arg2)) (m ((c : Thread nD τ).loc main_arg3)) = fun _ => 1#1) : (dats m 0 c).arrAt 4 cfg0.N
    = val_main_v55 (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ ?_ fun t hf y => ?_
  · decide +kernel
  blk_simp
  rw [after0_4]
  exact point m c hp t y

/-- Kernel and reference, launched on the same arguments, leave the same result and keep the arguments. -/
theorem algebraic : Cert.algebraic_AttnIdeal_AttnRefIdeal_pre_attn_pre (hAttnIdeal := Cert.AttnIdeal.Gen.facts) (hAttnRefIdeal := Cert.AttnRefIdeal.Gen.facts)
    (hPre_attn_pre := Cert.Proof.AttnP.facts) := by
  intro m g m' g' hpre hin
  refine ⟨fun c => val_main_v55 (m ((c : Thread nD τ).loc main_arg0)) (m ((c : Thread nD τ).loc main_arg1))
        (m ((c : Thread nD τ).loc main_arg2)) (m ((c : Thread nD τ).loc main_arg3)), ?_, ?_⟩
  · exact (θ_run _ _ _).mono (fun r h c => ⟨(h c).1.trans (final m c (hpre c)), (h c).2⟩) (Cert.AttnIdeal.Value.run_blocks m g)
  · refine (θ_run _ _ _).mono (fun r h c => ⟨(h c).1.trans ?_, (h c).2⟩) (Cert.AttnRefIdeal.Value.run m' g')
    refine (val_main_v55_eq m' c).trans ?_
    obtain ⟨e0, e1, e2, e3⟩ := hin c
    rw [e0, e1, e2, e3]

end Cert.Proof.Attn

end
-- ==== Proof.SampleValue.lean ====
/- The projection of the samples: what the kernel writes is the reference's result, element by element. -/
module

public import proofs.«01_k».proof.Proof.Gen.SampleIdeal.Value
public import proofs.«01_k».proof.Proof.Gen.SampleRefIdeal.Run
public import proofs.«01_k».proof.Proof.Gen.SampleRefIdeal.Read
public import proofs.«01_k».proof.Defs
public import proofs.«01_k».proof.Proof.ProjValue
public import Idealize.ShloMosaic.Lib.Pipeline.ValueKit

@[expose] public section

set_option maxRecDepth 16384

noncomputable section

namespace Cert.Proof.Sample

open Idealize.ShloMosaic Idealize.ShloMosaic.TcCoe Idealize.SL.Sem
open Idealize.ShloMosaic.Pipeline (Dat)
open Cert.Proof.Rows
open Cert.Proof.Proj (NW WI packed_apply passed_apply)
open Cert.SampleIdeal Cert.SampleIdeal.Gen Cert.SampleRefIdeal.Read

variable (m : (ℓ : Loc nD τ sig) → Buf (Elt Ideal) ℓ)

/-- Where the blocks stand: the 32 samples are one row block, and grid point `t` is column block `t`. -/
theorem places : ∀ t : Fin cfg0.N, win0_0.index t = ![0, 0] ∧ win0_1.index t = ![0, 0] ∧ win0_2.index t = ![0, t.val]
    ∧ win0_3.index t = ![0, t.val] :=
  (by decide +kernel : ∀ t : Fin grid0.N, _)

/-- The samples. -/
abbrev XS := (⟨S32x1x1024, .f32⟩ : BufTy).Contents (Elt Ideal)

/-- Element `j` of the projected sample `u`. -/
def outv (x : XS) (w : NW) (wi : WI) (u : Fin 32) (j : Fin 13312) : EReal :=
  projected (fun z => x (ix3 u 0 z)) (fun z => w (ix2 0 z)) (fun z => wi (ix3 0 z (src j)))

set_option maxHeartbeats 4000000 in
/-- The reference's result, read at an element. -/
theorem ref_apply (x : XS) (w : NW) (wi : WI) (u : Fin 32) (j : Fin 13312) : val_main_v19 x w wi (ix2 u j) = outv x w wi u j := by
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13, val_main_v14, val_main_v15, val_main_v16, val_main_v17, val_main_v18, val_main_v19]
  exact at_src (fun q => projected (fun z => x (ix3 u 0 z)) (fun z => w (ix2 0 z)) (fun z => wi (ix3 0 z q))) j

/-- The samples, which every point reads whole. -/
theorem tokens (c : Dev nD) (t : Fin cfg0.N) (u : Fin 32) (e : Fin 1024) :
    iblk m c 0 t (ix2 u e) = m ((c : Thread nD τ).loc main_arg0) (ix3 u 0 e) := by
  have hv : V m c main_v5 = shapeCast S32x1024 (m ((c : Thread nD τ).loc main_arg0) : XS) shapeCasts_S32x1x1024_S32x1024 := by
    show StableHlo.after hostOps0 _ _ = _
    after_results_simp
    rfl
  have hz : (win0_0.blk t).view.emb (ix2 u e) = ix2 u e := by blk_ext [places t]
  show V m c main_v5 ((win0_0.blk t).view.emb (ix2 u e)) = _
  rw [hv, hz]
  pointwise

/-- The weights of the normalization, which every point reads whole. -/
theorem gains (c : Dev nD) (t : Fin cfg0.N) (e : Fin 1024) :
    iblk m c 1 t (ix2 0 e) = m ((c : Thread nD τ).loc main_arg1) (ix2 0 e) := by
  have hv : V m c main_v7 = Proj.passed (m ((c : Thread nD τ).loc main_arg1)) := by
    show StableHlo.after hostOps0 _ _ = _
    after_results_simp
    rfl
  have hz : (win0_1.blk t).view.emb (ix2 0 e) = ix2 0 e := by blk_ext [places t]
  show V m c main_v7 ((win0_1.blk t).view.emb (ix2 0 e)) = _
  rw [hv, hz]
  exact passed_apply _ _

/-- The point's columns of the packed weights. -/
theorem weights (c : Dev nD) (t : Fin cfg0.N) (r e : Fin 1024) (j : Fin 13312) (hj : j.val = 1024 * t.val + e.val) :
    iblk m c 2 t (ix2 r e) = m ((c : Thread nD τ).loc main_arg2) (ix3 0 r (src j)) := by
  have hv : V m c main_v4 = Proj.packed (m ((c : Thread nD τ).loc main_arg2)) := by
    show StableHlo.after hostOps0 _ _ = _
    after_results_simp
    rfl
  have hz : (win0_2.blk t).view.emb (ix2 r e) = ix2 r j := by blk_ext [places t]
  show V m c main_v4 ((win0_2.blk t).view.emb (ix2 r e)) = _
  rw [hv, hz]
  exact packed_apply _ _ _

/-- The two payloads, one after the other. -/
theorem pay (x : Vec Ideal S32x1024 .f32) (w : Vec Ideal S1x1024 .f32) (v : Vec Ideal S1024x1024 .bf16) (r : Fin 32) (e : Fin 1024) :
    k0_pay2 (k0_pay1 x w) v (ix2 r e) = projected (fun z => x (ix2 r z)) (fun z => w (ix2 0 z)) (fun z => v (ix2 z e)) := by
  open_payloads
  pointwise
  rfl

/-- The scratch is filled at point 0 and kept after it, so every point stores both payloads' value. -/
theorem stored (c : Dev nD) (t : Fin cfg0.N) : (outsAt0 m c t.val t.isLt).1
    = k0_pay2 (k0_pay1 (iblk m c 0 ⟨13 * (t.val / 13), lt_of_le_of_lt (Nat.mul_div_le _ _) t.isLt⟩)
        (iblk m c 1 ⟨13 * (t.val / 13), lt_of_le_of_lt (Nat.mul_div_le _ _) t.isLt⟩)) (iblk m c 2 t) :=
  out_of_held (k := 13) (fun n h => (outsAt0 m c n h).2) (fun t => (outsAt0 m c t.val t.isLt).1)
    (fun t => k0_pay1 (iblk m c 0 t) (iblk m c 1 t)) (fun s t => k0_pay2 s (iblk m c 2 t))
    (fun t h => by rw [outsAt0_A m c t h]; funext y; frame_out)
    (fun t h => by rw [outsAt0_B m c t h]; rfl)
    (fun t h => by rw [outsAt0_A m c t h]; funext y; frame_out)
    (fun t h => by rw [outsAt0_B m c t h]; funext y; frame_out; rw [(Memref.isWhole_whole _).read_unread]) t

/-- The array the kernel leaves is the reference's result. -/
theorem final (c : Dev nD) : (dats m 0 c).arrAt 3 cfg0.N
    = val_main_v19 (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  have ht : t.val < 13 := lt_of_lt_of_eq t.isLt N_0
  have hj : 1024 * t.val + (y 1).val < 13312 := by
    have h1 : (y 1).val < 1024 := (y 1).isLt
    omega
  have hz : ((cfg0.win 3).blk t).view.emb y = ix2 (y 0) ⟨1024 * t.val + (y 1).val, hj⟩ := by blk_ext [places t]
  have hp := (congrFun (stored m c t) (ix2 (y 0) (y 1))).trans (pay _ _ _ (y 0) (y 1))
  rw [← eq_ix2 y] at hp
  refine hp.trans ((projected_congr (fun z => tokens m c _ _ z) (fun z => gains m c _ z)
    (fun z => weights m c t z _ ⟨_, hj⟩ rfl)).trans ((ref_apply _ _ _ (y 0) ⟨_, hj⟩).symm.trans (congrArg _ hz.symm)))

/-- Kernel and reference, launched on the same arguments, leave the same result and keep the arguments. -/
theorem algebraic : Cert.algebraic_SampleIdeal_SampleRefIdeal
    (hSampleIdeal := Cert.SampleIdeal.Gen.facts) (hSampleRefIdeal := Cert.SampleRefIdeal.Gen.facts) := by
  intro m g m' g' _ hin
  refine ⟨_, (θ_run _ _ _).mono (fun r h c => ⟨(h c).1.trans (final m c), (h c).2⟩) (Cert.SampleIdeal.Value.run_blocks m g),
    (θ_run _ _ _).mono (fun r h c => ⟨(h c).1.trans ?_, (h c).2⟩) (Cert.SampleRefIdeal.Value.run m' g')⟩
  obtain ⟨e0, e1, e2⟩ := hin c
  rw [← e0, ← e1, ← e2]
  exact val_main_v19_eq _ _ _

end Cert.Proof.Sample

end
-- ==== Proof.KvValue.lean ====
/- The keys, before their normalization, and the values of the memory tokens: what the kernel writes is the reference's result, element by element. -/
module

public import proofs.«01_k».proof.Proof.Gen.MemKVIdeal.Value
public import proofs.«01_k».proof.Proof.Gen.MemKVRefIdeal.Run
public import proofs.«01_k».proof.Proof.Gen.MemKVRefIdeal.Read
public import proofs.«01_k».proof.Defs
public import proofs.«01_k».proof.Proof.ProjValue
public import Idealize.ShloMosaic.Lib.Pipeline.ValueKit

@[expose] public section

set_option maxRecDepth 16384

noncomputable section

namespace Cert.Proof.KV

open Idealize.ShloMosaic Idealize.ShloMosaic.TcCoe Idealize.SL.Sem
open Idealize.ShloMosaic.Pipeline (Dat)
open Cert.Proof.Rows
open Cert.Proof.Proj (NW passed_apply)
open Cert.MemKVIdeal Cert.MemKVIdeal.Gen Cert.MemKVRefIdeal.Read

variable (m : (ℓ : Loc nD τ sig) → Buf (Elt Ideal) ℓ)

/-- Where the blocks stand: grid point `t` is row block `t / 2`, the tokens of one sequence, and column block `t % 2`, the keys or
    the values. -/
theorem places : ∀ t : Fin cfg0.N, win0_0.index t = ![t.val / 2, 0] ∧ win0_1.index t = ![0, 0] ∧ win0_2.index t = ![0, t.val % 2]
    ∧ win0_3.index t = ![t.val / 2, t.val % 2] :=
  (by decide +kernel : ∀ t : Fin grid0.N, _)

/-- The memory tokens. -/
abbrev XM := (⟨S4x256x1024, .f32⟩ : BufTy).Contents (Elt Ideal)
/-- The weights of the keys, and of the values. -/
abbrev WK := (⟨S1x1024x1024, .f32⟩ : BufTy).Contents (Elt Ideal)

/-- Column `j` of the keys' weights and, past them, of the values'. -/
def wcol (wk wv : WK) (j : Fin 2048) (z : Fin 1024) : EReal :=
  if h : j.val < 1024 then wk (ix3 0 z ⟨j.val, h⟩) else wv (ix3 0 z ⟨j.val - 1024, by omega⟩)

/-- Memory token `u`, in the list of all sequences' tokens. -/
def row (x : XM) (u : Fin 1024) (z : Fin 1024) : EReal := x (ix3 ⟨u.val / 256, by omega⟩ ⟨u.val % 256, by omega⟩ z)

/-- Element `j` of the keys and values of token `u`. -/
def outv (x : XM) (w : NW) (wk wv : WK) (u : Fin 1024) (j : Fin 2048) : EReal :=
  projected (row x u) (fun z => w (ix2 0 z)) (wcol wk wv j)

set_option maxHeartbeats 4000000 in
/-- The reference's result, read at an element. -/
theorem ref_apply (x : XM) (w : NW) (wk wv : WK) (u : Fin 1024) (j : Fin 2048) :
    val_main_v19 x w wk wv (ix2 u j) = outv x w wk wv u j := by
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13, val_main_v14, val_main_v15, val_main_v16, val_main_v17, val_main_v18, val_main_v19]
  unfold outv wcol
  split <;> rfl

/-- The memory tokens as one list, read at an element. -/
theorem list_apply (x : XM) (u e : Fin 1024) : shapeCast S1024x1024 x shapeCasts_S4x256x1024_S1024x1024 (ix2 u e) = row x u e := by
  unfold row
  pointwise

/-- The two weights side by side. -/
def beside (wk wv : WK) : (⟨S1024x2048, .bf16⟩ : BufTy).Contents (Elt Ideal) :=
  truncf (F := Ideal) .bf16 (concatenate S1024x2048 1 [⟨S1024x1024, shapeCast S1024x1024 wk shapeCasts_S1x1024x1024_S1024x1024⟩,
    ⟨S1024x1024, shapeCast S1024x1024 wv shapeCasts_S1x1024x1024_S1024x1024⟩] concatenates_S1024x1024_S1024x1024_S1024x2048_d1) bitsLt_bf16_f32

/-- The two weights side by side, read at an element. -/
theorem beside_apply (wk wv : WK) (r : Fin 1024) (j : Fin 2048) : beside wk wv (ix2 r j) = wcol wk wv j r := by
  unfold beside
  pointwise
  rfl

/-- The point's tokens. -/
theorem tokens (c : Dev nD) (t : Fin cfg0.N) (r : Fin 256) (e : Fin 1024) (u : Fin 1024) (hu : u.val = 256 * (t.val / 2) + r.val) :
    iblk m c 0 t (ix2 r e) = row (m ((c : Thread nD τ).loc main_arg0)) u e := by
  have hv : V m c main_v4 = shapeCast S1024x1024 (m ((c : Thread nD τ).loc main_arg0) : XM) shapeCasts_S4x256x1024_S1024x1024 := by
    show StableHlo.after hostOps0 _ _ = _
    after_results_simp
    rfl
  have hz : (win0_0.blk t).view.emb (ix2 r e) = ix2 u e := by blk_ext [places t]
  show V m c main_v4 ((win0_0.blk t).view.emb (ix2 r e)) = _
  rw [hv, hz]
  exact list_apply _ _ _

/-- The weights of the normalization, which every point reads whole. -/
theorem gains (c : Dev nD) (t : Fin cfg0.N) (e : Fin 1024) :
    iblk m c 1 t (ix2 0 e) = m ((c : Thread nD τ).loc main_arg1) (ix2 0 e) := by
  have hv : V m c main_v6 = Proj.passed (m ((c : Thread nD τ).loc main_arg1)) := by
    show StableHlo.after hostOps0 _ _ = _
    after_results_simp
    rfl
  have hz : (win0_1.blk t).view.emb (ix2 0 e) = ix2 0 e := by blk_ext [places t]
  show V m c main_v6 ((win0_1.blk t).view.emb (ix2 0 e)) = _
  rw [hv, hz]
  exact passed_apply _ _

/-- The point's columns of the two weights side by side. -/
theorem weights (c : Dev nD) (t : Fin cfg0.N) (r e : Fin 1024) (j : Fin 2048) (hj : j.val = 1024 * (t.val % 2) + e.val) :
    iblk m c 2 t (ix2 r e) = wcol (m ((c : Thread nD τ).loc main_arg2)) (m ((c : Thread nD τ).loc main_arg3)) j r := by
  have hv : V m c main_v3 = beside (m ((c : Thread nD τ).loc main_arg2)) (m ((c : Thread nD τ).loc main_arg3)) := by
    show StableHlo.after hostOps0 _ _ = _
    after_results_simp
    rfl
  have hz : (win0_2.blk t).view.emb (ix2 r e) = ix2 r j := by blk_ext [places t]
  show V m c main_v3 ((win0_2.blk t).view.emb (ix2 r e)) = _
  rw [hv, hz]
  exact beside_apply _ _ _ _

/-- The two payloads, one after the other. -/
theorem pay (x : Vec Ideal S256x1024 .f32) (w : Vec Ideal S1x1024 .f32) (v : Vec Ideal S1024x1024 .bf16) (r : Fin 256) (e : Fin 1024) :
    k0_pay2 (k0_pay1 x w) v (ix2 r e) = projected (fun z => x (ix2 r z)) (fun z => w (ix2 0 z)) (fun z => v (ix2 z e)) := by
  open_payloads
  pointwise
  rfl

/-- The scratch is filled at the keys' point and kept for the values', so both store both payloads' value. -/
theorem stored (c : Dev nD) (t : Fin cfg0.N) : (outsAt0 m c t.val t.isLt).1
    = k0_pay2 (k0_pay1 (iblk m c 0 ⟨2 * (t.val / 2), lt_of_le_of_lt (Nat.mul_div_le _ _) t.isLt⟩)
        (iblk m c 1 ⟨2 * (t.val / 2), lt_of_le_of_lt (Nat.mul_div_le _ _) t.isLt⟩)) (iblk m c 2 t) :=
  out_of_held (k := 2) (fun n h => (outsAt0 m c n h).2) (fun t => (outsAt0 m c t.val t.isLt).1)
    (fun t => k0_pay1 (iblk m c 0 t) (iblk m c 1 t)) (fun s t => k0_pay2 s (iblk m c 2 t))
    (fun t h => by rw [outsAt0_A m c t h]; funext y; frame_out)
    (fun t h => by rw [outsAt0_B m c t h]; rfl)
    (fun t h => by rw [outsAt0_A m c t h]; funext y; frame_out)
    (fun t h => by rw [outsAt0_B m c t h]; funext y; frame_out; rw [(Memref.isWhole_whole _).read_unread]) t

/-- The array the kernel leaves is the reference's result. -/
theorem final (c : Dev nD) : (dats m 0 c).arrAt 3 cfg0.N = val_main_v19 (m ((c : Thread nD τ).loc main_arg0))
    (m ((c : Thread nD τ).loc main_arg1)) (m ((c : Thread nD τ).loc main_arg2)) (m ((c : Thread nD τ).loc main_arg3)) := by
  refine (dats m 0 c).arrAt_eq_of_covers 3 _ (by decide +kernel) fun t hf y => ?_
  blk_simp
  rw [after0_3]
  have ht : t.val < 8 := lt_of_lt_of_eq t.isLt N_0
  have h0 : (y 0).val < 256 := (y 0).isLt
  have h1 : (y 1).val < 1024 := (y 1).isLt
  have hu : 256 * (t.val / 2) + (y 0).val < 1024 := by omega
  have hj : 1024 * (t.val % 2) + (y 1).val < 2048 := by omega
  have hz : ((cfg0.win 3).blk t).view.emb y = ix2 ⟨256 * (t.val / 2) + (y 0).val, hu⟩ ⟨1024 * (t.val % 2) + (y 1).val, hj⟩ := by
    blk_ext [places t]
  have hp := (congrFun (stored m c t) (ix2 (y 0) (y 1))).trans (pay _ _ _ (y 0) (y 1))
  rw [← eq_ix2 y] at hp
  refine hp.trans ((projected_congr (fun z => tokens m c _ _ z ⟨_, hu⟩ ?_) (fun z => gains m c _ z)
    (fun z => weights m c t z _ ⟨_, hj⟩ rfl)).trans ((ref_apply _ _ _ _ ⟨_, hu⟩ ⟨_, hj⟩).symm.trans (congrArg _ hz.symm)))
  show 256 * (t.val / 2) + (y 0).val = 256 * (2 * (t.val / 2) / 2) + (y 0).val
  omega

/-- Kernel and reference, launched on the same arguments, leave the same result and keep the arguments. -/
theorem algebraic : Cert.algebraic_MemKVIdeal_MemKVRefIdeal
    (hMemKVIdeal := Cert.MemKVIdeal.Gen.facts) (hMemKVRefIdeal := Cert.MemKVRefIdeal.Gen.facts) := by
  intro m g m' g' _ hin
  refine ⟨_, (θ_run _ _ _).mono (fun r h c => ⟨(h c).1.trans (final m c), (h c).2⟩) (Cert.MemKVIdeal.Value.run_blocks m g),
    (θ_run _ _ _).mono (fun r h c => ⟨(h c).1.trans ?_, (h c).2⟩) (Cert.MemKVRefIdeal.Value.run m' g')⟩
  obtain ⟨e0, e1, e2, e3⟩ := hin c
  rw [← e0, ← e1, ← e2, ← e3]
  exact val_main_v19_eq _ _ _ _

end Cert.Proof.KV

end
-- ==== Proof.KeysValue.lean ====
/- The keys of the memory tokens, normalized head by head: what the kernel writes is the reference's result, element by element. -/
module

public import proofs.«01_k».proof.Proof.Gen.MemKeysIdeal.Value
public import proofs.«01_k».proof.Proof.Gen.MemKeysRefIdeal.Run
public import proofs.«01_k».proof.Proof.Gen.MemKeysRefIdeal.Read
public import proofs.«01_k».proof.Defs
public import Idealize.ShloMosaic.Lib.Pipeline.ValueKit

@[expose] public section

set_option maxRecDepth 16384

noncomputable section

namespace Cert.Proof.Keys

open Idealize.ShloMosaic Idealize.ShloMosaic.TcCoe Idealize.SL.Sem
open Idealize.ShloMosaic.Pipeline (Dat)
open Cert.MemKeysIdeal Cert.MemKeysIdeal.Gen Cert.MemKeysRefIdeal.Read

variable (m : (ℓ : Loc nD τ sig) → Buf (Elt Ideal) ℓ)

/-- Where the blocks stand: grid point `t` is a block of 256 rows of the keys. -/
theorem places : ∀ t : Fin cfg0.N, win0_0.index t = ![t.val, 0] ∧ win0_1.index t = ![0, 0] ∧ win0_2.index t = ![t.val, 0] :=
  (by decide +kernel : ∀ t : Fin grid0.N, _)

/-- Keys and values side by side. -/
abbrev KV := (⟨S1024x2048, .f32⟩ : BufTy).Contents (Elt Ideal)
/-- The weights of the keys' normalization. -/
abbrev KW := (⟨S1x256, .f32⟩ : BufTy).Contents (Elt Ideal)

/-- Element `d` of the normalized key of token `r`, the head's columns beginning at `a`. -/
def kn (kv : KV) (w : KW) (r : Fin 1024) (a : ℕ) (ha : a + 256 ≤ 1024) (d : Fin 256) : EReal :=
  kv (ix2 r ⟨a + d.val, by omega⟩) * Ideal.rsqrt (Ideal.div
    (∑ z : Fin 256, kv (ix2 r ⟨a + z.val, by omega⟩) * kv (ix2 r ⟨a + z.val, by omega⟩))
    (Ideal.ofBits FTy.f32 1132462080#32) + Ideal.ofBits FTy.f32 897988541#32) * w (ix2 0 d)

set_option maxHeartbeats 4000000 in
/-- The reference's result, read at an element. -/
theorem ref_apply (kv : KV) (w : KW) (r : Fin 1024) (a : ℕ) (ha : a + 256 ≤ 1024) (h : ∃ n : Fin 4, a = n.val * 256) (d : Fin 256) :
    val_main_v16 kv w (ix2 r ⟨a + d.val, by omega⟩) = kn kv w r a ha d := by
  obtain ⟨n, rfl⟩ := h
  pointwise [val_main_v0, val_main_v1, val_main_v2, val_main_v3, val_main_cst, val_main_v4, val_main_v5, val_main_cst_0, val_main_v6, val_main_v7, val_main_cst_1, val_main_v8, val_main_v9, val_main_v10, val_main_v11, val_main_v12, val_main_v13, val_main_v14, val_main_v15, val_main_v16]
  unfold kn
  have e1 : (n.val * 256 + d.val) / 256 = n.val := by omega
  have e2 : (n.val * 256 + d.val) % 256 = d.val := by omega
  simp only [e1, e2]

/-- The block of keys, read in its array. -/
theorem blk_k (c : Dev nD) (t : Fin cfg0.N) (r : Fin 256) (e : Fin 1024) (u : Fin 1024) (hu : u.val = 256 * t.val + r.val) :
    iblk m c 0 t (ix2 r e) = m ((c : Thread nD τ).loc main_arg0) (ix2 u ⟨e.val, by omega⟩) := by
  blk_ext [iblk, V, places t]

/-- The normalization's weights. -/
theorem blk_w (c : Dev nD) (t : Fin cfg0.N) (e : Fin 256) :
    iblk m c 1 t (ix2 0 e) = m ((c : Thread nD τ).loc main_arg1) (ix2 0 e) := by
  unfold iblk
  blk_simp
  have hv : V m c main_v1 = (broadcastInDim S1x256 ![1] bcast_S256_S1x256_1
      (shapeCast S256 (m ((c : Thread nD τ).loc main_arg1) : KW) shapeCasts_S1x256_S256) : KW) := by
    entry_read
    rfl
  show V m c main_v1 _ = _
  rw [hv]
  pointwise
  blk_ext [places t]

/-- What a grid point stores at an element of its block is the reference at the element's place in the array. -/
theorem point (c : Dev nD) (t : Fin cfg0.N) (y : S256x1024.Idx) :
    out0_2 (iblk m c 0 t) (iblk m c 1 t) y
      = val_main_v16 (m ((c : Thread nD τ).loc main_arg0)) (m ((c : Thread nD τ).loc main_arg1)) (((cfg0.win 2).blk t).view.emb y) := by
  have hb : t.val < 4 := t.isLt
  unfold out0_2
  canon_tiles x h
  all_goals
    open_payloads
    pointwise
    have hu : 256 * t.val + (x 0).val < 1024 := by omega
    simp only [blk_k m c t _ _ ⟨256 * t.val + (x 0).val, hu⟩ rfl]
    rw [blk_w m c t (x 1)]
    generalize hz : ((cfg0.win 2).blk t).view.emb y = z
  case piece0 =>
    have e : z = ix2 ⟨256 * t.val + (x 0).val, hu⟩ ⟨768 + (x 1).val, by omega⟩ := by
      subst hz
      blk_ext [places t]
    rw [e, ref_apply _ _ _ 768 (by omega) ⟨3, rfl⟩ (x 1)]
    rfl
  case piece1 =>
    have e : z = ix2 ⟨256 * t.val + (x 0).val, hu⟩ ⟨512 + (x 1).val, by omega⟩ := by
      subst hz
      blk_ext [places t]
    rw [e, ref_apply _ _ _ 512 (by omega) ⟨2, rfl⟩ (x 1)]
    rfl
  case piece2 =>
    have e : z = ix2 ⟨256 * t.val + (x 0).val, hu⟩ ⟨256 + (x 1).val, by omega⟩ := by
      subst hz
      blk_ext [places t]
    rw [e, ref_apply _ _ _ 256 (by omega) ⟨1, rfl⟩ (x 1)]
    rfl
  case piece3 =>
    have e : z = ix2 ⟨256 * t.val + (x 0).val, hu⟩ ⟨0 + (x 1).val, by omega⟩ := by
      subst hz
      blk_ext [places t]
    rw [e, ref_apply _ _ _ 0 (by omega) ⟨0, rfl⟩ (x 1)]
    unfold kn
    simp only [Nat.zero_add]

/-- The array the kernel leaves is the reference's result. -/
theorem final (c : Dev nD) : (dats m 0 c).arrAt 2 cfg0.N
    = val_main_v16 (m ((c : Thread nD τ).loc main_arg0)) (m ((c : Thread nD τ).loc main_arg1)) := by
  refine (dats m 0 c).arrAt_eq_of_covers 2 _ (by decide +kernel) fun t hf y => ?_
  blk_simp
  rw [after0_2]
  exact point m c t y

/-- Kernel and reference, launched on the same arguments, leave the same result and keep the arguments. -/
theorem algebraic : Cert.algebraic_MemKeysIdeal_MemKeysRefIdeal
    (hMemKeysIdeal := Cert.MemKeysIdeal.Gen.facts) (hMemKeysRefIdeal := Cert.MemKeysRefIdeal.Gen.facts) := by
  intro m g m' g' _ hin
  refine ⟨fun c => val_main_v16 (m ((c : Thread nD τ).loc main_arg0)) (m ((c : Thread nD τ).loc main_arg1)), ?_, ?_⟩
  · exact (θ_run _ _ _).mono (fun r h c => ⟨(h c).1.trans (final m c), (h c).2⟩) (Cert.MemKeysIdeal.Value.run_blocks m g)
  · refine (θ_run _ _ _).mono (fun r h c => ⟨(h c).1.trans ?_, (h c).2⟩) (Cert.MemKeysRefIdeal.Value.run m' g')
    refine (val_main_v16_eq _ _).trans ?_
    obtain ⟨e0, e1⟩ := hin c
    rw [e0, e1]

end Cert.Proof.Keys

end
-- ==== Proof.lean ====
/- The certificate: for the programs Attn (the attention over chosen blocks), Proj (the projection of the inputs),
Memory (the attention over the memory), Merge (the mix of the branches, with its second result), Sample (the projection of the
samples), MemKV (the keys and values of the memory) and MemKeys (the normalization of those keys), the frames of the kernel, of its
idealization and of the reference, and that kernel and reference agree. The agreement is proved in `AttnValue`, `ProjValue`,
`MemoryValue`, `MergeValue`, `SampleValue`, `KvValue` and `KeysValue`; the frames of the references follow from their runs. -/
module

public import proofs.«01_k».proof.Defs
public import proofs.«01_k».proof.Proof.Gen.Attn
public import proofs.«01_k».proof.Proof.Gen.Attn.Skeleton
public import proofs.«01_k».proof.Proof.Gen.Attn.Loops
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.Memory
public import proofs.«01_k».proof.Proof.Gen.Memory.Skeleton
public import proofs.«01_k».proof.Proof.Gen.Memory.Launch
public import proofs.«01_k».proof.Proof.Gen.Memory.Points
public import proofs.«01_k».proof.Proof.Gen.Memory.Frame
public import proofs.«01_k».proof.Proof.Gen.MemoryIdeal
public import proofs.«01_k».proof.Proof.Gen.MemoryIdeal.Skeleton
public import proofs.«01_k».proof.Proof.Gen.MemoryIdeal.Launch
public import proofs.«01_k».proof.Proof.Gen.MemoryIdeal.Points
public import proofs.«01_k».proof.Proof.Gen.MemoryIdeal.Frame
public import proofs.«01_k».proof.Proof.Gen.MemoryRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.AttnIdeal.Value
public import proofs.«01_k».proof.Proof.Gen.ProjIdeal.Value
public import proofs.«01_k».proof.Proof.Gen.MemoryIdeal.Value
public import proofs.«01_k».proof.Proof.Gen.MergeIdeal.Value
public import proofs.«01_k».proof.Proof.Gen.AttnRefIdeal.Run
public import proofs.«01_k».proof.Proof.Gen.AttnRefIdeal.Read
public import proofs.«01_k».proof.Proof.Gen.ProjRefIdeal.Run
public import proofs.«01_k».proof.Proof.Gen.ProjRefIdeal.Read
public import proofs.«01_k».proof.Proof.Gen.MemoryRefIdeal.Run
public import proofs.«01_k».proof.Proof.Gen.MemoryRefIdeal.Read
public import proofs.«01_k».proof.Proof.Gen.MergeRefIdeal.Run
public import proofs.«01_k».proof.Proof.Gen.MergeRefIdeal.Read
public import Idealize.ShloMosaic.Adequacy
public import Idealize.ShloMosaic.Init
public import proofs.«01_k».proof.Proof.ProjValue
public import proofs.«01_k».proof.Proof.MemoryValue
public import proofs.«01_k».proof.Proof.MergeValue
public import proofs.«01_k».proof.Proof.AttnValue
public import Idealize.ShloMosaic.Lib.Quiescent
public import proofs.«01_k».proof.Proof.Gen.Sample.Frame
public import proofs.«01_k».proof.Proof.Gen.SampleIdeal.Frame
public import proofs.«01_k».proof.Proof.Gen.SampleIdeal.Value
public import proofs.«01_k».proof.Proof.Gen.SampleRefIdeal.Run
public import proofs.«01_k».proof.Proof.Gen.SampleRefIdeal.Read
public import proofs.«01_k».proof.Proof.Gen.MemKV.Frame
public import proofs.«01_k».proof.Proof.Gen.MemKVIdeal.Frame
public import proofs.«01_k».proof.Proof.Gen.MemKVIdeal.Value
public import proofs.«01_k».proof.Proof.Gen.MemKVRefIdeal.Run
public import proofs.«01_k».proof.Proof.Gen.MemKVRefIdeal.Read
public import proofs.«01_k».proof.Proof.Gen.MemKeys.Frame
public import proofs.«01_k».proof.Proof.Gen.MemKeysIdeal.Frame
public import proofs.«01_k».proof.Proof.Gen.MemKeysIdeal.Value
public import proofs.«01_k».proof.Proof.Gen.MemKeysRefIdeal.Run
public import proofs.«01_k».proof.Proof.Gen.MemKeysRefIdeal.Read
public import proofs.«01_k».proof.Proof.SampleValue
public import proofs.«01_k».proof.Proof.KvValue
public import proofs.«01_k».proof.Proof.KeysValue

@[expose] public section

noncomputable section

namespace Cert.Proof

open Idealize.ShloMosaic Idealize.SL.Sem

/-- The reference of Attn: every run ends, leaves the arguments as they were, and no counter is left over. -/
theorem frame_AttnRef : Cert.quiescent_AttnRefIdeal (hAttnRefIdeal := Cert.AttnRefIdeal.Gen.facts) := fun m ρ _ =>
  (θ_run (Cert.AttnRefIdeal.defs (F := Ideal)) (onTc (τ := Cert.AttnRefIdeal.τ) (Cert.AttnRefIdeal.main (F := Ideal))) ⟨m, fun _ => 0, ρ⟩).mono
    (fun r h => And.intro (fun c => (h c).2) (sem_eq_zero_of_no_sems (by decide) r.2))
    (Cert.AttnRefIdeal.Value.run m ρ)

/-- The reference of Proj: every run ends, leaves the arguments as they were, and no counter is left over. -/
theorem frame_ProjRef : Cert.quiescent_ProjRefIdeal (hProjRefIdeal := Cert.ProjRefIdeal.Gen.facts) := fun m ρ _ =>
  (θ_run (Cert.ProjRefIdeal.defs (F := Ideal)) (onTc (τ := Cert.ProjRefIdeal.τ) (Cert.ProjRefIdeal.main (F := Ideal))) ⟨m, fun _ => 0, ρ⟩).mono
    (fun r h => And.intro (fun c => (h c).2) (sem_eq_zero_of_no_sems (by decide) r.2))
    (Cert.ProjRefIdeal.Value.run m ρ)

/-- The reference of Memory: every run ends, leaves the arguments as they were, and no counter is left over. -/
theorem frame_MemoryRef : Cert.quiescent_MemoryRefIdeal (hMemoryRefIdeal := Cert.MemoryRefIdeal.Gen.facts) := fun m ρ _ =>
  (θ_run (Cert.MemoryRefIdeal.defs (F := Ideal)) (onTc (τ := Cert.MemoryRefIdeal.τ) (Cert.MemoryRefIdeal.main (F := Ideal))) ⟨m, fun _ => 0, ρ⟩).mono
    (fun r h => And.intro (fun c => (h c).2) (sem_eq_zero_of_no_sems (by decide) r.2))
    (Cert.MemoryRefIdeal.Value.run m ρ)

/-- The reference of Merge: every run ends, leaves the arguments as they were, and no counter is left over. -/
theorem frame_MergeRef : Cert.quiescent_MergeRefIdeal (hMergeRefIdeal := Cert.MergeRefIdeal.Gen.facts) := fun m ρ _ =>
  (θ_run (Cert.MergeRefIdeal.defs (F := Ideal)) (onTc (τ := Cert.MergeRefIdeal.τ) (Cert.MergeRefIdeal.main (F := Ideal))) ⟨m, fun _ => 0, ρ⟩).mono
    (fun r h => And.intro (fun c => (h c).2.2) (sem_eq_zero_of_no_sems (by decide) r.2))
    (Cert.MergeRefIdeal.Value.run m ρ)

/-- The reference of Sample: every run ends, leaves the arguments as they were, and no counter is left over. -/
theorem frame_SampleRef : Cert.quiescent_SampleRefIdeal (hSampleRefIdeal := Cert.SampleRefIdeal.Gen.facts) := fun m ρ _ =>
  (θ_run (Cert.SampleRefIdeal.defs (F := Ideal)) (onTc (τ := Cert.SampleRefIdeal.τ) (Cert.SampleRefIdeal.main (F := Ideal))) ⟨m, fun _ => 0, ρ⟩).mono
    (fun r h => And.intro (fun c => (h c).2) (sem_eq_zero_of_no_sems (by decide) r.2))
    (Cert.SampleRefIdeal.Value.run m ρ)

/-- The reference of MemKV: every run ends, leaves the arguments as they were, and no counter is left over. -/
theorem frame_MemKVRef : Cert.quiescent_MemKVRefIdeal (hMemKVRefIdeal := Cert.MemKVRefIdeal.Gen.facts) := fun m ρ _ =>
  (θ_run (Cert.MemKVRefIdeal.defs (F := Ideal)) (onTc (τ := Cert.MemKVRefIdeal.τ) (Cert.MemKVRefIdeal.main (F := Ideal))) ⟨m, fun _ => 0, ρ⟩).mono
    (fun r h => And.intro (fun c => (h c).2) (sem_eq_zero_of_no_sems (by decide) r.2))
    (Cert.MemKVRefIdeal.Value.run m ρ)

/-- The reference of MemKeys: every run ends, leaves the arguments as they were, and no counter is left over. -/
theorem frame_MemKeysRef : Cert.quiescent_MemKeysRefIdeal (hMemKeysRefIdeal := Cert.MemKeysRefIdeal.Gen.facts) := fun m ρ _ =>
  (θ_run (Cert.MemKeysRefIdeal.defs (F := Ideal)) (onTc (τ := Cert.MemKeysRefIdeal.τ) (Cert.MemKeysRefIdeal.main (F := Ideal))) ⟨m, fun _ => 0, ρ⟩).mono
    (fun r h => And.intro (fun c => (h c).2) (sem_eq_zero_of_no_sems (by decide) r.2))
    (Cert.MemKeysRefIdeal.Value.run m ρ)

/-- Every claim of the certificate. -/
theorem claim : Cert.Claim := ⟨Cert.Attn.Gen.facts, Cert.AttnIdeal.Gen.facts, Cert.AttnRefIdeal.Gen.facts, Cert.Proj.Gen.facts, Cert.ProjIdeal.Gen.facts, Cert.ProjRefIdeal.Gen.facts, Cert.Memory.Gen.facts, Cert.MemoryIdeal.Gen.facts, Cert.MemoryRefIdeal.Gen.facts, Cert.Merge.Gen.facts, Cert.MergeIdeal.Gen.facts, Cert.MergeRefIdeal.Gen.facts, Cert.Sample.Gen.facts, Cert.SampleIdeal.Gen.facts, Cert.SampleRefIdeal.Gen.facts, Cert.MemKV.Gen.facts, Cert.MemKVIdeal.Gen.facts, Cert.MemKVRefIdeal.Gen.facts, Cert.MemKeys.Gen.facts, Cert.MemKeysIdeal.Gen.facts, Cert.MemKeysRefIdeal.Gen.facts, Cert.Proof.AttnP.facts,
  fun m ρ _ => Cert.Attn.Gen.frame m ρ,
  fun m ρ _ => Cert.AttnIdeal.Gen.frame m ρ,
  fun m ρ _ => Cert.AttnIdeal.Gen.frame m ρ,
  frame_AttnRef,
  fun m ρ _ => frame_AttnRef m ρ trivial,
  fun m ρ _ => Cert.Proj.Gen.frame m ρ,
  fun m ρ _ => Cert.ProjIdeal.Gen.frame m ρ,
  frame_ProjRef,
  fun m ρ _ => Cert.Memory.Gen.frame m ρ,
  fun m ρ _ => Cert.MemoryIdeal.Gen.frame m ρ,
  frame_MemoryRef,
  fun m ρ _ => Cert.Merge.Gen.frame m ρ,
  fun m ρ _ => Cert.MergeIdeal.Gen.frame m ρ,
  frame_MergeRef,
  fun m ρ _ => Cert.Sample.Gen.frame m ρ,
  fun m ρ _ => Cert.SampleIdeal.Gen.frame m ρ,
  frame_SampleRef,
  fun m ρ _ => Cert.MemKV.Gen.frame m ρ,
  fun m ρ _ => Cert.MemKVIdeal.Gen.frame m ρ,
  frame_MemKVRef,
  fun m ρ _ => Cert.MemKeys.Gen.frame m ρ,
  fun m ρ _ => Cert.MemKeysIdeal.Gen.frame m ρ,
  frame_MemKeysRef,
  trivial,
  Cert.Proof.Attn.algebraic,
  trivial,
  Cert.Proof.Proj.algebraic,
  trivial,
  Cert.Proof.Mem.algebraic,
  trivial,
  Cert.Proof.Merge.algebraic,
  trivial,
  Cert.Proof.Sample.algebraic,
  trivial,
  Cert.Proof.KV.algebraic,
  trivial,
  Cert.Proof.Keys.algebraic⟩

end Cert.Proof
